-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "underflow" .f32 0x42DC0000#32 ⊤

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "mask" .f32 0xF149F2CA#32 ⊥
  ∧ IdealRules.named_const.Statement Cert.Kernel3Ideal.κ "underflow2" .f32 0xC3180000#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.bf16_pair.BufferStatement Cert.Kernel4Ideal.S16384x2x512 Cert.Kernel4Ideal.S16384x1x512
  ∧ IdealRules.bf16_pair.BufferStatement Cert.Kernel4Ideal.S512x2x512 Cert.Kernel4Ideal.S512x1x512
  ∧ IdealRules.bf16_pair.PackStatement Cert.Kernel4Ideal.S512x512
  ∧ IdealRules.bf16_pair.Statement Cert.Kernel4Ideal.S512x2x512 Cert.Kernel4Ideal.S512x1x512
  ∧ IdealRules.bf16_pair.Statement Cert.Kernel4Ideal.S1024x512 Cert.Kernel4Ideal.S512x512

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v25) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v100_0)) (v1 : (c : Dev Cert.Kernel5Ideal.nD) → Buf (Elt Ideal) ((c.tc : Thread Cert.Kernel5Ideal.nD Cert.Kernel5Ideal.τ).loc Cert.Kernel5Ideal.main_v100_2)) (v2 : (c : Dev Cert.Kernel5Ideal.nD) → Buf (Elt Ideal) ((c.tc : Thread Cert.Kernel5Ideal.nD Cert.Kernel5Ideal.τ).loc Cert.Kernel5Ideal.main_v100_3)) (v3 : (c : Dev Cert.Kernel5Ideal.nD) → Buf (Elt Ideal) ((c.tc : Thread Cert.Kernel5Ideal.nD Cert.Kernel5Ideal.τ).loc Cert.Kernel5Ideal.main_v100_4)) (v4 : (c : Dev Cert.Kernel5Ideal.nD) → Buf (Elt Ideal) ((c.tc : Thread Cert.Kernel5Ideal.nD Cert.Kernel5Ideal.τ).loc Cert.Kernel5Ideal.main_v100_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v100_0) = v0 c
          ∧ r.2.mem ((c.tc : Thread Cert.Kernel5Ideal.nD Cert.Kernel5Ideal.τ).loc Cert.Kernel5Ideal.main_v100_2) = v1 c
          ∧ r.2.mem ((c.tc : Thread Cert.Kernel5Ideal.nD Cert.Kernel5Ideal.τ).loc Cert.Kernel5Ideal.main_v100_3) = v2 c
          ∧ r.2.mem ((c.tc : Thread Cert.Kernel5Ideal.nD Cert.Kernel5Ideal.τ).loc Cert.Kernel5Ideal.main_v100_4) = v3 c
          ∧ r.2.mem ((c.tc : Thread Cert.Kernel5Ideal.nD Cert.Kernel5Ideal.τ).loc Cert.Kernel5Ideal.main_v100_5) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v43) = v1 c
          ∧ r.2.mem ((c.tc : Thread Cert.Reference5Ideal.nD Cert.Reference5Ideal.τ).loc Cert.Reference5Ideal.main_v44) = v2 c
          ∧ r.2.mem ((c.tc : Thread Cert.Reference5Ideal.nD Cert.Reference5Ideal.τ).loc Cert.Reference5Ideal.main_v45) = v3 c
          ∧ r.2.mem ((c.tc : Thread Cert.Reference5Ideal.nD Cert.Reference5Ideal.τ).loc Cert.Reference5Ideal.main_v46) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x512 : Shape := ⟨2, ![16384, 512]⟩
abbrev S16384x1024 : Shape := ⟨2, ![16384, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .bf16) (main_arg1 : FVec F S16384x512 .bf16) (main_arg2 : FVec F S16384x1024 .bf16) : IVec S_ 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .bf16 := Host.absf main_arg1
  let main_cst_0 : FVec F S_ .bf16 := constant S_ .bf16 0x7F80#16
  let main_v5 : FVec F S16384x512 .bf16 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Pre_finite3.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S16384x8 .f32) : IVec S_ 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .bf16 := Host.absf main_arg1
  let main_cst_0 : FVec F S_ .bf16 := constant S_ .bf16 0x7F80#16
  let main_v5 : FVec F S16384x512 .bf16 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_c_3 : IVec S_ 1 := constantI S_ 1 1#1
  let main_v12 : IVec S_ 1 := (fun x v => Host.reduce IntOp.andi x v reducesTo_S16384x8_S_d0_1 h_S_) main_v11 main_c_3
  let main_v13 : IVec S_ 1 := andi main_v8 main_v12
  main_v13
-- ==== Kernel.lean ====
abbrev S16384x1024 : Shape := ⟨2, ![16384, 1024]⟩
abbrev S16384x128 : Shape := ⟨2, ![16384, 128]⟩
abbrev S1024 : Shape := ⟨1, ![1024]⟩
abbrev S65792x512 : Shape := ⟨2, ![65792, 512]⟩
abbrev S1x1024 : Shape := ⟨2, ![1, 1024]⟩
abbrev S256x1024 : Shape := ⟨2, ![256, 1024]⟩
abbrev S256x128 : Shape := ⟨2, ![256, 128]⟩
abbrev S256x512 : Shape := ⟨2, ![256, 512]⟩
abbrev S256x1 : Shape := ⟨2, ![256, 1]⟩
abbrev S256 : Shape := ⟨1, ![256]⟩

abbrev nBuf : Space → Nat
  | .hbm => 6
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1024, .f32⟩
  | .hbm, ⟨3, _⟩ => ⟨S65792x512, .i32⟩
  | .hbm, ⟨4, _⟩ => ⟨S1x1024, .f32⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x1024, .f32⟩
  | .local _ .vmem, ⟨5, _⟩ => ⟨S256x512, .i32⟩
  | .local _ .vmem, ⟨6, _⟩ => ⟨S256x512, .i32⟩
  | .local _ .vmem, ⟨7, _⟩ => ⟨S256x512, .i32⟩
  | .local _ .vmem, ⟨8, _⟩ => ⟨S256x512, .i32⟩
  | .local _ .vmem, ⟨9, _⟩ => ⟨S256x512, .i32⟩
  | .local _ .vmem, ⟨10, _⟩ => ⟨S256x512, .i32⟩
  | .local _ .vmem, ⟨11, _⟩ => ⟨S256x512, .i32⟩
  | .local _ .vmem, ⟨12, _⟩ => ⟨S256x512, .i32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x1024 : Shape := ⟨2, ![16384, 1024]⟩
abbrev S16384x128 : Shape := ⟨2, ![16384, 128]⟩
abbrev S1024 : Shape := ⟨1, ![1024]⟩
abbrev S65792x512 : Shape := ⟨2, ![65792, 512]⟩
abbrev S65536x512 : Shape := ⟨2, ![65536, 512]⟩
abbrev S65536x512x2 : Shape := ⟨3, ![65536, 512, 2]⟩
abbrev S65536x512x1 : Shape := ⟨3, ![65536, 512, 1]⟩
abbrev S65536x1024 : Shape := ⟨2, ![65536, 1024]⟩
abbrev S4x16384x1024 : Shape := ⟨3, ![4, 16384, 1024]⟩
abbrev S16384x4 : Shape := ⟨2, ![16384, 4]⟩
abbrev S4x16384 : Shape := ⟨2, ![4, 16384]⟩
abbrev S4x16384x1 : Shape := ⟨3, ![4, 16384, 1]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1024, .f32⟩
  | .hbm, ⟨3, _⟩ => ⟨S65792x512, .i32⟩
  | .hbm, ⟨4, _⟩ => ⟨S65536x512, .i32⟩
  | .hbm, ⟨5, _⟩ => ⟨S65536x512x2, .bf16⟩
  | .hbm, ⟨6, _⟩ => ⟨S65536x512x2, .f32⟩
  | .hbm, ⟨7, _⟩ => ⟨S65536x512x1, .f32⟩
  | .hbm, ⟨8, _⟩ => ⟨S65536x512, .f32⟩
  | .hbm, ⟨9, _⟩ => ⟨S65536x512x1, .f32⟩
  | .hbm, ⟨10, _⟩ => ⟨S65536x512, .f32⟩
  | .hbm, ⟨11, _⟩ => ⟨S65536x1024, .f32⟩
  | .hbm, ⟨12, _⟩ => ⟨S4x16384x1024, .f32⟩
  | .hbm, ⟨13, _⟩ => ⟨S16384x4, .f32⟩
  | .hbm, ⟨14, _⟩ => ⟨S4x16384, .f32⟩
  | .hbm, ⟨15, _⟩ => ⟨S4x16384x1, .f32⟩
  | .hbm, ⟨16, _⟩ => ⟨S4x16384x1024, .f32⟩
  | .hbm, ⟨17, _⟩ => ⟨S4x16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel2.lean ====
abbrev S16384x512 : Shape := ⟨2, ![16384, 512]⟩
abbrev S16384x1024 : Shape := ⟨2, ![16384, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S8192x256 : Shape := ⟨2, ![8192, 256]⟩
abbrev S8192x512 : Shape := ⟨2, ![8192, 512]⟩
abbrev S512x128 : Shape := ⟨2, ![512, 128]⟩
abbrev S512x1 : Shape := ⟨2, ![512, 1]⟩
abbrev S256x128 : Shape := ⟨2, ![256, 128]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S256, .i32⟩
  | .hbm, ⟨4, _⟩ => ⟨S256x1, .i32⟩
  | .hbm, ⟨5, _⟩ => ⟨S256, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .bf16⟩
  | .hbm, ⟨11, _⟩ => ⟨S16384x512, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x512, .bf16⟩
  | .local _ .vmem, ⟨5, _⟩ => ⟨S8192x512, .bf16⟩
  | .local _ .vmem, ⟨6, _⟩ => ⟨S256x256, .bf16⟩
  | .local _ .vmem, ⟨7, _⟩ => ⟨S512x256, .f32⟩
  | .local _ .vmem, ⟨8, _⟩ => ⟨S512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

def k0_mult1 (i : grid0.Coords) : BitVec 32 :=
  let arg2 : BitVec 32 := BitVec.ofNat 32 (i 2).val
  let c512_i32 : BitVec 32 := 512#32
  let v32 : BitVec 32 := Scalar.muli arg2 c512_i32
  let c256_i32 : BitVec 32 := 256#32
  let v33 : BitVec 32 := Scalar.addi v32 c256_i32
  v33
def k0_off1 (i : grid0.Coords) (c256_i32 : BitVec 32) : Fin 2 → Nat :=
  let arg2 : BitVec 32 := BitVec.ofNat 32 (i 2).val
  let c512_i32 : BitVec 32 := 512#32
  let v32 : BitVec 32 := Scalar.muli arg2 c512_i32
  let v33 : BitVec 32 := Scalar.addi v32 c256_i32
  let v34 : BitVec 32 := v33
  let v35 : Index := Scalar.indexCast v34
  let c0_18 : Index := 0#32
  ![v35.toNat, 0]
def k0_off2 (i : grid0.Coords) (c256_i32 : BitVec 32) : Fin 2 → Nat :=
  let arg2 : BitVec 32 := BitVec.ofNat 32 (i 2).val
  let c512_i32 : BitVec 32 := 512#32
  let v32 : BitVec 32 := Scalar.muli arg2 c512_i32
  let v33 : BitVec 32 := Scalar.addi v32 c256_i32
  let v34 : BitVec 32 := v33
  let v37 : Index := Scalar.indexCast v34
  let c0_19 : Index := 0#32
  ![v37.toNat, 0]
def k0_off3 (i : grid0.Coords) (c256_i32 : BitVec 32) : Fin 2 → Nat :=
  let arg2 : BitVec 32 := BitVec.ofNat 32 (i 2).val
  let c512_i32 : BitVec 32 := 512#32
  let v32 : BitVec 32 := Scalar.muli arg2 c512_i32
  let v33 : BitVec 32 := Scalar.addi v32 c256_i32
  let v34 : BitVec 32 := v33
  let v80 : Index := Scalar.indexCast v34
  let c128_30 : Index := 128#32
  ![v80.toNat, 128]
def k0_off4 (i : grid0.Coords) (c256_i32 : BitVec 32) : Fin 2 → Nat :=
  let arg2 : BitVec 32 := BitVec.ofNat 32 (i 2).val
  let c512_i32 : BitVec 32 := 512#32
  let v32 : BitVec 32 := Scalar.muli arg2 c512_i32
  let v33 : BitVec 32 := Scalar.addi v32 c256_i32
  let v34 : BitVec 32 := v33
  let v121 : Index := Scalar.indexCast v34
  let c128_40 : Index := 128#32
  ![v121.toNat, 128]
def k0_off5 (i : grid0.Coords) (c256_i32 : BitVec 32) : Fin 2 → Nat :=
  let arg2 : BitVec 32 := BitVec.ofNat 32 (i 2).val
  let c512_i32 : BitVec 32 := 512#32
  let v32 : BitVec 32 := Scalar.muli arg2 c512_i32
  let v33 : BitVec 32 := Scalar.addi v32 c256_i32
  let v34 : BitVec 32 := v33
  let v123 : Index := Scalar.indexCast v34
  let c256 : Index := 256#32
  ![v123.toNat, 256]
def k0_off6 (i : grid0.Coords) (c256_i32 : BitVec 32) : Fin 2 → Nat :=
  let arg2 : BitVec 32 := BitVec.ofNat 32 (i 2).val
  let c512_i32 : BitVec 32 := 512#32
  let v32 : BitVec 32 := Scalar.muli arg2 c512_i32
  let v33 : BitVec 32 := Scalar.addi v32 c256_i32
  let v34 : BitVec 32 := v33
  let v166 : Index := Scalar.indexCast v34
  let c384 : Index := 384#32
  ![v166.toNat, 384]
def k0_mult2 (i : grid0.Coords) : BitVec 32 :=
  let arg2 : BitVec 32 := BitVec.ofNat 32 (i 2).val
  let c512_i32_60 : BitVec 32 := 512#32
  let v207 : BitVec 32 := Scalar.muli arg2 c512_i32_60
  let c0_i32 : BitVec 32 := 0#32
  let v208 : BitVec 32 := Scalar.addi v207 c0_i32
  v208
def k0_mult3 (i : grid0.Coords) (arg8 : BitVec 32) : BitVec 32 :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  v399

def k0_off7 (i : grid0.Coords) (arg8 : BitVec 32) : Fin 2 → Nat :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  let v400 : BitVec 32 := v399
  let v401 : Index := Scalar.indexCast v400
  let c0_118 : Index := 0#32
  ![v401.toNat, 0]
def k0_off8 (i : grid0.Coords) (arg8 : BitVec 32) : Fin 2 → Nat :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  let v400 : BitVec 32 := v399
  let v403 : Index := Scalar.indexCast v400
  let c0_119 : Index := 0#32
  ![v403.toNat, 0]
def k0_off9 (i : grid0.Coords) (arg8 : BitVec 32) : Fin 2 → Nat :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  let v400 : BitVec 32 := v399
  let v434 : Index := Scalar.indexCast v400
  let c128_128 : Index := 128#32
  ![v434.toNat, 128]
def k0_off10 (i : grid0.Coords) (arg8 : BitVec 32) : Fin 2 → Nat :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  let v400 : BitVec 32 := v399
  let v463 : Index := Scalar.indexCast v400
  let c128_136 : Index := 128#32
  ![v463.toNat, 128]
def k0_off11 (i : grid0.Coords) (arg8 : BitVec 32) : Fin 2 → Nat :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  let v400 : BitVec 32 := v399
  let v465 : Index := Scalar.indexCast v400
  let c256_137 : Index := 256#32
  ![v465.toNat, 256]
def k0_off12 (i : grid0.Coords) (arg8 : BitVec 32) : Fin 2 → Nat :=
  let arg2 : BitVec 32 := BitVec.ofNat 32 (i 2).val
  let c512_i32_116 : BitVec 32 := 512#32
  let v396 : BitVec 32 := Scalar.muli arg2 c512_i32_116
  let c1_i32 : BitVec 32 := 1#32
  let v397 : BitVec 32 := Scalar.addi arg8 c1_i32
  let c256_i32_117 : BitVec 32 := 256#32
  let v398 : BitVec 32 := Scalar.muli v397 c256_i32_117
  let v399 : BitVec 32 := Scalar.subi v396 v398
  let v400 : BitVec 32 := v399
  let v496 : Index := Scalar.indexCast v400
  let c384_146 : Index := 384#32
  ![v496.toNat, 384]

def k0_chk1 (i : grid0.Coords) (arg8 : BitVec 32) : Prop :=
  (256 ∣ (k0_mult3 i arg8).toNat) ∧
  (∀ a, (k0_off7 i arg8) a + S256x128.size a ≤ S8192x256.size a) ∧
  (∀ a, (k0_off8 i arg8) a + S256x128.size a ≤ S8192x512.size a) ∧
  (∀ a, (k0_off9 i arg8) a + S256x128.size a ≤ S8192x512.size a) ∧
  (∀ a, (k0_off10 i arg8) a + S256x128.size a ≤ S8192x256.size a) ∧
  (∀ a, (k0_off11 i arg8) a + S256x128.size a ≤ S8192x512.size a) ∧
  (∀ a, (k0_off12 i arg8) a + S256x128.size a ≤ S8192x512.size a)
theorem k0_mult3_dvd : ∀ (i : grid0.Coords) (arg8 : BitVec 32) (k0_hw1 : k0_chk1 i arg8), 256 ∣ (k0_mult3 i arg8).toNat := fun i arg8 k0_hw1 => k0_hw1.1
theorem k0_off7_inb : ∀ (i : grid0.Coords) (arg8 : BitVec 32) (k0_hw1 : k0_chk1 i arg8), ∀ a, (k0_off7 i arg8) a + S256x128.size a ≤ S8192x256.size a := fun i arg8 k0_hw1 => k0_hw1.2.1
theorem k0_off8_inb : ∀ (i : grid0.Coords) (arg8 : BitVec 32) (k0_hw1 : k0_chk1 i arg8), ∀ a, (k0_off8 i arg8) a + S256x128.size a ≤ S8192x512.size a := fun i arg8 k0_hw1 => k0_hw1.2.2.1
theorem k0_off9_inb : ∀ (i : grid0.Coords) (arg8 : BitVec 32) (k0_hw1 : k0_chk1 i arg8), ∀ a, (k0_off9 i arg8) a + S256x128.size a ≤ S8192x512.size a := fun i arg8 k0_hw1 => k0_hw1.2.2.2.1
theorem k0_off10_inb : ∀ (i : grid0.Coords) (arg8 : BitVec 32) (k0_hw1 : k0_chk1 i arg8), ∀ a, (k0_off10 i arg8) a + S256x128.size a ≤ S8192x256.size a := fun i arg8 k0_hw1 => k0_hw1.2.2.2.2.1
theorem k0_off11_inb : ∀ (i : grid0.Coords) (arg8 : BitVec 32) (k0_hw1 : k0_chk1 i arg8), ∀ a, (k0_off11 i arg8) a + S256x128.size a ≤ S8192x512.size a := fun i arg8 k0_hw1 => k0_hw1.2.2.2.2.2.1
theorem k0_off12_inb : ∀ (i : grid0.Coords) (arg8 : BitVec 32) (k0_hw1 : k0_chk1 i arg8), ∀ a, (k0_off12 i arg8) a + S256x128.size a ≤ S8192x512.size a := fun i arg8 k0_hw1 => k0_hw1.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel2Ideal.lean ====
variable {F : FTy → Type} [FloatOps F] [Named F]
def κ : String → Option EReal := fun
  | "underflow" => some ⊤
  | _ => none
-- ==== Reference2Ideal.lean ====
abbrev S16384x512 : Shape := ⟨2, ![16384, 512]⟩
abbrev S16384x1024 : Shape := ⟨2, ![16384, 1024]⟩
abbrev S2x8192x8x64 : Shape := ⟨4, ![2, 8192, 8, 64]⟩
abbrev S2x8192x8x128 : Shape := ⟨4, ![2, 8192, 8, 128]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x64x8192 : Shape := ⟨4, ![2, 8, 64, 8192]⟩

abbrev nBuf : Space → Nat
  | .hbm => 67
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S2x8192x8x64, .bf16⟩
  | .hbm, ⟨4, _⟩ => ⟨S2x8192x8x64, .bf16⟩
  | .hbm, ⟨5, _⟩ => ⟨S2x8192x8x128, .bf16⟩
  | .hbm, ⟨6, _⟩ => ⟨S2x8192x8x64, .bf16⟩
  | .hbm, ⟨7, _⟩ => ⟨S2x8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S2x8x8192x8192, .f32⟩
  | .hbm, ⟨15, _⟩ => ⟨S_, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S2x8x8192x8192, .f32⟩
  | .hbm, ⟨20, _⟩ => ⟨S2x8x8192x8192, .i1⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .i1⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S_, .f32⟩
  | .hbm, ⟨49, _⟩ => ⟨S2x8x8192x8192, .i1⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S_, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S_, .f32⟩
  | .hbm, ⟨59, _⟩ => ⟨S_, .f32⟩
  | .hbm, ⟨60, _⟩ => ⟨S2x8x8192x8192, .i1⟩
  | .hbm, ⟨61, _⟩ => ⟨S2x8x8192x8192, .f32⟩
  | .hbm, ⟨62, _⟩ => ⟨S2x8x8192x8192, .f32⟩
  | .hbm, ⟨63, _⟩ => ⟨S2x8x8192x8192, .bf16⟩
  | .hbm, ⟨64, _⟩ => ⟨S2x8x64x8192, .f32⟩
  | .hbm, ⟨65, _⟩ => ⟨S2x8192x8x64, .f32⟩
  | .hbm, ⟨66, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_call0_cst : Ref sig .tc := ⟨.hbm, 32, rfl⟩
abbrev main_call1_call0_v0 : Ref sig .tc := ⟨.hbm, 33, rfl⟩
abbrev main_call1_call0_v1 : Ref sig .tc := ⟨.hbm, 34, rfl⟩
abbrev main_call1_call0_v2 : Ref sig .tc := ⟨.hbm, 35, rfl⟩
abbrev main_call1_call0_v3 : Ref sig .tc := ⟨.hbm, 36, rfl⟩
abbrev main_call1_call0_v4 : Ref sig .tc := ⟨.hbm, 37, rfl⟩
abbrev main_call1_call0_v5 : Ref sig .tc := ⟨.hbm, 38, rfl⟩
abbrev main_call1_call0_v6 : Ref sig .tc := ⟨.hbm, 39, rfl⟩
abbrev main_call1_call0_v7 : Ref sig .tc := ⟨.hbm, 40, rfl⟩
abbrev main_call1_call0_v8 : Ref sig .tc := ⟨.hbm, 41, rfl⟩
abbrev main_call1_call0_v9 : Ref sig .tc := ⟨.hbm, 42, rfl⟩
abbrev main_call1_call0_v10 : Ref sig .tc := ⟨.hbm, 43, rfl⟩
abbrev main_call1_call0_v11 : Ref sig .tc := ⟨.hbm, 44, rfl⟩
abbrev main_call1_v1 : Ref sig .tc := ⟨.hbm, 45, rfl⟩
abbrev main_v13 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v14 : Ref sig .tc := ⟨.hbm, 51, rfl⟩
abbrev main_call3_cst : Ref sig .tc := ⟨.hbm, 52, rfl⟩
abbrev main_call3_v0 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_0 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩

abbrev nD : Nat := 1
abbrev τ : Topo := Topo.v7x

variable {F : FTy → Type} [FloatOps F]
-- ==== Kernel3.lean ====
abbrev S16384x512 : Shape := ⟨2, ![16384, 512]⟩
abbrev S16384x8 : Shape := ⟨2, ![16384, 8]⟩
abbrev S_ : Shape := ⟨0, ![]⟩
abbrev S16384x8x1 : Shape := ⟨3, ![16384, 8, 1]⟩
abbrev S16384x8x3 : Shape := ⟨3, ![16384, 8, 3]⟩
abbrev S16384x8x61 : Shape := ⟨3, ![16384, 8, 61]⟩
abbrev S16384x8x64 : Shape := ⟨3, ![16384, 8, 64]⟩
abbrev S16384x8x128 : Shape := ⟨3, ![16384, 8, 128]⟩
abbrev S16384x1024 : Shape := ⟨2, ![16384, 1024]⟩
abbrev S512x256 : Shape := ⟨2, ![512, 256]⟩
abbrev S8192x256 : Shape := ⟨2, ![8192, 256]⟩
abbrev S512x128 : Shape := ⟨2, ![512, 128]⟩
abbrev S8x128 : Shape := ⟨2, ![8, 128]⟩
abbrev S2x512x512 : Shape := ⟨3, ![2, 512, 512]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x128 : Shape := ⟨2, ![1, 128]⟩
abbrev S512x512 : Shape := ⟨2, ![512, 512]⟩
abbrev S1x512x1 : Shape := ⟨3, ![1, 512, 1]⟩
abbrev S1x1x1 : Shape := ⟨3, ![1, 1, 1]⟩
abbrev S1x512x512 : Shape := ⟨3, ![1, 512, 512]⟩

abbrev nBuf : Space → Nat
  | .hbm => 38
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x8, .f32⟩
  | .hbm, ⟨4, _⟩ => ⟨S_, .f32⟩
  | .hbm, ⟨5, _⟩ => ⟨S16384x8, .f32⟩
  | .hbm, ⟨6, _⟩ => ⟨S16384x8, .f32⟩
  | .hbm, ⟨7, _⟩ => ⟨S16384x8, .bf16⟩
  | .hbm, ⟨8, _⟩ => ⟨S16384x8, .f32⟩
  | .hbm, ⟨9, _⟩ => ⟨S16384x8, .f32⟩
  | .hbm, ⟨10, _⟩ => ⟨S16384x8, .bf16⟩
  | .hbm, ⟨11, _⟩ => ⟨S16384x8, .f32⟩
  | .hbm, ⟨12, _⟩ => ⟨S16384x8, .f32⟩
  | .hbm, ⟨13, _⟩ => ⟨S16384x8, .bf16⟩
  | .hbm, ⟨14, _⟩ => ⟨S16384x8, .f32⟩
  | .hbm, ⟨15, _⟩ => ⟨S16384x8, .f32⟩
  | .hbm, ⟨16, _⟩ => ⟨S16384x8x1, .bf16⟩
  | .hbm, ⟨17, _⟩ => ⟨S16384x8x1, .bf16⟩
  | .hbm, ⟨18, _⟩ => ⟨S16384x8x1, .bf16⟩
  | .hbm, ⟨19, _⟩ => ⟨S16384x8x3, .bf16⟩
  | .hbm, ⟨20, _⟩ => ⟨S_, .bf16⟩
  | .hbm, ⟨21, _⟩ => ⟨S16384x8x61, .bf16⟩
  | .hbm, ⟨22, _⟩ => ⟨S_, .bf16⟩
  | .hbm, ⟨23, _⟩ => ⟨S16384x8x3, .bf16⟩
  | .hbm, ⟨24, _⟩ => ⟨S16384x8x64, .bf16⟩
  | .hbm, ⟨25, _⟩ => ⟨S16384x8x64, .bf16⟩
  | .hbm, ⟨26, _⟩ => ⟨S16384x8x128, .bf16⟩
  | .hbm, ⟨27, _⟩ => ⟨S16384x1024, .bf16⟩
  | .hbm, ⟨28, _⟩ => ⟨S16384x8x64, .bf16⟩
  | .hbm, ⟨29, _⟩ => ⟨S16384x8x64, .bf16⟩
  | .hbm, ⟨30, _⟩ => ⟨S16384x8x128, .bf16⟩
  | .hbm, ⟨31, _⟩ => ⟨S16384x1024, .bf16⟩
  | .hbm, ⟨32, _⟩ => ⟨S_, .bf16⟩
  | .hbm, ⟨33, _⟩ => ⟨S16384x8x64, .bf16⟩
  | .hbm, ⟨34, _⟩ => ⟨S16384x8x64, .bf16⟩
  | .hbm, ⟨35, _⟩ => ⟨S16384x8x128, .bf16⟩
  | .hbm, ⟨36, _⟩ => ⟨S16384x1024, .bf16⟩
  | .hbm, ⟨37, _⟩ => ⟨S16384x512, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x128, .f32⟩
  | .local _ .vmem, ⟨7, _⟩ => ⟨S512x128, .f32⟩
  | .local _ .vmem, ⟨8, _⟩ => ⟨S8x128, .f32⟩
  | .local _ .vmem, ⟨9, _⟩ => ⟨S2x512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_60 : BitVec 32 := 0#32
  let c16_i32 : BitVec 32 := 16#32
  let v162 : BitVec 32 := Scalar.addi c0_i32_60 c16_i32
  let c1_i32_61 : BitVec 32 := 1#32
  ⟨c0_i32_60, v162, c1_i32_61⟩
def k0_mult1 (k0_t1 : Fin k0_t1_loop.trips) : BitVec 32 :=
  let c0_i32_60 : BitVec 32 := 0#32
  let c1_i32_61 : BitVec 32 := 1#32
  let arg9 : BitVec 32 := Scf.iv c0_i32_60 c1_i32_61 k0_t1
  let c512_i32_67 : BitVec 32 := 512#32
  let v176 : BitVec 32 := Scalar.muli arg9 c512_i32_67
  v176
def k0_off1 (k0_t1 : Fin k0_t1_loop.trips) : Fin 2 → Nat :=
  let c0_i32_60 : BitVec 32 := 0#32
  let c1_i32_61 : BitVec 32 := 1#32
  let arg9 : BitVec 32 := Scf.iv c0_i32_60 c1_i32_61 k0_t1
  let c512_i32_67 : BitVec 32 := 512#32
  let v176 : BitVec 32 := Scalar.muli arg9 c512_i32_67
  let v177 : BitVec 32 := v176
  let v178 : Index := Scalar.indexCast v177
  let c0_68 : Index := 0#32
  ![v178.toNat, 0]
def k0_off2 (k0_t1 : Fin k0_t1_loop.trips) : Fin 2 → Nat :=
  let c0_i32_60 : BitVec 32 := 0#32
  let c1_i32_61 : BitVec 32 := 1#32
  let arg9 : BitVec 32 := Scf.iv c0_i32_60 c1_i32_61 k0_t1
  let c512_i32_67 : BitVec 32 := 512#32
  let v176 : BitVec 32 := Scalar.muli arg9 c512_i32_67
  let v177 : BitVec 32 := v176
  let v193 : Index := Scalar.indexCast v177
  let c128_73 : Index := 128#32
  ![v193.toNat, 128]
def k0_mult2 (i : grid0.Coords) : BitVec 32 :=
  let arg2 : BitVec 32 := BitVec.ofNat 32 (i 2).val
  let c1_i32 : BitVec 32 := 1#32
  let v46 : BitVec 32 := Scalar.subi arg2 c1_i32
  let c0_i32_15 : BitVec 32 := 0#32
  let v47 : BitVec 32 := Scalar.maxsi v46 c0_i32_15
  let c512_i32 : BitVec 32 := 512#32
  let v48 : BitVec 32 := Scalar.muli v47 c512_i32
  v48
def k0_off3 (i : grid0.Coords) : Fin 2 → Nat :=
  let arg2 : BitVec 32 := BitVec.ofNat 32 (i 2).val
  let c1_i32 : BitVec 32 := 1#32
  let v46 : BitVec 32 := Scalar.subi arg2 c1_i32
  let c0_i32_15 : BitVec 32 := 0#32
  let v47 : BitVec 32 := Scalar.maxsi v46 c0_i32_15
  let c512_i32 : BitVec 32 := 512#32
  let v48 : BitVec 32 := Scalar.muli v47 c512_i32
  let v49 : BitVec 32 := v48
  let v50 : Index := Scalar.indexCast v49
  let c0_16 : Index := 0#32
  ![v50.toNat, 0]
def k0_mult3 (i : grid0.Coords) : BitVec 32 :=
  let arg2 : BitVec 32 := BitVec.ofNat 32 (i 2).val
  let c1_i32 : BitVec 32 := 1#32
  let v46 : BitVec 32 := Scalar.subi arg2 c1_i32
  let c0_i32_15 : BitVec 32 := 0#32
  let v47 : BitVec 32 := Scalar.maxsi v46 c0_i32_15
  let c512_i32_18 : BitVec 32 := 512#32
  let v54 : BitVec 32 := Scalar.muli v47 c512_i32_18
  v54
def k0_off4 (i : grid0.Coords) : Fin 2 → Nat :=
  let arg2 : BitVec 32 := BitVec.ofNat 32 (i 2).val
  let c1_i32 : BitVec 32 := 1#32
  let v46 : BitVec 32 := Scalar.subi arg2 c1_i32
  let c0_i32_15 : BitVec 32 := 0#32
  let v47 : BitVec 32 := Scalar.maxsi v46 c0_i32_15
  let c512_i32_18 : BitVec 32 := 512#32
  let v54 : BitVec 32 := Scalar.muli v47 c512_i32_18
  let v55 : BitVec 32 := v54
  let v56 : Index := Scalar.indexCast v55
  let c128_19 : Index := 128#32
  ![v56.toNat, 128]
def k0_mult4 (i : grid0.Coords) : BitVec 32 :=
  let arg2 : BitVec 32 := BitVec.ofNat 32 (i 2).val
  let c512_i32_21 : BitVec 32 := 512#32
  let v60 : BitVec 32 := Scalar.muli arg2 c512_i32_21
  v60
def k0_off5 (i : grid0.Coords) : Fin 2 → Nat :=
  let arg2 : BitVec 32 := BitVec.ofNat 32 (i 2).val
  let c512_i32_21 : BitVec 32 := 512#32
  let v60 : BitVec 32 := Scalar.muli arg2 c512_i32_21
  let v61 : BitVec 32 := v60
  let v62 : Index := Scalar.indexCast v61
  let c0_22 : Index := 0#32
  ![v62.toNat, 0]
def k0_mult5 (i : grid0.Coords) : BitVec 32 :=
  let arg2 : BitVec 32 := BitVec.ofNat 32 (i 2).val
  let c512_i32_25 : BitVec 32 := 512#32
  let v68 : BitVec 32 := Scalar.muli arg2 c512_i32_25
  v68
def k0_off6 (i : grid0.Coords) : Fin 2 → Nat :=
  let arg2 : BitVec 32 := BitVec.ofNat 32 (i 2).val
  let c512_i32_25 : BitVec 32 := 512#32
  let v68 : BitVec 32 := Scalar.muli arg2 c512_i32_25
  let v69 : BitVec 32 := v68
  let v70 : Index := Scalar.indexCast v69
  let c128_26 : Index := 128#32
  ![v70.toNat, 128]
def k0_mult6 (i : grid0.Coords) : BitVec 32 :=
  let arg2 : BitVec 32 := BitVec.ofNat 32 (i 2).val
  let c512_i32_29 : BitVec 32 := 512#32
  let v76 : BitVec 32 := Scalar.muli arg2 c512_i32_29
  v76
def k0_off7 (i : grid0.Coords) : Fin 2 → Nat :=
  let arg2 : BitVec 32 := BitVec.ofNat 32 (i 2).val
  let c512_i32_29 : BitVec 32 := 512#32
  let v76 : BitVec 32 := Scalar.muli arg2 c512_i32_29
  let v77 : BitVec 32 := v76
  let v94 : Index := Scalar.indexCast v77
  let c0_33 : Index := 0#32
  ![v94.toNat, 0]
def k0_off8 (i : grid0.Coords) : Fin 2 → Nat :=
  let arg2 : BitVec 32 := BitVec.ofNat 32 (i 2).val
  let c512_i32_29 : BitVec 32 := 512#32
  let v76 : BitVec 32 := Scalar.muli arg2 c512_i32_29
  let v77 : BitVec 32 := v76
  let v125 : Index := Scalar.indexCast v77
  let c128_40 : Index := 128#32
  ![v125.toNat, 128]
def k0_mult7 (i : grid0.Coords) (arg9 : BitVec 32) : BitVec 32 :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c1_i32_65 : BitVec 32 := 1#32
  let v166 : BitVec 32 := Scalar.subi v161 c1_i32_65
  let c0_i32_66 : BitVec 32 := 0#32
  let v167 : BitVec 32 := Scalar.maxsi v166 c0_i32_66
  let c512_i32_67 : BitVec 32 := 512#32
  let v168 : BitVec 32 := Scalar.muli v167 c512_i32_67
  v168

def k0_off9 (i : grid0.Coords) (arg9 : BitVec 32) : Fin 2 → Nat :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c1_i32_65 : BitVec 32 := 1#32
  let v166 : BitVec 32 := Scalar.subi v161 c1_i32_65
  let c0_i32_66 : BitVec 32 := 0#32
  let v167 : BitVec 32 := Scalar.maxsi v166 c0_i32_66
  let c512_i32_67 : BitVec 32 := 512#32
  let v168 : BitVec 32 := Scalar.muli v167 c512_i32_67
  let v169 : BitVec 32 := v168
  let v170 : Index := Scalar.indexCast v169
  let c0_68 : Index := 0#32
  ![v170.toNat, 0]
def k0_mult8 (i : grid0.Coords) (arg9 : BitVec 32) : BitVec 32 :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c1_i32_65 : BitVec 32 := 1#32
  let v166 : BitVec 32 := Scalar.subi v161 c1_i32_65
  let c0_i32_66 : BitVec 32 := 0#32
  let v167 : BitVec 32 := Scalar.maxsi v166 c0_i32_66
  let c512_i32_70 : BitVec 32 := 512#32
  let v174 : BitVec 32 := Scalar.muli v167 c512_i32_70
  v174
def k0_off10 (i : grid0.Coords) (arg9 : BitVec 32) : Fin 2 → Nat :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c1_i32_65 : BitVec 32 := 1#32
  let v166 : BitVec 32 := Scalar.subi v161 c1_i32_65
  let c0_i32_66 : BitVec 32 := 0#32
  let v167 : BitVec 32 := Scalar.maxsi v166 c0_i32_66
  let c512_i32_70 : BitVec 32 := 512#32
  let v174 : BitVec 32 := Scalar.muli v167 c512_i32_70
  let v175 : BitVec 32 := v174
  let v176 : Index := Scalar.indexCast v175
  let c128_71 : Index := 128#32
  ![v176.toNat, 128]
def k0_mult9 (i : grid0.Coords) (arg9 : BitVec 32) : BitVec 32 :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c512_i32_73 : BitVec 32 := 512#32
  let v180 : BitVec 32 := Scalar.muli v161 c512_i32_73
  v180
def k0_off11 (i : grid0.Coords) (arg9 : BitVec 32) : Fin 2 → Nat :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c512_i32_73 : BitVec 32 := 512#32
  let v180 : BitVec 32 := Scalar.muli v161 c512_i32_73
  let v181 : BitVec 32 := v180
  let v182 : Index := Scalar.indexCast v181
  let c0_74 : Index := 0#32
  ![v182.toNat, 0]
def k0_off12 (i : grid0.Coords) (arg9 : BitVec 32) : Fin 2 → Nat :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c512_i32_73 : BitVec 32 := 512#32
  let v180 : BitVec 32 := Scalar.muli v161 c512_i32_73
  let v181 : BitVec 32 := v180
  let v198 : Index := Scalar.indexCast v181
  let c0_77 : Index := 0#32
  ![v198.toNat, 0]
def k0_off13 (i : grid0.Coords) (arg9 : BitVec 32) : Fin 2 → Nat :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c512_i32_73 : BitVec 32 := 512#32
  let v180 : BitVec 32 := Scalar.muli v161 c512_i32_73
  let v181 : BitVec 32 := v180
  let v213 : Index := Scalar.indexCast v181
  let c128_81 : Index := 128#32
  ![v213.toNat, 128]
def k0_off14 (i : grid0.Coords) (arg9 : BitVec 32) : Fin 2 → Nat :=
  let arg2 : BitVec 32 := BitVec.ofNat 32 (i 2).val
  let c1_i32_58 : BitVec 32 := 1#32
  let v160 : BitVec 32 := Scalar.subi arg2 c1_i32_58
  let v161 : BitVec 32 := Scalar.subi v160 arg9
  let c512_i32_73 : BitVec 32 := 512#32
  let v180 : BitVec 32 := Scalar.muli v161 c512_i32_73
  let v181 : BitVec 32 := v180
  let v229 : Index := Scalar.indexCast v181
  let c128_84 : Index := 128#32
  ![v229.toNat, 128]

def k0_chk1 (i : grid0.Coords) (arg9 : BitVec 32) : Prop :=
  (512 ∣ (k0_mult7 i arg9).toNat) ∧
  (∀ a, (k0_off9 i arg9) a + S512x128.size a ≤ S8192x256.size a) ∧
  (512 ∣ (k0_mult8 i arg9).toNat) ∧
  (∀ a, (k0_off10 i arg9) a + S512x128.size a ≤ S8192x256.size a) ∧
  (512 ∣ (k0_mult9 i arg9).toNat) ∧
  (∀ a, (k0_off11 i arg9) a + S512x128.size a ≤ S8192x256.size a) ∧
  (∀ a, (k0_off12 i arg9) a + S1x128.size a ≤ S8192x256.size a) ∧
  (∀ a, (k0_off13 i arg9) a + S512x128.size a ≤ S8192x256.size a) ∧
  (∀ a, (k0_off14 i arg9) a + S1x128.size a ≤ S8192x256.size a)
theorem k0_mult7_dvd : ∀ (i : grid0.Coords) (arg9 : BitVec 32) (k0_hw1 : k0_chk1 i arg9), 512 ∣ (k0_mult7 i arg9).toNat := fun i arg9 k0_hw1 => k0_hw1.1
theorem k0_off9_inb : ∀ (i : grid0.Coords) (arg9 : BitVec 32) (k0_hw1 : k0_chk1 i arg9), ∀ a, (k0_off9 i arg9) a + S512x128.size a ≤ S8192x256.size a := fun i arg9 k0_hw1 => k0_hw1.2.1
theorem k0_mult8_dvd : ∀ (i : grid0.Coords) (arg9 : BitVec 32) (k0_hw1 : k0_chk1 i arg9), 512 ∣ (k0_mult8 i arg9).toNat := fun i arg9 k0_hw1 => k0_hw1.2.2.1
theorem k0_off10_inb : ∀ (i : grid0.Coords) (arg9 : BitVec 32) (k0_hw1 : k0_chk1 i arg9), ∀ a, (k0_off10 i arg9) a + S512x128.size a ≤ S8192x256.size a := fun i arg9 k0_hw1 => k0_hw1.2.2.2.1
theorem k0_mult9_dvd : ∀ (i : grid0.Coords) (arg9 : BitVec 32) (k0_hw1 : k0_chk1 i arg9), 512 ∣ (k0_mult9 i arg9).toNat := fun i arg9 k0_hw1 => k0_hw1.2.2.2.2.1
theorem k0_off11_inb : ∀ (i : grid0.Coords) (arg9 : BitVec 32) (k0_hw1 : k0_chk1 i arg9), ∀ a, (k0_off11 i arg9) a + S512x128.size a ≤ S8192x256.size a := fun i arg9 k0_hw1 => k0_hw1.2.2.2.2.2.1
theorem k0_off12_inb : ∀ (i : grid0.Coords) (arg9 : BitVec 32) (k0_hw1 : k0_chk1 i arg9), ∀ a, (k0_off12 i arg9) a + S1x128.size a ≤ S8192x256.size a := fun i arg9 k0_hw1 => k0_hw1.2.2.2.2.2.2.1
theorem k0_off13_inb : ∀ (i : grid0.Coords) (arg9 : BitVec 32) (k0_hw1 : k0_chk1 i arg9), ∀ a, (k0_off13 i arg9) a + S512x128.size a ≤ S8192x256.size a := fun i arg9 k0_hw1 => k0_hw1.2.2.2.2.2.2.2.1
theorem k0_off14_inb : ∀ (i : grid0.Coords) (arg9 : BitVec 32) (k0_hw1 : k0_chk1 i arg9), ∀ a, (k0_off14 i arg9) a + S1x128.size a ≤ S8192x256.size a := fun i arg9 k0_hw1 => k0_hw1.2.2.2.2.2.2.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel3Ideal.lean ====
variable {F : FTy → Type} [FloatOps F] [Named F]
def κ : String → Option EReal := fun
  | "mask" => some ⊥
  | "underflow2" => some ⊥
  | _ => none
-- ==== Reference3Ideal.lean ====
abbrev S16384x512 : Shape := ⟨2, ![16384, 512]⟩
abbrev S16384x8 : Shape := ⟨2, ![16384, 8]⟩
abbrev S2x8192x8x64 : Shape := ⟨4, ![2, 8192, 8, 64]⟩
abbrev S2x8192x8 : Shape := ⟨3, ![2, 8192, 8]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x8, .f32⟩
  | .hbm, ⟨4, _⟩ => ⟨S2x8192x8x64, .bf16⟩
  | .hbm, ⟨5, _⟩ => ⟨S2x8192x8x64, .bf16⟩
  | .hbm, ⟨6, _⟩ => ⟨S2x8192x8x64, .bf16⟩
  | .hbm, ⟨7, _⟩ => ⟨S2x8192x8, .f32⟩
  | .hbm, ⟨8, _⟩ => ⟨S2x8x8192x8192, .f32⟩
  | .hbm, ⟨9, _⟩ => ⟨S2x8x8192, .f32⟩
  | .hbm, ⟨10, _⟩ => ⟨S2x8x8192x1, .f32⟩
  | .hbm, ⟨11, _⟩ => ⟨S2x8x1x8192, .f32⟩
  | .hbm, ⟨12, _⟩ => ⟨S2x8x8192x8192, .f32⟩
  | .hbm, ⟨13, _⟩ => ⟨S2x8x8192x8192, .f32⟩
  | .hbm, ⟨14, _⟩ => ⟨S2x8x8192x8192, .f32⟩
  | .hbm, ⟨15, _⟩ => ⟨S_, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S2x8x8192x1, .f32⟩
  | .hbm, ⟨35, _⟩ => ⟨S2x8x8192x8192, .f32⟩
  | .hbm, ⟨36, _⟩ => ⟨S2x8x8192x8192, .f32⟩
  | .hbm, ⟨37, _⟩ => ⟨S2x8x8192x8192, .f32⟩
  | .hbm, ⟨38, _⟩ => ⟨S_, .f32⟩
  | .hbm, ⟨39, _⟩ => ⟨S2x8x8192, .f32⟩
  | .hbm, ⟨40, _⟩ => ⟨S2x8x8192x1, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .bf16⟩
  | .hbm, ⟨44, _⟩ => ⟨S2x8x64x8192, .f32⟩
  | .hbm, ⟨45, _⟩ => ⟨S2x8192x8x64, .f32⟩
  | .hbm, ⟨46, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x512 : Shape := ⟨2, ![1, 512]⟩
abbrev S1x1024 : Shape := ⟨2, ![1, 1024]⟩
abbrev S512x1 : Shape := ⟨2, ![512, 1]⟩
abbrev S512x512 : Shape := ⟨2, ![512, 512]⟩
abbrev S16384x128 : Shape := ⟨2, ![16384, 128]⟩
abbrev S8x128 : Shape := ⟨2, ![8, 128]⟩
abbrev S512x1024 : Shape := ⟨2, ![512, 1024]⟩
abbrev S512x128 : Shape := ⟨2, ![512, 128]⟩
abbrev S128 : Shape := ⟨1, ![128]⟩

abbrev nBuf : Space → Nat
  | .hbm => 43
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x512, .f32⟩
  | .hbm, ⟨23, _⟩ => ⟨S1x512, .f32⟩
  | .hbm, ⟨24, _⟩ => ⟨S1024x1024, .bf16⟩
  | .hbm, ⟨25, _⟩ => ⟨S1x1024, .f32⟩
  | .hbm, ⟨26, _⟩ => ⟨S512, .i32⟩
  | .hbm, ⟨27, _⟩ => ⟨S512x1, .i32⟩
  | .hbm, ⟨28, _⟩ => ⟨S512, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S1024x128, .bf16⟩
  | .hbm, ⟨35, _⟩ => ⟨S1024x128, .f32⟩
  | .hbm, ⟨36, _⟩ => ⟨S1024x128, .f32⟩
  | .hbm, ⟨37, _⟩ => ⟨S1024x128, .bf16⟩
  | .hbm, ⟨38, _⟩ => ⟨S16384x1024, .f32⟩
  | .hbm, ⟨39, _⟩ => ⟨S16384x512, .i32⟩
  | .hbm, ⟨40, _⟩ => ⟨S16384x128, .f32⟩
  | .hbm, ⟨41, _⟩ => ⟨S8x128, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x512, .i32⟩
  | .local _ .vmem, ⟨17, _⟩ => ⟨S512x512, .i32⟩
  | .local _ .vmem, ⟨18, _⟩ => ⟨S512x128, .f32⟩
  | .local _ .vmem, ⟨19, _⟩ => ⟨S512x128, .f32⟩
  | .local _ .vmem, ⟨20, _⟩ => ⟨S8x128, .f32⟩
  | .local _ .vmem, ⟨21, _⟩ => ⟨S8x128, .f32⟩
  | .local _ .vmem, ⟨22, _⟩ => ⟨S512x512, .i32⟩
  | .local _ .vmem, ⟨23, _⟩ => ⟨S512x512, .i32⟩
  | .local _ .vmem, ⟨24, _⟩ => ⟨S512x1024, .f32⟩
  | .local _ .vmem, ⟨25, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc1_sem0_0 : DmaSem sig := 21
abbrev cc1_sem0_1 : DmaSem sig := 22
abbrev cc1_sem1_0 : DmaSem sig := 23
abbrev cc1_sem1_1 : DmaSem sig := 24

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Kernel4Ideal.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x512 : Shape := ⟨2, ![1, 512]⟩
abbrev S1x1024 : Shape := ⟨2, ![1, 1024]⟩
abbrev S512x1 : Shape := ⟨2, ![512, 1]⟩
abbrev S512x512 : Shape := ⟨2, ![512, 512]⟩
abbrev S16384x2x512 : Shape := ⟨3, ![16384, 2, 512]⟩
abbrev S16384x128 : Shape := ⟨2, ![16384, 128]⟩
abbrev S8x128 : Shape := ⟨2, ![8, 128]⟩
abbrev S16384x1x512 : Shape := ⟨3, ![16384, 1, 512]⟩
abbrev S512x1024 : Shape := ⟨2, ![512, 1024]⟩
abbrev S512x2x512 : Shape := ⟨3, ![512, 2, 512]⟩
abbrev S512x1x512 : Shape := ⟨3, ![512, 1, 512]⟩
abbrev S512x128 : Shape := ⟨2, ![512, 128]⟩
abbrev S128 : Shape := ⟨1, ![128]⟩
abbrev S1024x512 : Shape := ⟨2, ![1024, 512]⟩

abbrev nBuf : Space → Nat
  | .hbm => 43
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S_, .f32⟩
  | .hbm, ⟨10, _⟩ => ⟨S1024x128, .f32⟩
  | .hbm, ⟨11, _⟩ => ⟨S_, .i32⟩
  | .hbm, ⟨12, _⟩ => ⟨S1, .i32⟩
  | .hbm, ⟨13, _⟩ => ⟨S1024x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S1x512, .f32⟩
  | .hbm, ⟨23, _⟩ => ⟨S1x512, .f32⟩
  | .hbm, ⟨24, _⟩ => ⟨S1024x1024, .bf16⟩
  | .hbm, ⟨25, _⟩ => ⟨S1x1024, .f32⟩
  | .hbm, ⟨26, _⟩ => ⟨S512, .i32⟩
  | .hbm, ⟨27, _⟩ => ⟨S512x1, .i32⟩
  | .hbm, ⟨28, _⟩ => ⟨S512, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .bf16⟩
  | .hbm, ⟨34, _⟩ => ⟨S1024x128, .bf16⟩
  | .hbm, ⟨35, _⟩ => ⟨S1024x128, .f32⟩
  | .hbm, ⟨36, _⟩ => ⟨S1024x128, .f32⟩
  | .hbm, ⟨37, _⟩ => ⟨S1024x128, .bf16⟩
  | .hbm, ⟨38, _⟩ => ⟨S16384x1024, .f32⟩
  | .hbm, ⟨39, _⟩ => ⟨S16384x2x512, .bf16⟩
  | .hbm, ⟨40, _⟩ => ⟨S16384x128, .f32⟩
  | .hbm, ⟨41, _⟩ => ⟨S8x128, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x2x512, .bf16⟩
  | .local _ .vmem, ⟨17, _⟩ => ⟨S512x2x512, .bf16⟩
  | .local _ .vmem, ⟨18, _⟩ => ⟨S512x128, .f32⟩
  | .local _ .vmem, ⟨19, _⟩ => ⟨S512x128, .f32⟩
  | .local _ .vmem, ⟨20, _⟩ => ⟨S8x128, .f32⟩
  | .local _ .vmem, ⟨21, _⟩ => ⟨S8x128, .f32⟩
  | .local _ .vmem, ⟨22, _⟩ => ⟨S512x2x512, .bf16⟩
  | .local _ .vmem, ⟨23, _⟩ => ⟨S512x2x512, .bf16⟩
  | .local _ .vmem, ⟨24, _⟩ => ⟨S512x1024, .f32⟩
  | .local _ .vmem, ⟨25, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc1_sem0_0 : DmaSem sig := 21
abbrev cc1_sem0_1 : DmaSem sig := 22
abbrev cc1_sem1_0 : DmaSem sig := 23
abbrev cc1_sem1_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Reference4Ideal.lean ====
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x512, .f32⟩
  | .hbm, ⟨37, _⟩ => ⟨S16384x512, .f32⟩
  | .hbm, ⟨38, _⟩ => ⟨S1x512, .f32⟩
  | .hbm, ⟨39, _⟩ => ⟨S16384x512, .f32⟩
  | .hbm, ⟨40, _⟩ => ⟨S16384x512, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .bf16⟩
  | .hbm, ⟨61, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3080 : Shape := ⟨2, ![1024, 3080]⟩
abbrev S8 : Shape := ⟨1, ![8]⟩
abbrev S1024x512 : Shape := ⟨2, ![1024, 512]⟩
abbrev S1024x8 : Shape := ⟨2, ![1024, 8]⟩
abbrev S_ : Shape := ⟨0, ![]⟩
abbrev S1024x8x64 : Shape := ⟨3, ![1024, 8, 64]⟩
abbrev S1024x8x128 : Shape := ⟨3, ![1024, 8, 128]⟩
abbrev S1024x1024 : Shape := ⟨2, ![1024, 1024]⟩
abbrev S1024x5120 : Shape := ⟨2, ![1024, 5120]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S128x1 : Shape := ⟨2, ![128, 1]⟩
abbrev S128x1024 : Shape := ⟨2, ![128, 1024]⟩
abbrev S1x128x1024 : Shape := ⟨3, ![1, 128, 1024]⟩
abbrev S3x128x1024 : Shape := ⟨3, ![3, 128, 1024]⟩
abbrev S16384x512 : Shape := ⟨2, ![16384, 512]⟩
abbrev S512x1024 : Shape := ⟨2, ![512, 1024]⟩
abbrev S8x128 : Shape := ⟨2, ![8, 128]⟩
abbrev S512x128 : Shape := ⟨2, ![512, 128]⟩

abbrev nBuf : Space → Nat
  | .hbm => 133
  | .vmem => 22
  | .smem => 0
  | _ => 0

abbrev hbmTy0_0 (i : Nat) : BufTy := match i % 128 with
  | 0 => ⟨S16384x1024, .f32⟩
  | 1 => ⟨S1024, .f32⟩
  | 2 => ⟨S1024x3080, .f32⟩
  | 3 => ⟨S8, .f32⟩
  | 4 => ⟨S1024x512, .f32⟩
  | 5 => ⟨S1024x512, .f32⟩
  | 6 => ⟨S1024x512, .f32⟩
  | 7 => ⟨S1024x8, .f32⟩
  | 8 => ⟨S1024x512, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S1024x8x64, .f32⟩
  | 15 => ⟨S_, .f32⟩
  | 16 => ⟨S1024x8x64, .f32⟩
  | 17 => ⟨S1024x8x128, .f32⟩
  | 18 => ⟨S1024x1024, .f32⟩
  | 19 => ⟨S1024x8x64, .f32⟩
  | 20 => ⟨S_, .f32⟩
  | 21 => ⟨S1024x8x64, .f32⟩
  | 22 => ⟨S1024x8x128, .f32⟩
  | 23 => ⟨S1024x1024, .f32⟩
  | 24 => ⟨S1024x8x64, .f32⟩
  | 25 => ⟨S_, .f32⟩
  | 26 => ⟨S1024x8x64, .f32⟩
  | 27 => ⟨S1024x8x128, .f32⟩
  | 28 => ⟨S1024x1024, .f32⟩
  | 29 => ⟨S_, .f32⟩
  | 30 => ⟨S1024x512, .f32⟩
  | 31 => ⟨S1024x512, .f32⟩
  | 32 => ⟨S1024x8x64, .f32⟩
  | 33 => ⟨S_, .f32⟩
  | 34 => ⟨S1024x8x64, .f32⟩
  | 35 => ⟨S1024x8x128, .f32⟩
  | 36 => ⟨S1024x1024, .f32⟩
  | 37 => ⟨S1024x5120, .f32⟩
  | 38 => ⟨S1024x5120, .bf16⟩
  | 39 => ⟨S_, .f32⟩
  | 40 => ⟨S1024x128, .f32⟩
  | 41 => ⟨S_, .i32⟩
  | 42 => ⟨S1, .i32⟩
  | 43 => ⟨S1024x128, .f32⟩
  | 44 => ⟨S_, .f32⟩
  | 45 => ⟨S1x128, .f32⟩
  | 46 => ⟨S_, .i32⟩
  | 47 => ⟨S1, .i32⟩
  | 48 => ⟨S_, .i32⟩
  | 49 => ⟨S1, .i32⟩
  | 50 => ⟨S2, .i32⟩
  | 51 => ⟨S1x128, .f32⟩
  | 52 => ⟨S1x1024, .f32⟩
  | 53 => ⟨S512, .i32⟩
  | 54 => ⟨S512x1, .i32⟩
  | 55 => ⟨S512, .i32⟩
  | 56 => ⟨S1x512, .i32⟩
  | 57 => ⟨S512x512, .i32⟩
  | 58 => ⟨S512x512, .i32⟩
  | 59 => ⟨S512x512, .i1⟩
  | 60 => ⟨S512x512, .bf16⟩
  | 61 => ⟨S1024x128, .bf16⟩
  | 62 => ⟨S1024x128, .f32⟩
  | 63 => ⟨S1024x128, .f32⟩
  | 64 => ⟨S1024x128, .bf16⟩
  | 65 => ⟨S128, .i32⟩
  | 66 => ⟨S128x1, .i32⟩
  | 67 => ⟨S1024, .i32⟩
  | 68 => ⟨S1x1024, .i32⟩
  | 69 => ⟨S_, .i32⟩
  | 70 => ⟨S128x1, .i32⟩
  | 71 => ⟨S128x1, .i32⟩
  | 72 => ⟨S_, .i32⟩
  | 73 => ⟨S128x1, .i32⟩
  | 74 => ⟨S128x1, .i32⟩
  | 75 => ⟨S_, .i32⟩
  | 76 => ⟨S128x1, .i32⟩
  | 77 => ⟨S128x1, .i32⟩
  | 78 => ⟨S128x1024, .i32⟩
  | 79 => ⟨S128x1024, .i32⟩
  | 80 => ⟨S128x1024, .i1⟩
  | 81 => ⟨S_, .i32⟩
  | 82 => ⟨S128x1, .i32⟩
  | 83 => ⟨S128x1, .i1⟩
  | 84 => ⟨S128x1024, .i1⟩
  | 85 => ⟨S128x1024, .i1⟩
  | 86 => ⟨S128x1024, .bf16⟩
  | 87 => ⟨S_, .i32⟩
  | 88 => ⟨S128x1, .i32⟩
  | 89 => ⟨S128x1, .i32⟩
  | 90 => ⟨S_, .i32⟩
  | 91 => ⟨S128x1, .i32⟩
  | 92 => ⟨S128x1, .i32⟩
  | 93 => ⟨S_, .i32⟩
  | 94 => ⟨S128x1, .i32⟩
  | 95 => ⟨S128x1, .i32⟩
  | 96 => ⟨S128x1024, .i32⟩
  | 97 => ⟨S128x1024, .i32⟩
  | 98 => ⟨S128x1024, .i1⟩
  | 99 => ⟨S_, .i32⟩
  | 100 => ⟨S128x1, .i32⟩
  | 101 => ⟨S128x1, .i1⟩
  | 102 => ⟨S128x1024, .i1⟩
  | 103 => ⟨S128x1024, .i1⟩
  | 104 => ⟨S128x1024, .bf16⟩
  | 105 => ⟨S_, .i32⟩
  | 106 => ⟨S128x1, .i32⟩
  | 107 => ⟨S128x1, .i32⟩
  | 108 => ⟨S_, .i32⟩
  | 109 => ⟨S128x1, .i32⟩
  | 110 => ⟨S128x1, .i32⟩
  | 111 => ⟨S_, .i32⟩
  | 112 => ⟨S128x1, .i32⟩
  | 113 => ⟨S128x1, .i32⟩
  | 114 => ⟨S128x1024, .i32⟩
  | 115 => ⟨S128x1024, .i32⟩
  | 116 => ⟨S128x1024, .i1⟩
  | 117 => ⟨S_, .i32⟩
  | 118 => ⟨S128x1, .i32⟩
  | 119 => ⟨S128x1, .i1⟩
  | 120 => ⟨S128x1024, .i1⟩
  | 121 => ⟨S128x1024, .i1⟩
  | 122 => ⟨S128x1024, .bf16⟩
  | 123 => ⟨S1x128x1024, .bf16⟩
  | 124 => ⟨S1x128x1024, .bf16⟩
  | 125 => ⟨S1x128x1024, .bf16⟩
  | 126 => ⟨S3x128x1024, .bf16⟩
  | 127 => ⟨S16384x1024, .bf16⟩
  | _ => ⟨S16384x1024, .f32⟩

abbrev hbmTy0_1 (i : Nat) : BufTy := match i % 128 with
  | 0 => ⟨S16384x1024, .bf16⟩
  | 1 => ⟨S16384x1024, .bf16⟩
  | 2 => ⟨S16384x512, .bf16⟩
  | 3 => ⟨S16384x512, .bf16⟩
  | 4 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S1024x128, .bf16⟩
  | .local _ .vmem, ⟨5, _⟩ => ⟨S1024x128, .bf16⟩
  | .local _ .vmem, ⟨6, _⟩ => ⟨S1x128, .f32⟩
  | .local _ .vmem, ⟨7, _⟩ => ⟨S512x512, .bf16⟩
  | .local _ .vmem, ⟨8, _⟩ => ⟨S3x128x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | .local _ .vmem, ⟨20, _⟩ => ⟨S512x1024, .bf16⟩
  | .local _ .vmem, ⟨21, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_9 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_13 : Ref sig .tc := ⟨.hbm, 87, rfl⟩
abbrev main_v68 : Ref sig .tc := ⟨.hbm, 88, rfl⟩
abbrev main_v69 : Ref sig .tc := ⟨.hbm, 89, rfl⟩
abbrev main_c_14 : Ref sig .tc := ⟨.hbm, 90, rfl⟩
abbrev main_v70 : Ref sig .tc := ⟨.hbm, 91, rfl⟩
abbrev main_v71 : Ref sig .tc := ⟨.hbm, 92, rfl⟩
abbrev main_c_15 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_16 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_17 : Ref sig .tc := ⟨.hbm, 105, rfl⟩
abbrev main_v82 : Ref sig .tc := ⟨.hbm, 106, rfl⟩
abbrev main_v83 : Ref sig .tc := ⟨.hbm, 107, rfl⟩
abbrev main_c_18 : Ref sig .tc := ⟨.hbm, 108, rfl⟩
abbrev main_v84 : Ref sig .tc := ⟨.hbm, 109, rfl⟩
abbrev main_v85 : Ref sig .tc := ⟨.hbm, 110, rfl⟩
abbrev main_c_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_20 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100_0 : Ref sig .tc := ⟨.hbm, 127, rfl⟩
abbrev main_v100_1 : Ref sig .tc := ⟨.hbm, 128, rfl⟩
abbrev main_v100_2 : Ref sig .tc := ⟨.hbm, 129, rfl⟩
abbrev main_v100_3 : Ref sig .tc := ⟨.hbm, 130, rfl⟩
abbrev main_v100_4 : Ref sig .tc := ⟨.hbm, 131, rfl⟩
abbrev main_v100_5 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S16384x1024 : Shape := ⟨2, ![16384, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3080 : Shape := ⟨2, ![16384, 3080]⟩
abbrev S16384x512 : Shape := ⟨2, ![16384, 512]⟩
abbrev S64 : Shape := ⟨1, ![64]⟩
abbrev S16384x8x64 : Shape := ⟨3, ![16384, 8, 64]⟩
abbrev S16384x8x128 : Shape := ⟨3, ![16384, 8, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3080, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x8x64, .f32⟩
  | .hbm, ⟨39, _⟩ => ⟨S16384x8x64, .f32⟩
  | .hbm, ⟨40, _⟩ => ⟨S16384x8x64, .f32⟩
  | .hbm, ⟨41, _⟩ => ⟨S16384x8x128, .f32⟩
  | .hbm, ⟨42, _⟩ => ⟨S16384x1024, .f32⟩
  | .hbm, ⟨43, _⟩ => ⟨S_, .f32⟩
  | .hbm, ⟨44, _⟩ => ⟨S64, .f32⟩
  | .hbm, ⟨45, _⟩ => ⟨S16384x8x64, .f32⟩
  | .hbm, ⟨46, _⟩ => ⟨S16384x8x64, .f32⟩
  | .hbm, ⟨47, _⟩ => ⟨S16384x8x128, .f32⟩
  | .hbm, ⟨48, _⟩ => ⟨S16384x1024, .f32⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S64, .f32⟩
  | .hbm, ⟨54, _⟩ => ⟨S16384x8x64, .f32⟩
  | .hbm, ⟨55, _⟩ => ⟨S16384x8x64, .f32⟩
  | .hbm, ⟨56, _⟩ => ⟨S16384x8x128, .f32⟩
  | .hbm, ⟨57, _⟩ => ⟨S16384x1024, .f32⟩
  | .hbm, ⟨58, _⟩ => ⟨S16384x1024, .bf16⟩
  | .hbm, ⟨59, _⟩ => ⟨S16384x1024, .bf16⟩
  | .hbm, ⟨60, _⟩ => ⟨S16384x512, .bf16⟩
  | .hbm, ⟨61, _⟩ => ⟨S16384x512, .bf16⟩
  | .hbm, ⟨62, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Out.Spec.lean ====
/-
  What the output projection computes, row by row, over the extended reals: the two attentions' rows, each RMS-normalised over its 512
  columns, side by side times the output weights and added to the row of activations; then that row RMS-normalised over its 1024
  columns. The kernel sums the product over the two halves of the 1024 rows of weights apart.
-/
module

public import Idealize.ShloMosaic.Lib.Pointwise

@[expose] public section

noncomputable section

open Idealize.ShloMosaic

namespace Cert.OutSpec

/-- The RMS normalisation of the row `v`, over the mean of its squares plus 1e-5, times the scale `g`; `w` is the row's length as
    a binary32 word. -/
def rms {n : ℕ} (w : BitVec 32) (v g : Fin n → EReal) (c : Fin n) : EReal :=
  v c * Ideal.rsqrt (Ideal.div (∑ k, v k * v k) (Ideal.ofBits .f32 w) + Ideal.ofBits .f32 0x3727C5AC#32) * g c

/-- Two rows of 512 side by side. -/
def joined (a b : Fin 512 → EReal) (k : Fin 1024) : EReal :=
  if h : k.val < 512 then a ⟨k.val, h⟩ else b ⟨k.val - 512, by have := k.isLt; omega⟩

/-- The row `x` plus the two rows side by side times the weights. -/
def updated (x : Fin 1024 → EReal) (a b : Fin 512 → EReal) (w : Fin 1024 → Fin 1024 → EReal) (c : Fin 1024) : EReal :=
  x c + ∑ k, joined a b k * w k c

/-- The same, the first row's products added before the second's. -/
theorem updated_halves (x : Fin 1024 → EReal) (a b : Fin 512 → EReal) (w : Fin 1024 → Fin 1024 → EReal) (c : Fin 1024) :
    updated x a b w c = x c + ∑ k : Fin 512, a k * w ⟨k.val, by have := k.isLt; omega⟩ c
      + ∑ k : Fin 512, b k * w ⟨512 + k.val, by have := k.isLt; omega⟩ c := by
  unfold updated
  rw [add_assoc]
  refine congrArg (x c + ·) ?_
  refine (Fin.sum_univ_add (a := 512) (b := 512) (fun k : Fin (512 + 512) => joined a b k * w k c)).trans ?_
  refine congrArg₂ (· + ·) (Finset.sum_congr rfl fun k _ => ?_) (Finset.sum_congr rfl fun k _ => ?_)
  · have h : (Fin.castAdd 512 k : Fin (512 + 512)).val < 512 := k.isLt
    rw [show joined a b (Fin.castAdd 512 k) = a k from by unfold joined; rw [dif_pos h]; rfl]
    rfl
  · have h : ¬ (Fin.natAdd 512 k : Fin (512 + 512)).val < 512 := by simp
    rw [show joined a b (Fin.natAdd 512 k) = b k from by unfold joined; rw [dif_neg h]; exact congrArg b (Fin.ext (by simp))]
    rfl

section Arrays

variable (x : (⟨2, ![16384, 1024]⟩ : Shape).Idx → EReal) (ya yb : (⟨2, ![16384, 512]⟩ : Shape).Idx → EReal)
  (ga gb : (⟨1, ![512]⟩ : Shape).Idx → EReal) (w : (⟨2, ![1024, 1024]⟩ : Shape).Idx → EReal) (g : (⟨1, ![1024]⟩ : Shape).Idx → EReal)

/-- Row `r` of the updated activations. -/
def row (r : Fin 16384) (c : Fin 1024) : EReal :=
  updated (fun c => x (ix2 r c)) (rms 0x44000000#32 (fun k => ya (ix2 r k)) (fun k => ga (ix1 k)))
    (rms 0x44000000#32 (fun k => yb (ix2 r k)) (fun k => gb (ix1 k))) (fun k c => w (ix2 k c)) c

/-- Row `r` of the updated activations, normalised. -/
def hrow (r : Fin 16384) (c : Fin 1024) : EReal := rms 0x44800000#32 (row x ya yb ga gb w r) (fun c => g (ix1 c)) c

/-- The array of updated activations. -/
def x2 : (⟨2, ![16384, 1024]⟩ : Shape).Idx → EReal := fun i => row x ya yb ga gb w (i 0) (i 1)

/-- The array of normalised activations. -/
def h2 : (⟨2, ![16384, 1024]⟩ : Shape).Idx → EReal := fun i => hrow x ya yb ga gb w g (i 0) (i 1)

end Arrays

end Cert.OutSpec

end
-- ==== Proof.Inp.Spec.lean ====
/-
  What the input projection computes, row by row, over the extended reals: the row of activations, RMS-normalised, times the
  input weights; five of its pieces of 512 columns, two of them scaled, three with 64 further lanes beside each head's 64.
-/
module

public import proofs.«01_k».proof.Proof.Out.Spec

@[expose] public section

noncomputable section

open Idealize.ShloMosaic

namespace Cert.InpSpec

open Cert.OutSpec

/-- Each head's 64 columns of `y` with the 64 numbers `e` beside them. -/
def beside (y : Fin 512 → EReal) (e : Fin 64 → EReal) (c : Fin 1024) : EReal :=
  if h : c.val % 128 < 64 then y ⟨c.val / 128 * 64 + c.val % 128, by have := c.isLt; omega⟩
  else e ⟨c.val % 128 - 64, by omega⟩

/-- Ones in the first three lanes. -/
def three (l : Fin 64) : EReal := if l.val < 3 then 1 else 0

/-- A row times the column of weights, the weights 0 where the lanes beside the heads are, plus what those lanes hold. -/
theorem sum_beside {n : ℕ} (h : Fin n → EReal) (w : Fin n → Fin 512 → EReal) (e : Fin 64 → EReal) (c : Fin 1024) :
    ∑ k, h k * beside (w k) (fun _ => 0) c + beside (fun _ => 0) e c = beside (fun j => ∑ k, h k * w k j) e c := by
  unfold beside
  by_cases hc : c.val % 128 < 64
  · simp only [dif_pos hc, add_zero]
  · simp only [dif_neg hc, mul_zero, Finset.sum_const_zero, zero_add]

/-- The same where the lanes hold 0. -/
theorem sum_beside_zero {n : ℕ} (h : Fin n → EReal) (w : Fin n → Fin 512 → EReal) (c : Fin 1024) :
    ∑ k, h k * beside (w k) (fun _ => 0) c = beside (fun j => ∑ k, h k * w k j) (fun _ => 0) c := by
  unfold beside
  by_cases hc : c.val % 128 < 64
  · simp only [dif_pos hc]
  · simp only [dif_neg hc, mul_zero, Finset.sum_const_zero]

/-- A positive real factor of the weights is one of the sum. -/
theorem sum_scaled {n : ℕ} (h w : Fin n → EReal) (s : ℝ) (hs : 0 ≤ s) : ∑ k, h k * (w k * (s : EReal)) = (∑ k, h k * w k) * (s : EReal) := by
  have key : ∀ S : Finset (Fin n), ∑ k ∈ S, h k * (w k * (s : EReal)) = (∑ k ∈ S, h k * w k) * (s : EReal) := by
    intro S
    induction S using Finset.induction_on with
    | empty => simp
    | insert a S ha ih =>
      rw [Finset.sum_insert ha, Finset.sum_insert ha, ih,
        EReal.right_distrib_of_nonneg_of_ne_top (by exact_mod_cast hs) (EReal.coe_ne_top s), mul_assoc]
  exact key Finset.univ

/-- The two scales of the queries, as real numbers. -/
theorem scale_a : ∃ s : ℝ, 0 ≤ s ∧ Ideal.ofBits .f32 0x3E38AA3B#32 = (s : EReal) := by
  refine ⟨12102203 / 67108864, by norm_num, ?_⟩
  simp [Ideal.ofBits, Ideal.ieee]
  rw [← EReal.coe_mul]
  norm_num

theorem scale_b : ∃ s : ℝ, 0 ≤ s ∧ Ideal.ofBits .f32 0x3E000000#32 = (s : EReal) := by
  refine ⟨1 / 8, by norm_num, ?_⟩
  simp [Ideal.ofBits, Ideal.ieee]
  rw [← EReal.coe_mul]
  norm_num

section Arrays

variable (x : (⟨2, ![16384, 1024]⟩ : Shape).Idx → EReal) (g : (⟨1, ![1024]⟩ : Shape).Idx → EReal)
  (w : (⟨2, ![1024, 3080]⟩ : Shape).Idx → EReal)

/-- Row `r` of the normalised activations times column `j` of the weights. -/
def proj (r : Fin 16384) (j : Fin 3080) : EReal :=
  ∑ k, rms 0x44800000#32 (fun k => x (ix2 r k)) (fun k => g (ix1 k)) k * w (ix2 k j)

/-- The 512 columns from column `o` on. -/
def cols (o : ℕ) (ho : o + 512 ≤ 3080) (r : Fin 16384) (j : Fin 512) : EReal :=
  proj x g w r ⟨o + j.val, by have := j.isLt; omega⟩

/-- The five results, at a row and a column. -/
def qA (r : Fin 16384) (c : Fin 1024) : EReal := beside (fun j => cols x g w 0 (by decide) r j * Ideal.ofBits .f32 0x3E38AA3B#32) three c
def vA (r : Fin 16384) (c : Fin 1024) : EReal := beside (cols x g w 1024 (by decide) r) (fun _ => 1) c
def qB (r : Fin 16384) (j : Fin 512) : EReal := cols x g w 1544 (by decide) r j * Ideal.ofBits .f32 0x3E000000#32
def kB (r : Fin 16384) (j : Fin 512) : EReal := cols x g w 2056 (by decide) r j
def vB (r : Fin 16384) (c : Fin 1024) : EReal := beside (cols x g w 2568 (by decide) r) (fun _ => 0) c

end Arrays

/-- A function of a row and a column as an array. -/
def arr {n : ℕ} (f : Fin 16384 → Fin n → EReal) : (⟨2, ![16384, n]⟩ : Shape).Idx → EReal := fun i => f (i 0) (i 1)

end Cert.InpSpec

end
-- ==== Proof.Inp.Block.lean ====
/-
  What one point of the input projection's grid stores, at an index of its block.
-/
module

public import proofs.«01_k».proof.Proof.Gen.Kernel5Ideal.Skeleton
public import proofs.«01_k».proof.Proof.Inp.Spec
public import Idealize.ShloMosaic.Lib.WordCmp

@[expose] public section

set_option maxRecDepth 16384

noncomputable section

namespace Cert.Kernel5Ideal.Inp

open Cert.Kernel5Ideal Cert.Kernel5Ideal.Gen Cert.OutSpec Cert.InpSpec
open Idealize.ShloMosaic Idealize.ShloMosaic.TcCoe

theorem norm_apply (x : Vec Ideal S512x1024 .f32) (g : Vec Ideal S1x1024 .f32) (r : Fin 512) (c : Fin 1024) :
    k0_pay7 x g (ix2 r c) = rms 0x44800000#32 (fun c => x (ix2 r c)) (fun c => g (ix2 0 c)) c := by
  pointwise [k0_pay7, k0_pay6]
  rfl

section Products

variable (h : FVec Ideal S512x1024 .bf16) (w : Vec Ideal S1024x1024 .bf16) (u : Vec Ideal S1024x512 .bf16)

theorem qb_apply (r j : Fin 512) : k0_pay2 h u (ix2 r j) = ∑ k : Fin 1024, h (ix2 r k) * u (ix2 k j) := by
  pointwise [k0_pay2]

theorem kb_apply (r j : Fin 512) : k0_pay3 h u (ix2 r j) = ∑ k : Fin 1024, h (ix2 r k) * u (ix2 k j) := by
  pointwise [k0_pay3]

theorem vb_apply (r : Fin 512) (c : Fin 1024) : k0_pay4 h w (ix2 r c) = ∑ k : Fin 1024, h (ix2 r k) * w (ix2 k c) := by
  pointwise [k0_pay4]

/-- The column's lane among its head's 128, as the kernel computes it. -/
theorem lane_apply (c : Fin 1024) : k0_pay17 128#32 k0_pay14 k0_pay15 k0_pay16 0#32 (ix2 0 c) = BitVec.ofNat 32 (c.val % 128) := by
  have key : ∀ c : Fin 1024, k0_pay17 128#32 k0_pay14 k0_pay15 k0_pay16 0#32 (ix2 0 c) = BitVec.ofNat 32 (c.val % 128) := by
    decide +kernel
  exact key c

theorem lanes_one (c : Fin 1024) :
    Scalar.select (IntOp.cmpi CmpIPredicate.sge (BitVec.ofNat 32 (c.val % 128)) 64#32) (1 : EReal) 0 = beside (fun _ => 0) (fun _ => 1) c := by
  have key : ∀ l : Fin 128, IntOp.cmpi CmpIPredicate.sge (BitVec.ofNat 32 l.val) 64#32 = if l.val < 64 then 0#1 else 1#1 := by decide
  have := key ⟨c.val % 128, Nat.mod_lt _ (by decide)⟩
  simp only at this
  rw [this]
  unfold beside
  split <;> rfl

theorem lanes_three (c : Fin 1024) :
    Scalar.select (IntOp.andi (IntOp.cmpi CmpIPredicate.sge (BitVec.ofNat 32 (c.val % 128)) 64#32)
      (IntOp.cmpi CmpIPredicate.slt (BitVec.ofNat 32 (c.val % 128)) 67#32)) (1 : EReal) 0 = beside (fun _ => 0) three c := by
  have key : ∀ l : Fin 128, IntOp.andi (IntOp.cmpi CmpIPredicate.sge (BitVec.ofNat 32 l.val) 64#32)
      (IntOp.cmpi CmpIPredicate.slt (BitVec.ofNat 32 l.val) 67#32) = if l.val < 64 then 0#1 else if l.val - 64 < 3 then 1#1 else 0#1 := by decide
  have := key ⟨c.val % 128, Nat.mod_lt _ (by decide)⟩
  simp only at this
  rw [this]
  unfold beside three
  split
  · rfl
  · dsimp only
    split <;> rfl

theorem va_apply (r : Fin 512) (c : Fin 1024) :
    k0_pay1 (k0_pay20 h w) (k0_pay21 (F := Ideal) 128#32 k0_pay14 k0_pay15 k0_pay16 0#32) (ix2 r c)
      = ∑ k : Fin 1024, h (ix2 r k) * w (ix2 k c) + beside (fun _ => 0) (fun _ => 1) c := by
  pointwise [k0_pay1, k0_pay20, k0_pay21]
  simp only [lane_apply, lanes_one]

theorem qa_apply (r : Fin 512) (c : Fin 1024) :
    k0_pay18 h 128#32 k0_pay14 k0_pay15 k0_pay16 0#32 w (ix2 r c)
      = ∑ k : Fin 1024, h (ix2 r k) * w (ix2 k c) + beside (fun _ => 0) three c := by
  pointwise [k0_pay18]
  simp only [lane_apply, lanes_three]

end Products

end Cert.Kernel5Ideal.Inp

end
-- ==== Proof.Inp.Weights.lean ====
/-
  The input weights as the kernel's host code lays them out, at an index.
-/
module

public import proofs.«01_k».proof.Proof.Gen.Kernel5Ideal.Launch
public import proofs.«01_k».proof.Proof.Inp.Spec
public import Idealize.ShloMosaic.Lib.Pipeline.ValueKit

@[expose] public section

set_option maxRecDepth 16384

noncomputable section

namespace Cert.Kernel5Ideal.Inp

open Cert.Kernel5Ideal Cert.Kernel5Ideal.Gen Cert.OutSpec Cert.InpSpec
open Idealize.ShloMosaic Idealize.ShloMosaic.TcCoe

variable (m : (ℓ : Loc nD τ sig) → Buf (Elt Ideal) ℓ) (d : Dev nD)

theorem gain (k : Fin 1024) : StableHlo.after hostOps0 (fun b => m (d, b)) main_v37 (ix2 0 k) = m ((d : Thread nD τ).loc main_arg1) (ix1 k) := by
  entry_read; pointwise

/-- The input weights of device `d`. -/
abbrev arg : FVec Ideal S1024x3080 .f32 := m ((d : Thread nD τ).loc main_arg2)

/-- Six pieces side by side. -/
def side (a b c : FVec Ideal S1024x1024 .f32) (e f : FVec Ideal S1024x512 .f32) (g : FVec Ideal S1024x1024 .f32) : FVec Ideal S1024x5120 .bf16 :=
  truncf .bf16 (concatenate S1024x5120 1 [⟨S1024x1024, a⟩, ⟨S1024x1024, b⟩, ⟨S1024x1024, c⟩, ⟨S1024x512, e⟩, ⟨S1024x512, f⟩, ⟨S1024x1024, g⟩] concatenates_S1024x1024_S1024x1024_S1024x1024_S1024x512_S1024x512_S1024x1024_S1024x5120_d1) bitsLt_bf16_f32

section Side

variable (a b c : FVec Ideal S1024x1024 .f32) (e f : FVec Ideal S1024x512 .f32) (g : FVec Ideal S1024x1024 .f32) (k : Fin 1024)

theorem side_a (j : Fin 1024) : side a b c e f g (ix2 k ⟨j.val, by have := j.isLt; omega⟩) = a (ix2 k j) := by
  have hj := j.isLt
  pointwise [side]

theorem side_c (j : Fin 1024) : side a b c e f g (ix2 k ⟨2048 + j.val, by have := j.isLt; omega⟩) = c (ix2 k j) := by
  have hj := j.isLt
  pointwise [side]
  rw [dif_neg (by omega), dif_neg (by omega), dif_pos (by omega)]
  exact congrArg c (congrArg (ix2 k) (Fin.ext (by dsimp only; omega)))

theorem side_e (j : Fin 512) : side a b c e f g (ix2 k ⟨3072 + j.val, by have := j.isLt; omega⟩) = e (ix2 k j) := by
  have hj := j.isLt
  pointwise [side]
  rw [dif_neg (by omega), dif_neg (by omega), dif_neg (by omega), dif_pos (by omega)]
  exact congrArg e (congrArg (ix2 k) (Fin.ext (by dsimp only; omega)))

theorem side_f (j : Fin 512) : side a b c e f g (ix2 k ⟨3584 + j.val, by have := j.isLt; omega⟩) = f (ix2 k j) := by
  have hj := j.isLt
  pointwise [side]
  rw [dif_neg (by omega), dif_neg (by omega), dif_neg (by omega), dif_neg (by omega), dif_pos (by omega)]
  exact congrArg f (congrArg (ix2 k) (Fin.ext (by dsimp only; omega)))

theorem side_g (j : Fin 1024) : side a b c e f g (ix2 k ⟨4096 + j.val, by have := j.isLt; omega⟩) = g (ix2 k j) := by
  have hj := j.isLt
  pointwise [side]
  rw [dif_neg (by omega), dif_neg (by omega), dif_neg (by omega), dif_neg (by omega), dif_neg (by omega)]
  exact congrArg g (congrArg (ix2 k) (Fin.ext (by dsimp only; omega)))

end Side

/-- The six pieces of the weights side by side, out of what the operations before have left. -/
theorem join (σ : Valuation τ sig (Elt Ideal)) :
    StableHlo.after (hostOps0.drop 33) σ main_v28 = side (σ main_v12) (σ main_v16) (σ main_v20) (σ main_v22) (σ main_v5) (σ main_v26) := by
  dsimp only [hostOps0, List.drop]
  after_results_simp
  rfl

/-- The operations after the join leave the pieces. -/
theorem kept (σ : Valuation τ sig (Elt Ideal)) :
    StableHlo.after (hostOps0.drop 33) σ main_v12 = σ main_v12 ∧ StableHlo.after (hostOps0.drop 33) σ main_v16 = σ main_v16
      ∧ StableHlo.after (hostOps0.drop 33) σ main_v20 = σ main_v20 ∧ StableHlo.after (hostOps0.drop 33) σ main_v22 = σ main_v22
      ∧ StableHlo.after (hostOps0.drop 33) σ main_v5 = σ main_v5 ∧ StableHlo.after (hostOps0.drop 33) σ main_v26 = σ main_v26 := by
  dsimp only [hostOps0, List.drop]
  refine ⟨?_, ?_, ?_, ?_, ?_, ?_⟩ <;> after_results_simp

/-- The six pieces of the weights side by side, as the run finds them. -/
theorem joined_eq (σ : Valuation τ sig (Elt Ideal)) :
    StableHlo.after hostOps0 σ main_v28 = side (StableHlo.after hostOps0 σ main_v12) (StableHlo.after hostOps0 σ main_v16) (StableHlo.after hostOps0 σ main_v20)
      (StableHlo.after hostOps0 σ main_v22) (StableHlo.after hostOps0 σ main_v5) (StableHlo.after hostOps0 σ main_v26) := by
  have e : ∀ b, StableHlo.after hostOps0 σ b = StableHlo.after (hostOps0.drop 33) (StableHlo.after (hostOps0.take 33) σ) b := by
    intro b
    rw [← StableHlo.after_append, List.take_append_drop]
  obtain ⟨h0, h1, h2, h3, h4, h5⟩ := kept (StableHlo.after (hostOps0.take 33) σ)
  rw [e, e, e, e, e, e, e, h0, h1, h2, h3, h4, h5]
  exact join _

/-- Each head's 64 columns of weights with 64 columns of zeros beside them. -/
def padded (w : FVec Ideal S1024x512 .f32) : FVec Ideal S1024x1024 .f32 :=
  shapeCast S1024x1024 (concatenate S1024x8x128 2 [⟨S1024x8x64, shapeCast S1024x8x64 (w) shapeCasts_S1024x512_S1024x8x64⟩, ⟨S1024x8x64, broadcastInDim S1024x8x64 ![] bcast_S_S1024x8x64 (constant S_ .f32 0x00000000#32)⟩] concatenates_S1024x8x64_S1024x8x64_S1024x8x128_d2) shapeCasts_S1024x8x128_S1024x1024

theorem padded_apply (w : FVec Ideal S1024x512 .f32) (k c : Fin 1024) : padded w (ix2 k c) = beside (fun j => w (ix2 k j)) (fun _ => 0) c := by
  pointwise [padded]
  rfl

theorem v12_eq : (StableHlo.after hostOps0 (fun b => m (d, b)) main_v12 : FVec Ideal S1024x1024 .f32) = padded (mulf (extractStridedSlice S1024x512 ![0, 0] (arg m d) slices_S1024x3080_S1024x512_0_0) (broadcastInDim S1024x512 ![] bcast_S_S1024x512 (constant S_ .f32 0x3E38AA3B#32))) := by
  after_results_simp
  rfl

theorem v20_eq : (StableHlo.after hostOps0 (fun b => m (d, b)) main_v20 : FVec Ideal S1024x1024 .f32) = padded (extractStridedSlice S1024x512 ![0, 1024] (arg m d) slices_S1024x3080_S1024x512_0_1024) := by
  after_results_simp
  rfl

theorem v22_eq : (StableHlo.after hostOps0 (fun b => m (d, b)) main_v22 : FVec Ideal S1024x512 .f32) = mulf (extractStridedSlice S1024x512 ![0, 1544] (arg m d) slices_S1024x3080_S1024x512_0_1544) (broadcastInDim S1024x512 ![] bcast_S_S1024x512 (constant S_ .f32 0x3E000000#32)) := by
  after_results_simp

theorem v5_eq : (StableHlo.after hostOps0 (fun b => m (d, b)) main_v5 : FVec Ideal S1024x512 .f32) = extractStridedSlice S1024x512 ![0, 2056] (arg m d) slices_S1024x3080_S1024x512_0_2056 := by
  after_results_simp

theorem v26_eq : (StableHlo.after hostOps0 (fun b => m (d, b)) main_v26 : FVec Ideal S1024x1024 .f32) = padded (extractStridedSlice S1024x512 ![0, 2568] (arg m d) slices_S1024x3080_S1024x512_0_2568) := by
  after_results_simp
  rfl

/-- The scaled query weights of the first attention, zeros beside each head. -/
theorem w_qa (k : Fin 1024) (j : Fin 1024) : (StableHlo.after hostOps0 (fun b => m (d, b)) main_v28 (ix2 k ⟨j.val, by have := j.isLt; omega⟩) : EReal)
    = beside (fun j => arg m d (ix2 k ⟨j.val, by have := j.isLt; omega⟩) * Ideal.ofBits .f32 0x3E38AA3B#32) (fun _ => 0) j := by
  rw [joined_eq]
  refine (side_a _ _ _ _ _ _ k j).trans ?_
  rw [v12_eq]
  pointwise
  rw [padded_apply]
  pointwise

/-- Its value weights, zeros beside each head. -/
theorem w_va (k : Fin 1024) (j : Fin 1024) : (StableHlo.after hostOps0 (fun b => m (d, b)) main_v28 (ix2 k ⟨2048 + j.val, by have := j.isLt; omega⟩) : EReal)
    = beside (fun j => arg m d (ix2 k ⟨1024 + j.val, by have := j.isLt; omega⟩)) (fun _ => 0) j := by
  rw [joined_eq]
  refine (side_c _ _ _ _ _ _ k j).trans ?_
  rw [v20_eq]
  pointwise
  rw [padded_apply]
  pointwise

/-- The scaled query weights of the second attention. -/
theorem w_qb (k : Fin 1024) (j : Fin 512) : (StableHlo.after hostOps0 (fun b => m (d, b)) main_v28 (ix2 k ⟨3072 + j.val, by have := j.isLt; omega⟩) : EReal)
    = arg m d (ix2 k ⟨1544 + j.val, by have := j.isLt; omega⟩) * Ideal.ofBits .f32 0x3E000000#32 := by
  rw [joined_eq]
  refine (side_e _ _ _ _ _ _ k j).trans ?_
  rw [v22_eq]
  pointwise

/-- Its key weights. -/
theorem w_kb (k : Fin 1024) (j : Fin 512) : (StableHlo.after hostOps0 (fun b => m (d, b)) main_v28 (ix2 k ⟨3584 + j.val, by have := j.isLt; omega⟩) : EReal)
    = arg m d (ix2 k ⟨2056 + j.val, by have := j.isLt; omega⟩) := by
  rw [joined_eq]
  refine (side_f _ _ _ _ _ _ k j).trans ?_
  rw [v5_eq]
  pointwise

/-- Its value weights, zeros beside each head. -/
theorem w_vb (k : Fin 1024) (j : Fin 1024) : (StableHlo.after hostOps0 (fun b => m (d, b)) main_v28 (ix2 k ⟨4096 + j.val, by have := j.isLt; omega⟩) : EReal)
    = beside (fun j => arg m d (ix2 k ⟨2568 + j.val, by have := j.isLt; omega⟩)) (fun _ => 0) j := by
  rw [joined_eq]
  refine (side_g _ _ _ _ _ _ k j).trans ?_
  rw [v26_eq]
  pointwise
  rw [padded_apply]
  pointwise

end Cert.Kernel5Ideal.Inp

end
-- ==== Proof.Inp.Value.lean ====
/-
  The input projection at the ideal instance: five of its result arrays after the run.
-/
module

public import proofs.«01_k».proof.Proof.Gen.Kernel5Ideal.Value
public import proofs.«01_k».proof.Proof.Inp.Block
public import proofs.«01_k».proof.Proof.Inp.Weights

@[expose] public section

set_option maxRecDepth 16384

noncomputable section

namespace Cert.Kernel5Ideal.Inp

open Cert.Kernel5Ideal Cert.Kernel5Ideal.Gen Cert.OutSpec Cert.InpSpec
open Idealize.ShloMosaic Idealize.ShloMosaic.TcCoe Idealize.SL.Sem

variable (m : (ℓ : Loc nD τ sig) → Buf (Elt Ideal) ℓ) (d : Dev nD)

theorem idx : ∀ t : Fin grid0.N, win0_0.index t = ![t.val, 0] ∧ win0_1.index t = ![0, 0] ∧ win0_2.index t = ![0, 0]
    ∧ win0_8.index t = ![t.val, 0] ∧ win0_10.index t = ![t.val, 0] ∧ win0_11.index t = ![t.val, 0]
    ∧ win0_12.index t = ![t.val, 0] ∧ win0_13.index t = ![t.val, 0] := by
  decide +kernel

section Blocks

variable (t : Fin cfg0.N) (r : Fin 512)

/-- Row `r` of point `t`'s block, in the whole array. -/
abbrev at0 : Fin 16384 := ⟨t.val * 512 + r.val, by have ht : t.val < 32 := t.isLt; have := r.isLt; omega⟩

theorem kept_x : StableHlo.after hostOps0 (fun b => m (d, b)) main_arg0 = m ((d : Thread nD τ).loc main_arg0) := by
  after_results_simp

theorem blk_x (c : Fin 1024) : iblk m d 0 t (ix2 r c) = m ((d : Thread nD τ).loc main_arg0) (ix2 (at0 t r) c) := by
  have ht : t.val < 32 := t.isLt
  refine Eq.trans ?_ (congrFun (kept_x m d) _)
  blk_ext [iblk, idx t]

theorem blk_g (c : Fin 1024) : iblk m d 1 t (ix2 0 c) = m ((d : Thread nD τ).loc main_arg1) (ix1 c) := by
  refine Eq.trans ?_ (gain m d c)
  blk_ext [iblk, idx t]

theorem blk_w (k : Fin 1024) (j : Fin 5120) : iblk m d 2 t (ix2 k j) = StableHlo.after hostOps0 (fun b => m (d, b)) main_v28 (ix2 k j) := by
  blk_ext [iblk, idx t]

/-- A block's row times a column of the weights' block. -/
theorem sum_eq (k0 : Fin 1024 → EReal) : ∑ k : Fin 1024, k0_pay7 (iblk m d 0 t) (iblk m d 1 t) (ix2 r k) * k0 k
    = ∑ k : Fin 1024, rms 0x44800000#32 (fun k => m ((d : Thread nD τ).loc main_arg0) (ix2 (at0 t r) k)) (fun k => m ((d : Thread nD τ).loc main_arg1) (ix1 k)) k * k0 k := by
  refine Finset.sum_congr rfl fun k _ => congrArg (· * k0 k) ?_
  refine (norm_apply _ _ r k).trans ?_
  simp only [blk_x, blk_g]

theorem ld_qa (k : Fin 1024) (j : Fin 1024) : (View.ld (iblk m d 2 t) (Rect.unit ![0, 0] ![1024, 1024] inb_S1024x5120_S1024x1024_0_0)) (ix2 k j)
    = beside (fun j => arg m d (ix2 k ⟨j.val, by have := j.isLt; omega⟩) * Ideal.ofBits .f32 0x3E38AA3B#32) (fun _ => 0) j := by
  rw [View.ld_unit]
  refine Eq.trans ?_ ((blk_w m d t k _).trans (w_qa m d k j))
  pointwise

theorem ld_va (k : Fin 1024) (j : Fin 1024) : (View.ld (iblk m d 2 t) (Rect.unit ![0, 2048] ![1024, 1024] inb_S1024x5120_S1024x1024_0_2048)) (ix2 k j)
    = beside (fun j => arg m d (ix2 k ⟨1024 + j.val, by have := j.isLt; omega⟩)) (fun _ => 0) j := by
  rw [View.ld_unit]
  refine Eq.trans ?_ ((blk_w m d t k _).trans (w_va m d k j))
  pointwise

theorem ld_qb (k : Fin 1024) (j : Fin 512) : (View.ld (iblk m d 2 t) (Rect.unit ![0, 3072] ![1024, 512] inb_S1024x5120_S1024x512_0_3072)) (ix2 k j)
    = arg m d (ix2 k ⟨1544 + j.val, by have := j.isLt; omega⟩) * Ideal.ofBits .f32 0x3E000000#32 := by
  rw [View.ld_unit]
  refine Eq.trans ?_ ((blk_w m d t k _).trans (w_qb m d k j))
  pointwise

theorem ld_kb (k : Fin 1024) (j : Fin 512) : (View.ld (iblk m d 2 t) (Rect.unit ![0, 3584] ![1024, 512] inb_S1024x5120_S1024x512_0_3584)) (ix2 k j)
    = arg m d (ix2 k ⟨2056 + j.val, by have := j.isLt; omega⟩) := by
  rw [View.ld_unit]
  refine Eq.trans ?_ ((blk_w m d t k _).trans (w_kb m d k j))
  pointwise

theorem ld_vb (k : Fin 1024) (j : Fin 1024) : (View.ld (iblk m d 2 t) (Rect.unit ![0, 4096] ![1024, 1024] inb_S1024x5120_S1024x1024_0_4096)) (ix2 k j)
    = beside (fun j => arg m d (ix2 k ⟨2568 + j.val, by have := j.isLt; omega⟩)) (fun _ => 0) j := by
  rw [View.ld_unit]
  refine Eq.trans ?_ ((blk_w m d t k _).trans (w_vb m d k j))
  pointwise

end Blocks

abbrev x0 : FVec Ideal S16384x1024 .f32 := m ((d : Thread nD τ).loc main_arg0)
abbrev g0 : FVec Ideal S1024 .f32 := m ((d : Thread nD τ).loc main_arg1)

def resultQA : Buf (Elt Ideal) ((d : Thread nD τ).loc main_v100_0) := arr (qA (x0 m d) (g0 m d) (arg m d))
def resultVA : Buf (Elt Ideal) ((d : Thread nD τ).loc main_v100_2) := arr (vA (x0 m d) (g0 m d) (arg m d))
def resultQB : Buf (Elt Ideal) ((d : Thread nD τ).loc main_v100_3) := arr (qB (x0 m d) (g0 m d) (arg m d))
def resultKB : Buf (Elt Ideal) ((d : Thread nD τ).loc main_v100_4) := arr (kB (x0 m d) (g0 m d) (arg m d))
def resultVB : Buf (Elt Ideal) ((d : Thread nD τ).loc main_v100_5) := arr (vB (x0 m d) (g0 m d) (arg m d))

theorem point_qa (t : Fin cfg0.N) (r : Fin 512) (c : Fin 1024) :
    k0_pay18 (k0_pay7 (iblk m d 0 t) (iblk m d 1 t)) 128#32 k0_pay14 k0_pay15 k0_pay16 0#32
      (View.ld (iblk m d 2 t) (Rect.unit ![0, 0] ![1024, 1024] inb_S1024x5120_S1024x1024_0_0)) (ix2 r c) = resultQA m d (ix2 (at0 t r) c) := by
  refine (qa_apply _ _ r c).trans ?_
  rw [sum_eq]
  simp only [ld_qa]
  rw [sum_beside]
  obtain ⟨s, hs, e⟩ := scale_a
  rw [e]
  simp only [sum_scaled _ _ s hs]
  rw [← e]
  simp only [resultQA, arr, qA, cols, proj, Nat.zero_add]
  rfl

theorem final_qa : (dats m 0 d).arrAt 8 cfg0.N = resultQA m d := by
  refine (dats m 0 d).arrAt_eq_of_covers 8 _ (by decide +kernel) fun t hf y => ?_
  blk_simp
  rw [after0_8]
  idx_vars y
  have ht : t.val < 32 := t.isLt
  have e : ((View.whole main_v100_0).slice (win0_8.rect t)).emb (ix2 y0 y1) = (ix2 (at0 t y0) y1) := by blk_ext [idx t]
  rw [e]
  by_cases h0 : t.val % 16 = 0
  · rw [outsAt0_A m d t h0]
    frame_out
    exact point_qa m d t y0 y1
  · rw [outsAt0_B m d t h0]
    frame_out
    exact point_qa m d t y0 y1

theorem point_va (t : Fin cfg0.N) (r : Fin 512) (c : Fin 1024) :
    k0_pay1 (k0_pay20 (k0_pay7 (iblk m d 0 t) (iblk m d 1 t)) (View.ld (iblk m d 2 t) (Rect.unit ![0, 2048] ![1024, 1024] inb_S1024x5120_S1024x1024_0_2048)))
      (k0_pay21 128#32 k0_pay14 k0_pay15 k0_pay16 0#32) (ix2 r c) = resultVA m d (ix2 (at0 t r) c) := by
  refine (va_apply _ _ r c).trans ?_
  rw [sum_eq]
  simp only [ld_va]
  rw [sum_beside]
  rfl

theorem final_va : (dats m 0 d).arrAt 10 cfg0.N = resultVA m d := by
  refine (dats m 0 d).arrAt_eq_of_covers 10 _ (by decide +kernel) fun t hf y => ?_
  blk_simp
  rw [after0_10]
  idx_vars y
  have ht : t.val < 32 := t.isLt
  have e : ((View.whole main_v100_2).slice (win0_10.rect t)).emb (ix2 y0 y1) = (ix2 (at0 t y0) y1) := by blk_ext [idx t]
  rw [e]
  by_cases h0 : t.val % 16 = 0
  · rw [outsAt0_A m d t h0]
    frame_out
    exact point_va m d t y0 y1
  · rw [outsAt0_B m d t h0]
    frame_out
    exact point_va m d t y0 y1

theorem point_qb (t : Fin cfg0.N) (r : Fin 512) (c : Fin 512) :
    k0_pay2 (k0_pay7 (iblk m d 0 t) (iblk m d 1 t)) (View.ld (iblk m d 2 t) (Rect.unit ![0, 3072] ![1024, 512] inb_S1024x5120_S1024x512_0_3072)) (ix2 r c) = resultQB m d (ix2 (at0 t r) c) := by
  refine (qb_apply _ _ r c).trans ?_
  rw [sum_eq]
  simp only [ld_qb]
  obtain ⟨s, hs, e⟩ := scale_b
  rw [e]
  simp only [sum_scaled _ _ s hs]
  rw [← e]
  rfl

theorem final_qb : (dats m 0 d).arrAt 11 cfg0.N = resultQB m d := by
  refine (dats m 0 d).arrAt_eq_of_covers 11 _ (by decide +kernel) fun t hf y => ?_
  blk_simp
  rw [after0_11]
  idx_vars y
  have ht : t.val < 32 := t.isLt
  have e : ((View.whole main_v100_3).slice (win0_11.rect t)).emb (ix2 y0 y1) = (ix2 (at0 t y0) y1) := by blk_ext [idx t]
  rw [e]
  by_cases h0 : t.val % 16 = 0
  · rw [outsAt0_A m d t h0]
    frame_out
    exact point_qb m d t y0 y1
  · rw [outsAt0_B m d t h0]
    frame_out
    exact point_qb m d t y0 y1

theorem point_kb (t : Fin cfg0.N) (r : Fin 512) (c : Fin 512) :
    k0_pay3 (k0_pay7 (iblk m d 0 t) (iblk m d 1 t)) (View.ld (iblk m d 2 t) (Rect.unit ![0, 3584] ![1024, 512] inb_S1024x5120_S1024x512_0_3584)) (ix2 r c) = resultKB m d (ix2 (at0 t r) c) := by
  refine (kb_apply _ _ r c).trans ?_
  rw [sum_eq]
  simp only [ld_kb]
  rfl

theorem final_kb : (dats m 0 d).arrAt 12 cfg0.N = resultKB m d := by
  refine (dats m 0 d).arrAt_eq_of_covers 12 _ (by decide +kernel) fun t hf y => ?_
  blk_simp
  rw [after0_12]
  idx_vars y
  have ht : t.val < 32 := t.isLt
  have e : ((View.whole main_v100_4).slice (win0_12.rect t)).emb (ix2 y0 y1) = (ix2 (at0 t y0) y1) := by blk_ext [idx t]
  rw [e]
  by_cases h0 : t.val % 16 = 0
  · rw [outsAt0_A m d t h0]
    frame_out
    exact point_kb m d t y0 y1
  · rw [outsAt0_B m d t h0]
    frame_out
    exact point_kb m d t y0 y1

theorem point_vb (t : Fin cfg0.N) (r : Fin 512) (c : Fin 1024) :
    k0_pay4 (k0_pay7 (iblk m d 0 t) (iblk m d 1 t)) (View.ld (iblk m d 2 t) (Rect.unit ![0, 4096] ![1024, 1024] inb_S1024x5120_S1024x1024_0_4096)) (ix2 r c) = resultVB m d (ix2 (at0 t r) c) := by
  refine (vb_apply _ _ r c).trans ?_
  rw [sum_eq]
  simp only [ld_vb]
  rw [sum_beside_zero]
  rfl

theorem final_vb : (dats m 0 d).arrAt 13 cfg0.N = resultVB m d := by
  refine (dats m 0 d).arrAt_eq_of_covers 13 _ (by decide +kernel) fun t hf y => ?_
  blk_simp
  rw [after0_13]
  idx_vars y
  have ht : t.val < 32 := t.isLt
  have e : ((View.whole main_v100_5).slice (win0_13.rect t)).emb (ix2 y0 y1) = (ix2 (at0 t y0) y1) := by blk_ext [idx t]
  rw [e]
  by_cases h0 : t.val % 16 = 0
  · rw [outsAt0_A m d t h0]
    frame_out
    exact point_vb m d t y0 y1
  · rw [outsAt0_B m d t h0]
    frame_out
    exact point_vb m d t y0 y1

/-- The run: the five results, the arguments unchanged. -/
theorem run_values (ρ : Dev nD → PrngReg) : θ_run defs (onTc (τ := τ) (main (F := Ideal))) ⟨m, fun _ => 0, ρ⟩ fun r => ∀ c : Dev nD,
      (r.2.mem ((c.tc : Thread nD τ).loc main_v100_0) = resultQA m c ∧ r.2.mem ((c.tc : Thread nD τ).loc main_v100_2) = resultVA m c
      ∧ r.2.mem ((c.tc : Thread nD τ).loc main_v100_3) = resultQB m c ∧ r.2.mem ((c.tc : Thread nD τ).loc main_v100_4) = resultKB m c
      ∧ r.2.mem ((c.tc : Thread nD τ).loc main_v100_5) = resultVB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h c).1.trans (final_qa m c), (h c).2.2.1.trans (final_va m c), (h c).2.2.2.1.trans (final_qb m c),
    (h c).2.2.2.2.1.trans (final_kb m c), (h c).2.2.2.2.2.1.trans (final_vb m c)⟩, (h c).2.2.2.2.2.2⟩) (Value.run_blocks m ρ)

end Cert.Kernel5Ideal.Inp

end
-- ==== Proof.Inp.Reference.lean ====
/-
  The reference of the input projection at the ideal instance, read at an index.
-/
module

public import proofs.«01_k».proof.Proof.Gen.Reference5Ideal.Run
public import proofs.«01_k».proof.Proof.Inp.Spec
public import Idealize.ShloMosaic.Lib.WordCmp

@[expose] public section

set_option maxRecDepth 16384

noncomputable section

open Idealize.ShloMosaic Idealize.ShloMosaic.TcCoe Idealize.SL.Sem

namespace Cert.InpReference

open Cert.Reference5Ideal Cert.Reference5Ideal.Gen Cert.Reference5Ideal.Value Cert.OutSpec Cert.InpSpec

/-- The RMS normalisation of every row, in the reference's operations. -/
def norm (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

theorem norm_apply (v : FVec Ideal S16384x1024 .f32) (g : FVec Ideal S1024 .f32) (r : Fin 16384) (c : Fin 1024) :
    norm v g (ix2 r c) = rms 0x44800000#32 (fun c => v (ix2 r c)) (fun c => g (ix1 c)) c := by
  pointwise [norm]
  rfl

/-- The normalised activations times the weights. -/
def prod (v : FVec Ideal S16384x1024 .f32) (g : FVec Ideal S1024 .f32) (w : FVec Ideal S1024x3080 .f32) : FVec Ideal S16384x3080 .f32 :=
  Host.dotGeneral dot_S16384x1024_S1024x3080_S16384x3080_1_0_0_1_n_n none (norm v g) w

theorem prod_apply (v : FVec Ideal S16384x1024 .f32) (g : FVec Ideal S1024 .f32) (w : FVec Ideal S1024x3080 .f32) (r : Fin 16384) (j : Fin 3080) :
    prod v g w (ix2 r j) = proj v g w r j := by
  pointwise [prod]
  simp only [norm_apply]
  rfl

/-- Each head's 64 columns with 64 lanes beside them. -/
def lanes (y : FVec Ideal S16384x512 .f32) (e : FVec Ideal S64 .f32) : FVec Ideal S16384x1024 .f32 :=
  shapeCast _ (concatenate S16384x8x128 2 [⟨S16384x8x64, shapeCast _ y shapeCasts_S16384x512_S16384x8x64⟩, ⟨S16384x8x64, broadcastInDim S16384x8x64 ![2] bcast_S64_S16384x8x64_2 e⟩] concatenates_S16384x8x64_S16384x8x64_S16384x8x128_d2) shapeCasts_S16384x8x128_S16384x1024

theorem lanes_apply (y : FVec Ideal S16384x512 .f32) (e : FVec Ideal S64 .f32) (r : Fin 16384) (c : Fin 1024) :
    lanes y e (ix2 r c) = beside (fun j => y (ix2 r j)) (fun l => e (ix1 l)) c := by
  pointwise [lanes]
  rfl

/-- The same number in every lane. -/
def flat (b : BitVec 32) : FVec Ideal S64 .f32 := broadcastInDim S64 ![] bcast_S_S64 (constant S_ .f32 b)

theorem one_apply (l : Fin 64) : flat 0x3F800000#32 (ix1 l) = 1 := by pointwise [flat]
theorem zero_apply (l : Fin 64) : flat 0x00000000#32 (ix1 l) = 0 := by pointwise [flat]

/-- Ones in the first three lanes, zeros in the others. -/
def first : FVec Ideal S64 .f32 :=
  select (cmpi .slt (iotaInDim S64 32 0) (broadcastInDim S64 ![] bcast_S_S64 (constantI S_ 32 3#32))) (flat 0x3F800000#32) (flat 0x00000000#32)

theorem first_apply (l : Fin 64) : first (ix1 l) = three l := by
  have key : ∀ l : Fin 64, IntOp.cmpi CmpIPredicate.slt (BitVec.ofNat 32 l.val) 3#32 = if l.val < 3 then 1#1 else 0#1 := by decide
  pointwise [first, flat]
  rw [key l]
  unfold three
  split <;> rfl

section Results

variable (x : FVec Ideal S16384x1024 .f32) (g : FVec Ideal S1024 .f32) (w : FVec Ideal S1024x3080 .f32)

/-- The five results in the reference's operations. -/
def qa : FVec Ideal S16384x1024 .bf16 :=
  truncf .bf16 (lanes (mulf (extractStridedSlice S16384x512 ![0, 0] (prod x g w) slices_S16384x3080_S16384x512_0_0) (broadcastInDim S16384x512 ![] bcast_S_S16384x512 (constant S_ .f32 0x3E38AA3B#32))) (id first)) bitsLt_bf16_f32
def va : FVec Ideal S16384x1024 .bf16 :=
  truncf .bf16 (lanes (extractStridedSlice S16384x512 ![0, 1024] (prod x g w) slices_S16384x3080_S16384x512_0_1024) (flat 0x3F800000#32)) bitsLt_bf16_f32
def qb : FVec Ideal S16384x512 .bf16 :=
  truncf .bf16 (mulf (extractStridedSlice S16384x512 ![0, 1544] (prod x g w) slices_S16384x3080_S16384x512_0_1544) (broadcastInDim S16384x512 ![] bcast_S_S16384x512 (constant S_ .f32 0x3E000000#32))) bitsLt_bf16_f32
def kb : FVec Ideal S16384x512 .bf16 :=
  truncf .bf16 (extractStridedSlice S16384x512 ![0, 2056] (prod x g w) slices_S16384x3080_S16384x512_0_2056) bitsLt_bf16_f32
def vb : FVec Ideal S16384x1024 .bf16 :=
  truncf .bf16 (lanes (extractStridedSlice S16384x512 ![0, 2568] (prod x g w) slices_S16384x3080_S16384x512_0_2568) (flat 0x00000000#32)) bitsLt_bf16_f32

theorem qa_apply (r : Fin 16384) (c : Fin 1024) : qa x g w (ix2 r c) = qA x g w r c := by
  pointwise [qa]
  rw [lanes_apply]
  simp only [first_apply, id]
  pointwise
  simp only [prod_apply, qA, cols, Nat.zero_add]

theorem va_apply (r : Fin 16384) (c : Fin 1024) : va x g w (ix2 r c) = vA x g w r c := by
  pointwise [va]
  rw [lanes_apply]
  simp only [one_apply]
  pointwise
  simp only [prod_apply]
  rfl

theorem qb_apply (r : Fin 16384) (j : Fin 512) : qb x g w (ix2 r j) = qB x g w r j := by
  pointwise [qb]
  simp only [prod_apply]
  rfl

theorem kb_apply (r : Fin 16384) (j : Fin 512) : kb x g w (ix2 r j) = kB x g w r j := by
  pointwise [kb]
  simp only [prod_apply]
  rfl

theorem vb_apply (r : Fin 16384) (c : Fin 1024) : vb x g w (ix2 r c) = vB x g w r c := by
  pointwise [vb]
  rw [lanes_apply]
  simp only [zero_apply]
  pointwise
  simp only [prod_apply]
  rfl

theorem results_eq : qa x g w = arr (qA x g w) ∧ va x g w = arr (vA x g w) ∧ qb x g w = arr (qB x g w)
    ∧ kb x g w = arr (kB x g w) ∧ vb x g w = arr (vB x g w) := by
  refine ⟨?_, ?_, ?_, ?_, ?_⟩ <;> funext i <;> rw [eq_ix2 i]
  · exact qa_apply x g w _ _
  · exact va_apply x g w _ _
  · exact qb_apply x g w _ _
  · exact kb_apply x g w _ _
  · exact vb_apply x g w _ _

end Results

end Cert.InpReference

end
-- ==== Proof.Sb.BodyIdeal.lean ====
/-
  The attention kernel's body run once: what it leaves in its result block, as a function of its four operand blocks.
  The two diagonal sub-blocks of keys are straight-line code (`start`); the older sub-blocks are the `while` (`loop`),
  which stops after the last sub-block or as soon as every running sum has passed the bound.  The label of the `while` is
  answered by a specification with the number of trips that may still come (`spec`), met by induction on that number.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Tactic
public import Idealize.ShloMosaic.Lib.WordCmp

@[expose] public section

set_option maxRecDepth 16384

noncomputable section

namespace Cert.Kernel2Ideal.Sb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The state of the walk over the keys -/

/-- What the `while` carries: the trips done, whether every running sum has passed the bound, and per head the running sum
    of each query's row and its row of the output. -/
abbrev St (F : FTy → Type) : Type := BitVec 32 × BitVec 32 × FVec F S512x1 .f32 × FVec F S512x128 .f32 × FVec F S512x1 .f32 × FVec F S512x128 .f32
  × FVec F S512x1 .f32 × FVec F S512x128 .f32 × FVec F S512x1 .f32 × FVec F S512x128 .f32

/-- A 256-row piece of the keys, and of the values, at an offset. -/
abbrev rK (o : Fin 2 → ℕ) (h : ∀ a, o a + S256x128.size a ≤ S8192x256.size a) : Rect S8192x256 := Rect.unit (s := S8192x256) o S256x128.size h
abbrev rV (o : Fin 2 → ℕ) (h : ∀ a, o a + S256x128.size a ≤ S8192x512.size a) : Rect S8192x512 := Rect.unit (s := S8192x512) o S256x128.size h
/-- The left and the right half of a block of queries (and of a block of results). -/
abbrev rL : Rect S512x256 := Rect.unit (s := S512x256) ![0, 0] S512x128.size inb_S512x256_S512x128_0_0
abbrev rR : Rect S512x256 := Rect.unit (s := S512x256) ![0, 128] S512x128.size inb_S512x256_S512x128_0_128
/-- The whole triangular operand. -/
abbrev rT : Rect S256x256 := Rect.unit (s := S256x256) ![0, 0] S256x256.size inb_S256x256_S256x256_0_0

/-- The bound past which the walk stops. -/
abbrev bound : F .f32 := Named.named κ "underflow" 0x42DC0000#32

/-- After the two diagonal sub-blocks of keys, the later one first. -/
def start (i : grid0.Coords) (q0 q1 q2 q3 : Vec F S512x128 .bf16) (tri : FVec F S256x256 .bf16) (x1 : Vec F S8192x256 .bf16)
    (x2 : Vec F S8192x512 .bf16) : St F :=
  let kA1 : Vec F S256x128 .bf16 := View.ld x1 (rK (k0_off1 i 256#32) (k0_off1_inb i 1))
  let kB1 : Vec F S256x128 .bf16 := View.ld x1 (rK (k0_off4 i 256#32) (k0_off4_inb i 1))
  let kA0 : Vec F S256x128 .bf16 := View.ld x1 (rK (k0_off1 i 0#32) (k0_off1_inb i 0))
  let kB0 : Vec F S256x128 .bf16 := View.ld x1 (rK (k0_off4 i 0#32) (k0_off4_inb i 0))
  let l0 := k0_pay22 q0 k0_pay10 tri k0_pay12 kA1
  let a0 := k0_pay23 q0 k0_pay10 tri k0_pay12 k0_pay13 kA1 (View.ld x2 (rV (k0_off2 i 256#32) (k0_off2_inb i 1)))
  let l1 := k0_pay26 q1 k0_pay10 tri k0_pay14 kA1
  let a1 := k0_pay27 q1 k0_pay10 tri k0_pay14 k0_pay15 kA1 (View.ld x2 (rV (k0_off3 i 256#32) (k0_off3_inb i 1)))
  let l2 := k0_pay30 k0_pay10 tri k0_pay16 (k0_pay28 q2 kB1) (Scalar.ofBits .f32 0x00000000#32)
  let a2 := k0_pay31 k0_pay10 tri k0_pay16 k0_pay17 (View.ld x2 (rV (k0_off5 i 256#32) (k0_off5_inb i 1))) (k0_pay28 q2 kB1) (Scalar.ofBits .f32 0x00000000#32)
  let l3 := k0_pay36 k0_pay10 tri k0_pay18 (k0_pay33 q3 kB1) (k0_pay34 q3 kB1)
  let a3 := k0_pay37 k0_pay10 tri k0_pay18 k0_pay19 (View.ld x2 (rV (k0_off6 i 256#32) (k0_off6_inb i 1))) (k0_pay32 q3 kB1) (k0_pay33 q3 kB1) (k0_pay34 q3 kB1)
  let one : F .f32 := Scalar.ofBits .f32 0x3F800000#32
  let m0 := k0_pay42 k0_pay10 tri l0 (k0_pay39 q0 kA0) (k0_pay40 q0 kA0) one
  let b0 := k0_pay43 k0_pay10 tri l0 a0 (View.ld x2 (rV (k0_off2 i 0#32) (k0_off2_inb i 0))) (k0_pay38 q0 kA0) (k0_pay39 q0 kA0) (k0_pay40 q0 kA0) one
  let m1 := k0_pay48 tri l1 (k0_pay45 q1 kA0) (k0_pay46 q1 k0_pay10 kA0)
  let b1 := k0_pay49 k0_pay10 tri l1 a1 (View.ld x2 (rV (k0_off3 i 0#32) (k0_off3_inb i 0))) (k0_pay44 q1 kA0) (k0_pay45 q1 kA0) (k0_pay46 q1 k0_pay10 kA0)
  let m2 := k0_pay56 tri l2 (k0_pay53 q2 k0_pay10 kB0) (k0_pay54 q2 k0_pay10 tri kB0)
  let b2 := k0_pay57 k0_pay10 tri l2 a2 (View.ld x2 (rV (k0_off5 i 0#32) (k0_off5_inb i 0))) (k0_pay50 q2 kB0) (k0_pay53 q2 k0_pay10 kB0) (k0_pay54 q2 k0_pay10 tri kB0)
  (0#32, Scalar.extui (Scalar.cmpf .oge (k0_pay3 l3 m0 m1 m2 (k0_pay59 q3 k0_pay10 tri kB0)) bound), m0, b0, m1, b1, m2, b2,
    k0_pay1 l3 (k0_pay59 q3 k0_pay10 tri kB0),
    k0_pay2 k0_pay10 a3 (View.ld x2 (rV (k0_off6 i 0#32) (k0_off6_inb i 0))) (k0_pay60 q3 k0_pay10 tri l3 kB0) (k0_pay61 q3 k0_pay10 tri l3 kB0))

/-- One trip of the `while`: the next older sub-block of keys, for the four heads. -/
def step (i : grid0.Coords) (q0 q1 q2 q3 : Vec F S512x128 .bf16) (tri : FVec F S256x256 .bf16) (x1 : Vec F S8192x256 .bf16)
    (x2 : Vec F S8192x512 .bf16) (s : St F) (h : k0_chk1 i s.1) : St F :=
  let kA : Vec F S256x128 .bf16 := View.ld x1 (rK (k0_off7 i s.1) (k0_off7_inb i s.1 h))
  let kB : Vec F S256x128 .bf16 := View.ld x1 (rK (k0_off10 i s.1) (k0_off10_inb i s.1 h))
  let v0 : Vec F S256x128 .bf16 := View.ld x2 (rV (k0_off8 i s.1) (k0_off8_inb i s.1 h))
  let v1 : Vec F S256x128 .bf16 := View.ld x2 (rV (k0_off9 i s.1) (k0_off9_inb i s.1 h))
  let v2 : Vec F S256x128 .bf16 := View.ld x2 (rV (k0_off11 i s.1) (k0_off11_inb i s.1 h))
  let v3 : Vec F S256x128 .bf16 := View.ld x2 (rV (k0_off12 i s.1) (k0_off12_inb i s.1 h))
  match s with
  | (n, _, l0, a0, l1, a1, l2, a2, l3, a3) =>
    (Scalar.addi n 1#32,
      Scalar.extui (Scalar.cmpf .oge (k0_pay80 tri q3 l2 l3 (k0_pay64 q0 tri l0 kA) (k0_pay69 tri l1 (k0_pay66 q1 kA) (k0_pay67 q1 kA)) (k0_pay72 tri q2 kB) kB) bound),
      k0_pay64 q0 tri l0 kA, k0_pay65 q0 tri l0 a0 kA v0,
      k0_pay69 tri l1 (k0_pay66 q1 kA) (k0_pay67 q1 kA), k0_pay70 tri l1 a1 v1 (k0_pay66 q1 kA) (k0_pay67 q1 kA),
      k0_pay74 l2 (k0_pay72 tri q2 kB), k0_pay75 l2 a2 v2 (k0_pay73 tri q2 kB),
      k0_pay78 tri q3 l3 kB, k0_pay79 tri q3 l3 a3 kB v3)

/-- Whether another trip is made. -/
def More (i : grid0.Coords) (s : St F) : Prop :=
  Scalar.andi (Scalar.cmpi .slt s.1 (Scalar.muli (BitVec.ofNat 32 (i 2).val) 2#32)) (Scalar.cmpi .eq s.2.1 0#32) = 1#1

instance (i : grid0.Coords) (s : St F) : Decidable (More i s) := by unfold More; infer_instance

/-- The state the `while` leaves, with at most `k` more trips. -/
def loop (i : grid0.Coords) (q0 q1 q2 q3 : Vec F S512x128 .bf16) (tri : FVec F S256x256 .bf16) (x1 : Vec F S8192x256 .bf16)
    (x2 : Vec F S8192x512 .bf16) : ℕ → St F → St F
  | 0, s => s
  | k + 1, s => if More i s then (if h : k0_chk1 i s.1 then loop i q0 q1 q2 q3 tri x1 x2 k (step i q0 q1 q2 q3 tri x1 x2 s h) else s) else s

/-! ## The words of the counter -/

/-- Below the number of older sub-blocks the trip's offsets are inside the arrays. -/
theorem chk_of_lt (i : grid0.Coords) (n : ℕ) (hn : n < 2 * (i 2).val) : k0_chk1 i (BitVec.ofNat 32 n) := by
  have H : ∀ j : Fin 16, ∀ n : Fin 32, n.val < 2 * j.val →
      (BitVec.ofNat 32 j.val * 512#32 - (BitVec.ofNat 32 n.val + 1#32) * 256#32).toNat = 512 * j.val - 256 * (n.val + 1) := by decide +kernel
  have hj : (i 2).val < 16 := (i 2).isLt
  have h0 := H ⟨(i 2).val, hj⟩ ⟨n, by omega⟩ hn
  simp only at h0
  have hm : (k0_mult3 i (BitVec.ofNat 32 n)).toNat = 512 * (i 2).val - 256 * (n + 1) := h0
  have ho : ∀ c : ℕ, c ≤ 384 → ∀ a, (![(k0_mult3 i (BitVec.ofNat 32 n)).toNat, c] : Fin 2 → ℕ) a + S256x128.size a ≤ S8192x512.size a := by
    intro c hc a; rw [hm]
    fin_cases a
    · show 512 * (i 2).val - 256 * (n + 1) + 256 ≤ 8192; omega
    · show c + 128 ≤ 512; omega
  have hk : ∀ c : ℕ, c ≤ 128 → ∀ a, (![(k0_mult3 i (BitVec.ofNat 32 n)).toNat, c] : Fin 2 → ℕ) a + S256x128.size a ≤ S8192x256.size a := by
    intro c hc a; rw [hm]
    fin_cases a
    · show 512 * (i 2).val - 256 * (n + 1) + 256 ≤ 8192; omega
    · show c + 128 ≤ 256; omega
  refine ⟨?_, hk 0 (by omega), ho 0 (by omega), ho 128 (by omega), hk 128 (by omega), ho 256 (by omega), ho 384 (by omega)⟩
  rw [hm]; omega

/-- With no older sub-block left no further trip is made. -/
theorem not_more (i : grid0.Coords) (s : St F) (h : s.1 = BitVec.ofNat 32 (2 * (i 2).val)) : ¬ More i s := by
  have H : ∀ j : Fin 16, ∀ b : BitVec 1, ¬ Scalar.andi (Scalar.cmpi .slt (BitVec.ofNat 32 (2 * j.val)) (Scalar.muli (BitVec.ofNat 32 j.val) 2#32)) b = 1#1 := by
    decide +kernel
  unfold More; rw [h]
  exact H ⟨(i 2).val, (i 2).isLt⟩ _

theorem add_one_word (n : ℕ) : Scalar.addi (BitVec.ofNat 32 n) 1#32 = BitVec.ofNat 32 (n + 1) := by
  show BitVec.ofNat 32 n + 1#32 = _
  apply BitVec.eq_of_toNat_eq; simp

/-! ## The label of the `while` -/

section Label
variable (c : Dev nD) (i : grid0.Coords) (arg4 : Memref sig .tc .vmem S8192x256 .bf16) (harg4 : arg4.IsWhole)
  (arg5 : Memref sig .tc .vmem S8192x512 .bf16) (harg5 : arg5.IsWhole) (q0 q1 q2 q3 : Vec F S512x128 .bf16) (tri : FVec F S256x256 .bf16)
  (f1 : Buf (Elt F) (arg4.view.loc (c : Thread nD τ))) (f2 : Buf (Elt F) (arg5.view.loc (c : Thread nD τ)))

/-- The two operands the loop reads, held whole. -/
def held : sProp 𝕄 :=
  iprop((arg4.view.loc (c : Thread nD τ) ↦[arg4.view.set]{fullShare} f1) ∗ (arg5.view.loc (c : Thread nD τ) ↦[arg5.view.set]{fullShare} f2))

/-- The label's specification with at most `k` trips to come: it reads the two operands and returns what `loop` computes. -/
def spec (k : ℕ) (s : St F) : sWPT 𝕄 (St F) := do
  sWPT.consume (held c arg4 arg5 f1 f2)
  sWPT.produce (held c arg4 arg5 f1 f2)
  pure (loop i q0 q1 q2 q3 tri (arg4.view.read (Elt F) f1) (arg5.view.read (Elt F) f2) k s)

theorem spec_apply (k : ℕ) (s : St F) (K : St F → sProp 𝕄) :
    spec c i arg4 arg5 q0 q1 q2 q3 tri f1 f2 k s K
      = iprop(held c arg4 arg5 f1 f2 ∗ (held c arg4 arg5 f1 f2 -∗ K (loop i q0 q1 q2 q3 tri (arg4.view.read (Elt F) f1) (arg5.view.read (Elt F) f2) k s))) := rfl

set_option maxHeartbeats 4000000 in
theorem spec_le (E : Set ℕ) : ∀ (k n : ℕ), n + k = 2 * (i 2).val → ∀ (w : BitVec 32) (l0 : FVec F S512x1 .f32) (a0 : FVec F S512x128 .f32)
    (l1 : FVec F S512x1 .f32) (a1 : FVec F S512x128 .f32) (l2 : FVec F S512x1 .f32) (a2 : FVec F S512x128 .f32) (l3 : FVec F S512x1 .f32) (a3 : FVec F S512x128 .f32)
    (K : St F → sProp 𝕄), spec c i arg4 arg5 q0 q1 q2 q3 tri f1 f2 k (BitVec.ofNat 32 n, w, l0, a0, l1, a1, l2, a2, l3, a3) K
      ⊢ wp frame (wpE (defs₀ (F := F)) Variants.nat (c : Thread nD τ) (some k)) E
          (defs₀ (F := F) .tc 1 ⟨i, arg4, harg4, arg5, harg5, q0, tri, q1, q2, q3, BitVec.ofNat 32 n, w, l0, a0, l1, a1, l2, a2, l3, a3⟩) K := by
  intro k
  induction k with
  | zero =>
    intro n hn w l0 a0 l1 a1 l2 a2 l3 a3 K
    rw [spec_apply]
    show _ ⊢ wp frame (wpE (defs₀ (F := F)) Variants.nat (c : Thread nD τ) (some 0)) E
      (cc0_while1 i arg4 harg4 arg5 harg5 q0 tri q1 q2 q3 (BitVec.ofNat 32 n) w l0 a0 l1 a1 l2 a2 l3 a3) K
    simp only [cc0_while1_eq_skeleton]; unfold cc0_while1_skel
    have ht := not_more (F := F) i (BitVec.ofNat 32 n, w, l0, a0, l1, a1, l2, a2, l3, a3) (by show BitVec.ofNat 32 n = _; rw [show n = 2 * (i 2).val by omega])
    unfold More at ht
    simp only [ht, ↓reduceIte, Prog.pure_eq_ret]
    iintro ⟨H, Hk⟩
    rw [wp_ret]; imodintro
    simp only [loop]
    iapply Hk
    iexact H
  | succ k ih =>
    intro n hn w l0 a0 l1 a1 l2 a2 l3 a3 K
    rw [spec_apply]
    show _ ⊢ wp frame (wpE (defs₀ (F := F)) Variants.nat (c : Thread nD τ) (some (k + 1))) E
      (cc0_while1 i arg4 harg4 arg5 harg5 q0 tri q1 q2 q3 (BitVec.ofNat 32 n) w l0 a0 l1 a1 l2 a2 l3 a3) K
    simp only [cc0_while1_eq_skeleton]; unfold cc0_while1_skel
    by_cases ht : More (F := F) i (BitVec.ofNat 32 n, w, l0, a0, l1, a1, l2, a2, l3, a3)
    · have hc : k0_chk1 i (BitVec.ofNat 32 n) := chk_of_lt i n (by omega)
      have hl : loop i q0 q1 q2 q3 tri (arg4.view.read (Elt F) f1) (arg5.view.read (Elt F) f2) (k + 1) (BitVec.ofNat 32 n, w, l0, a0, l1, a1, l2, a2, l3, a3)
          = loop i q0 q1 q2 q3 tri (arg4.view.read (Elt F) f1) (arg5.view.read (Elt F) f2) k (step i q0 q1 q2 q3 tri (arg4.view.read (Elt F) f1) (arg5.view.read (Elt F) f2) (BitVec.ofNat 32 n, w, l0, a0, l1, a1, l2, a2, l3, a3) hc) := by
        rw [loop, if_pos ht, dif_pos hc]
      rw [hl]
      unfold More at ht
      simp only at ht
      simp only [ht, ↓reduceIte, k0_part9_eq_skeleton, k0_part10_eq_skeleton, k0_part11_eq_skeleton]
      unfold k0_part9_skel k0_part10_skel k0_part11_skel
      simp only [Prog.lift, Prog.bind_op, Prog.bind_ret, Prog.pure_eq_ret]
      unfold held
      iintro ⟨⟨H1, H2⟩, Hk⟩
      iapply (wp_assume Variants.nat (c : Thread nD τ) (some (k + 1)) E hc)
      iapply (wp_load Variants.nat (c : Thread nD τ) (some (k + 1)) E (m := arg4) (View.setOn_subset_set _ _)) $$ H1; iintro H1
      iapply (wp_load Variants.nat (c : Thread nD τ) (some (k + 1)) E (m := arg5) (View.setOn_subset_set _ _)) $$ H2; iintro H2
      iapply (wp_load Variants.nat (c : Thread nD τ) (some (k + 1)) E (m := arg4) (View.setOn_subset_set _ _)) $$ H1; iintro H1
      iapply (wp_load Variants.nat (c : Thread nD τ) (some (k + 1)) E (m := arg5) (View.setOn_subset_set _ _)) $$ H2; iintro H2
      iapply (wp_load Variants.nat (c : Thread nD τ) (some (k + 1)) E (m := arg4) (View.setOn_subset_set _ _)) $$ H1; iintro H1
      iapply (wp_load Variants.nat (c : Thread nD τ) (some (k + 1)) E (m := arg5) (View.setOn_subset_set _ _)) $$ H2; iintro H2
      iapply (wp_load Variants.nat (c : Thread nD τ) (some (k + 1)) E (m := arg4) (View.setOn_subset_set _ _)) $$ H1; iintro H1
      iapply (wp_load Variants.nat (c : Thread nD τ) (some (k + 1)) E (m := arg5) (View.setOn_subset_set _ _)) $$ H2; iintro H2
      rw [add_one_word]
      iapply (wp_call_spec Variants.nat (c : Thread nD τ) (some (k + 1)) E
        (spec c i arg4 arg5 q0 q1 q2 q3 tri f1 f2 k (BitVec.ofNat 32 (n + 1), _, _, _, _, _, _, _, _, _)) k
        (fun u hu => by cases hu; exact Nat.lt_succ_self k) (ih (n + 1) (by omega) _ _ _ _ _ _ _ _ _))
      rw [spec_apply]; unfold held
      isplitl [H1 H2]
      · isplitl [H1]; · iexact H1
        iexact H2
      iintro ⟨H1, H2⟩
      rw [wp_ret]; imodintro
      simp only [step, add_one_word]
      simp only [View.readAt_eq_ld]
      iapply Hk
      isplitl [H1]; · iexact H1
      iexact H2
    · have hl : loop i q0 q1 q2 q3 tri (arg4.view.read (Elt F) f1) (arg5.view.read (Elt F) f2) (k + 1) (BitVec.ofNat 32 n, w, l0, a0, l1, a1, l2, a2, l3, a3)
          = (BitVec.ofNat 32 n, w, l0, a0, l1, a1, l2, a2, l3, a3) := by rw [loop, if_neg ht]
      rw [hl]
      unfold More at ht
      simp only at ht
      simp only [ht, ↓reduceIte, Prog.pure_eq_ret]
      iintro ⟨H, Hk⟩
      rw [wp_ret]; imodintro
      iapply Hk
      iexact H

end Label

end Cert.Kernel2Ideal.Sb

end
-- ==== Proof.Sb.Spec.lean ====
/-
  Stick-breaking attention as mathematics: for one query the keys' scores `z`, the running sum of softplus terms taken from
  the latest key back, the weights, and the weighted sum of the values — each cut at any key, so that a walk over blocks of
  keys, the latest first, is a chain of equations.
-/
module

public import Idealize.ShloMosaic.Lib.Pointwise
public import Idealize.ShloMosaic.Lib.WordCmp

@[expose] public section

noncomputable section

open Idealize.ShloMosaic

namespace Cert.SbSpec

/-- The softplus of a real: `max z 0 + log (1 + e^(-|z|))`. -/
def spR (z : ℝ) : ℝ := max z 0 + Real.log (1 + Real.exp (-|z|))

theorem coe_max (a b : ℝ) : max (a : EReal) (b : EReal) = ((max a b : ℝ) : EReal) :=
  (EReal.coe_strictMono.monotone.map_max (a := a) (b := b)).symm

theorem absf_coe (z : ℝ) : FloatOps.absf (F := Ideal) (φ := .f32) (z : EReal) = ((|z| : ℝ) : EReal) := by
  show max (z : EReal) (-(z : EReal)) = _
  rw [← EReal.coe_neg, coe_max, abs_eq_max_neg]

theorem log_coe_pos (x : ℝ) (h : 0 < x) : Ideal.log (x : EReal) = ((Real.log x : ℝ) : EReal) := by
  rw [Ideal.log_coe, if_neg (not_le.mpr h)]

/-- The softplus as the kernel writes it. -/
theorem sp_kernel (z : ℝ) : max (z : EReal) 0 + Ideal.log (1 + Ideal.exp (0 - FloatOps.absf (F := Ideal) (φ := .f32) (z : EReal))) = ((spR z : ℝ) : EReal) := by
  rw [absf_coe, zero_sub, ← EReal.coe_neg, Ideal.exp_coe]
  rw [show (1 : EReal) = ((1 : ℝ) : EReal) from rfl, show (0 : EReal) = ((0 : ℝ) : EReal) from rfl, ← EReal.coe_add,
    log_coe_pos _ (by positivity), coe_max, ← EReal.coe_add]
  rfl

theorem spR_nonneg (z : ℝ) : 0 ≤ spR z :=
  add_nonneg (le_max_right _ _) (Real.log_nonneg (by have := Real.exp_pos (-|z|); linarith))

/-- The softplus at the negated score. -/
theorem spR_neg (z : ℝ) : spR (-z) = spR z - z := by
  unfold spR
  rw [abs_neg]
  have : max (-z) 0 = max z 0 - z := by
    rcases le_total z 0 with h | h
    · rw [max_eq_left (by linarith), max_eq_right h]; ring
    · rw [max_eq_right (by linarith), max_eq_left h]; ring
  rw [this]; ring

variable (z : ℕ → ℝ) (v : ℕ → EReal) (t : ℕ)

/-- The softplus term of a key before the query, zero for a key at or after it. -/
def w (s : ℕ) : ℝ := if s < t then spR (z s) else 0

/-- The sum of the terms of the keys from `s` on. -/
def later (s : ℕ) : ℝ := ∑ j ∈ Finset.Ico s 8192, w z t j

/-- A key's weight. -/
def weight (s : ℕ) : ℝ := if s < t then Real.exp (z s - later z t s) else 0

/-- The weighted values of the keys from `s` on. -/
def acc (s : ℕ) : EReal := ∑ j ∈ Finset.Ico s 8192, (weight z t j : EReal) * v j

theorem w_of_ge (s : ℕ) (h : t ≤ s) : w z t s = 0 := if_neg (by omega)

theorem weight_of_ge (s : ℕ) (h : t ≤ s) : weight z t s = 0 := if_neg (by omega)

/-- Nothing comes from the keys at or after the query. -/
theorem later_of_ge (s : ℕ) (h : t ≤ s) : later z t s = 0 :=
  Finset.sum_eq_zero fun j hj => w_of_ge z t j (h.trans (Finset.mem_Ico.1 hj).1)

theorem acc_of_ge (s : ℕ) (h : t ≤ s) : acc z v t s = 0 :=
  Finset.sum_eq_zero fun j hj => by rw [weight_of_ge z t j (h.trans (Finset.mem_Ico.1 hj).1), EReal.coe_zero, zero_mul]

/-- A sum over an interval whose first `256` indices are split off. -/
theorem sum_block {β : Type} [AddCommMonoid β] (f : ℕ → β) (s : ℕ) (h : s + 256 ≤ 8192) :
    ∑ j ∈ Finset.Ico s 8192, f j = ∑ j ∈ Finset.Ico (s + 256) 8192, f j + ∑ x : Fin 256, f (s + x.val) := by
  rw [← Finset.sum_Ico_consecutive f (show s ≤ s + 256 by omega) h, add_comm]
  congr 1
  rw [Finset.sum_Ico_eq_sum_range, Nat.add_sub_cancel_left, Finset.sum_range]

theorem later_block (s : ℕ) (h : s + 256 ≤ 8192) : later z t s = later z t (s + 256) + ∑ x : Fin 256, w z t (s + x.val) :=
  sum_block _ s h

theorem acc_block (s : ℕ) (h : s + 256 ≤ 8192) :
    acc z v t s = acc z v t (s + 256) + ∑ x : Fin 256, (weight z t (s + x.val) : EReal) * v (s + x.val) :=
  sum_block _ s h

/-- Inside a block of keys: the sum from key `c` on is the block's sum from `c` on, and the later blocks'. -/
theorem later_inside (s : ℕ) (h : s + 256 ≤ 8192) (c : Fin 256) :
    later z t (s + c.val) = later z t (s + 256) + ∑ x : Fin 256, (if c ≤ x then w z t (s + x.val) else 0) := by
  have hc := c.isLt
  unfold later
  rw [← Finset.sum_Ico_consecutive (w z t) (show s + c.val ≤ s + 256 by omega) h, add_comm]
  congr 1
  have e : ∑ x : Fin 256, (if c ≤ x then w z t (s + x.val) else 0) = ∑ j ∈ Finset.range 256, (if c.val ≤ j then w z t (s + j) else 0) := by
    rw [Finset.sum_range]; rfl
  rw [e, ← Finset.sum_filter]
  refine Finset.sum_nbij' (fun j => j - s) (fun j => s + j) ?_ ?_ ?_ ?_ ?_
  · intro j hj; simp only [Finset.mem_Ico, Finset.mem_filter, Finset.mem_range] at hj ⊢; omega
  · intro j hj; simp only [Finset.mem_Ico, Finset.mem_filter, Finset.mem_range] at hj ⊢; omega
  · intro j hj; simp only [Finset.mem_Ico] at hj; show s + (j - s) = j; omega
  · intro j hj; show s + j - s = j; omega
  · intro j hj
    simp only [Finset.mem_Ico] at hj
    rw [show s + (j - s) = j by omega]

/-- A key's weight from its block's sums. -/
theorem weight_inside (s : ℕ) (h : s + 256 ≤ 8192) (c : Fin 256) (hc : s + c.val < t) :
    Ideal.exp ((z (s + c.val) : EReal) - ((∑ x : Fin 256, (if c ≤ x then w z t (s + x.val) else 0) : ℝ) : EReal) - (later z t (s + 256) : EReal))
      = (weight z t (s + c.val) : EReal) := by
  rw [← EReal.coe_sub, ← EReal.coe_sub, Ideal.exp_coe, weight, if_pos hc, later_inside z t s h c]
  congr 2; ring

/-- The triangular product of a real row whose rounding residue is taken beside it. -/
theorem tri_dot (f : Fin 256 → ℝ) (m tri : Fin 256 → EReal) (c : Fin 256) (hm : ∀ x, m x = (f x : EReal)) (ht : ∀ x, tri x = if c ≤ x then 1 else 0) :
    ∑ x, m x * tri x + ∑ x, (m x - m x) * tri x = ((∑ x, (if c ≤ x then f x else 0) : ℝ) : EReal) := by
  have e0 : ∀ x, (m x - m x) * tri x = 0 := by
    intro x; rw [hm, ← EReal.coe_sub, sub_self, EReal.coe_zero, zero_mul]
  simp only [e0, Finset.sum_const_zero, add_zero]
  have e1 : ∀ x, m x * tri x = (((if c ≤ x then f x else 0 : ℝ)) : EReal) := by
    intro x; rw [hm, ht]
    split_ifs
    · rw [mul_one]
    · rw [mul_zero, EReal.coe_zero]
  simp only [e1]
  exact (map_sum (⟨⟨((↑) : ℝ → EReal), rfl⟩, EReal.coe_add⟩ : ℝ →+ EReal) _ _).symm

/-- A choice by a comparison of small numbers. -/
theorem select_slt {α : Type} (a b : ℕ) (ha : a < 2 ^ 31) (hb : b < 2 ^ 31) (p q : α) :
    Scalar.select (IntOp.cmpi .slt (BitVec.ofNat 32 a) (BitVec.ofNat 32 b)) p q = if a < b then p else q := by
  rw [WordCmp.cmpi_slt_ofNat (by simpa using ha) (by simpa using hb)]
  unfold Scalar.select
  by_cases h : a < b <;> simp [h]

theorem acc_congr (z z' : ℕ → ℝ) (v v' : ℕ → EReal) (t s : ℕ) (hz : ∀ s, z s = z' s) (hv : ∀ s, v s = v' s) : acc z v t s = acc z' v' t s := by
  rw [funext hz, funext hv]

/-! ## The attention's result -/

/-- Every element is a real number. -/
def IsFinite {s : Shape} (x : s.Idx → EReal) : Prop := ∀ i, ∃ r : ℝ, x i = (r : EReal)

/-- A sum of products of reals is a real. -/
theorem coe_toReal_dot {n : ℕ} (f g : Fin n → EReal) (hf : ∀ d, ∃ r : ℝ, f d = (r : EReal)) (hg : ∀ d, ∃ r : ℝ, g d = (r : EReal)) :
    ((∑ d, f d * g d).toReal : EReal) = ∑ d, f d * g d := by
  choose a ha using hf
  choose b hb using hg
  have e : ∑ d, f d * g d = ((∑ d, a d * b d : ℝ) : EReal) := by
    simp only [ha, hb, ← EReal.coe_mul]
    exact (map_sum (⟨⟨((↑) : ℝ → EReal), rfl⟩, EReal.coe_add⟩ : ℝ →+ EReal) _ _).symm
  rw [e, EReal.toReal_coe]

section Attention
variable (Q K : (⟨2, ![16384, 512]⟩ : Shape).Idx → EReal) (V : (⟨2, ![16384, 1024]⟩ : Shape).Idx → EReal)

/-- The score of key `s` for query `t` of head `h` in batch `b`: the dot product over the head's 64 lanes. -/
def score (b : Fin 2) (h : Fin 8) (t s : ℕ) : EReal :=
  ∑ d : Fin 64, Q (ix2 ⟨8192 * b.val + t % 8192, by have := b.isLt; omega⟩ ⟨64 * h.val + d.val, by have := h.isLt; have := d.isLt; omega⟩)
    * K (ix2 ⟨8192 * b.val + s % 8192, by have := b.isLt; omega⟩ ⟨64 * h.val + d.val, by have := h.isLt; have := d.isLt; omega⟩)

/-- Lane `d` of head `h` of the result for query `t` of batch `b`. -/
def attn (b : Fin 2) (t : Fin 8192) (h : Fin 8) (d : Fin 64) : EReal :=
  acc (fun s => (score Q K b h t.val s).toReal)
    (fun s => V (ix2 ⟨8192 * b.val + s % 8192, by have := b.isLt; omega⟩ ⟨128 * h.val + d.val, by have := h.isLt; have := d.isLt; omega⟩)) t.val 0

theorem score_real (hQ : IsFinite Q) (hK : IsFinite K) (b : Fin 2) (h : Fin 8) (t s : ℕ) : ((score Q K b h t s).toReal : EReal) = score Q K b h t s :=
  coe_toReal_dot _ _ (fun _ => hQ _) (fun _ => hK _)

/-- The whole result array. -/
def result (x : (⟨2, ![16384, 512]⟩ : Shape).Idx) : EReal :=
  attn Q K V ⟨(x 0).val / 8192, by have h : (x 0).val < 16384 := (x 0).isLt; omega⟩ ⟨(x 0).val % 8192, Nat.mod_lt _ (by decide)⟩
    ⟨(x 1).val / 64, by have h : (x 1).val < 512 := (x 1).isLt; omega⟩ ⟨(x 1).val % 64, Nat.mod_lt _ (by decide)⟩

theorem result_at (R : Fin 16384) (C : Fin 512) (b : Fin 2) (t : Fin 8192) (h : Fin 8) (d : Fin 64) (hR : R.val = 8192 * b.val + t.val)
    (hC : C.val = 64 * h.val + d.val) : result Q K V (ix2 R C) = attn Q K V b t h d := by
  have := t.isLt
  have := d.isLt
  have e1 : R.val / 8192 = b.val := by omega
  have e2 : R.val % 8192 = t.val := by omega
  have e3 : C.val / 64 = h.val := by omega
  have e4 : C.val % 64 = d.val := by omega
  show attn Q K V ⟨R.val / 8192, _⟩ ⟨R.val % 8192, _⟩ ⟨C.val / 64, _⟩ ⟨C.val % 64, _⟩ = _
  simp only [e1, e2, e3, e4]

end Attention

end Cert.SbSpec

end
-- ==== Proof.Sb.Steps.lean ====
/-
  One sub-block of keys at the ideal instance, for one head: what its three variants (an older sub-block, the earlier and the
  later half of the diagonal) do to the running sums and to the weighted values.  The four heads' texts are one text.
-/
module

public import proofs.«01_k».proof.Proof.Sb.BodyIdeal
public import proofs.«01_k».proof.Proof.Sb.Spec

@[expose] public section

set_option maxRecDepth 16384

noncomputable section

namespace Cert.Kernel2Ideal.Sb

open Cert.Kernel2Ideal Cert.Kernel2Ideal.Gen Cert.SbSpec
open Idealize.ShloMosaic Idealize.ShloMosaic.TcCoe

/-- The triangular operand: one where the column is at most the row. -/
def IsTri (tri : FVec Ideal S256x256 .bf16) : Prop := ∀ x c : Fin 256, tri (ix2 x c) = if c ≤ x then (1 : EReal) else 0

/-- A head's state after the keys from `s0` on, for the queries from `t0` on. -/
structure Inv (Z : Fin 512 → ℕ → ℝ) (W : Fin 128 → ℕ → EReal) (t0 s0 : ℕ) (l : FVec Ideal S512x1 .f32) (a : FVec Ideal S512x128 .f32) : Prop where
  sums : ∀ r : Fin 512, l (ix2 r 0) = (later (Z r) (t0 + r.val) s0 : EReal)
  accs : ∀ (r : Fin 512) (d : Fin 128), a (ix2 r d) = acc (Z r) (W d) (t0 + r.val) s0

variable (q : Vec Ideal S512x128 .bf16) (tri : FVec Ideal S256x256 .bf16) (k v : Vec Ideal S256x128 .bf16)
  (l : FVec Ideal S512x1 .f32) (a : FVec Ideal S512x128 .f32) (Z : Fin 512 → ℕ → ℝ) (W : Fin 128 → ℕ → EReal) (t0 s0 : ℕ)

/-! ## An older sub-block -/

theorem score_older (r : Fin 512) (c : Fin 256) : k0_pay62 (F := Ideal) q k (ix2 r c) = ∑ d : Fin 128, q (ix2 r d) * k (ix2 c d) := by
  pointwise [k0_pay62]

section Older
variable (ht : IsTri tri) (hs : s0 + 256 ≤ t0) (hz : ∀ r c, ∑ d : Fin 128, q (ix2 r d) * k (ix2 c d) = (Z r (s0 + c.val) : EReal))
include ht hs hz

theorem tri_older (r : Fin 512) (c : Fin 256) :
    k0_pay63 (F := Ideal) q tri k (ix2 r c) = ((∑ x : Fin 256, (if c ≤ x then w (Z r) (t0 + r.val) (s0 + x.val) else 0) : ℝ) : EReal) := by
  have e : k0_pay63 (F := Ideal) q tri k (ix2 r c)
      = ∑ x, (max (k0_pay62 q k (ix2 r x)) 0 + Ideal.log (1 + Ideal.exp (0 - FloatOps.absf (k0_pay62 q k (ix2 r x))))) * tri (ix2 x c)
        + ∑ x, ((max (k0_pay62 q k (ix2 r x)) 0 + Ideal.log (1 + Ideal.exp (0 - FloatOps.absf (k0_pay62 q k (ix2 r x)))))
          - (max (k0_pay62 q k (ix2 r x)) 0 + Ideal.log (1 + Ideal.exp (0 - FloatOps.absf (k0_pay62 q k (ix2 r x)))))) * tri (ix2 x c) := by
    pointwise [k0_pay63]
  rw [e]
  refine tri_dot (fun x => w (Z r) (t0 + r.val) (s0 + x.val)) (fun x => max (k0_pay62 q k (ix2 r x)) 0 + Ideal.log (1 + Ideal.exp (0 - FloatOps.absf (k0_pay62 q k (ix2 r x)))))
    (fun x => tri (ix2 x c)) c (fun x => ?_) (fun x => ht x c)
  have hx := x.isLt
  show max (k0_pay62 q k (ix2 r x)) 0 + Ideal.log (1 + Ideal.exp (0 - FloatOps.absf (k0_pay62 q k (ix2 r x)))) = _
  rw [score_older, hz, sp_kernel, w, if_pos (by omega)]

theorem older (hb : t0 ≤ 8192) (hv : ∀ c d, v (ix2 c d) = W d (s0 + c.val)) (h : Inv Z W t0 (s0 + 256) l a) :
    Inv Z W t0 s0 (k0_pay64 q tri l k) (k0_pay65 q tri l a k v) where
  sums r := by
    have e : k0_pay64 (F := Ideal) q tri l k (ix2 r 0) = l (ix2 r 0) + k0_pay63 q tri k (ix2 r 0) := by pointwise [k0_pay64]
    rw [e, h.sums, tri_older q tri k Z t0 s0 ht hs hz, later_block _ _ s0 (by omega), EReal.coe_add]
    simp only [Fin.zero_le, if_true]
  accs r d := by
    have e : k0_pay65 (F := Ideal) q tri l a k v (ix2 r d)
        = a (ix2 r d) + ∑ x, Ideal.exp (k0_pay62 q k (ix2 r x) - k0_pay63 q tri k (ix2 r x) - l (ix2 r 0)) * v (ix2 x d) := by pointwise [k0_pay65]
    rw [e, h.accs, acc_block _ _ _ s0 (by omega)]
    congr 1
    refine Finset.sum_congr rfl fun x _ => ?_
    have hx := x.isLt
    rw [score_older, hz, tri_older q tri k Z t0 s0 ht hs hz, h.sums, hv, weight_inside _ _ s0 (by omega) x (by omega)]

end Older

/-! ## The later half of the diagonal: the queries of the second half only, under the mask -/

theorem score_later (r c : Fin 256) : k0_pay20 (F := Ideal) q k (ix2 r c) = ∑ d : Fin 128, q (ix2 ⟨256 + r.val, by have := r.isLt; omega⟩ d) * k (ix2 c d) := by
  pointwise [k0_pay20]

section Later
variable (ht : IsTri tri) (hs : s0 = t0 + 256) (hz : ∀ r c, ∑ d : Fin 128, q (ix2 r d) * k (ix2 c d) = (Z r (s0 + c.val) : EReal))
include ht hs hz

theorem tri_later (r c : Fin 256) :
    k0_pay21 (F := Ideal) q k0_pay10 tri k (ix2 r c)
      = ((∑ x : Fin 256, (if c ≤ x then w (Z ⟨256 + r.val, by have := r.isLt; omega⟩) (t0 + (256 + r.val)) (s0 + x.val) else 0) : ℝ) : EReal) := by
  have hr := r.isLt
  refine Eq.trans ?_ (tri_dot (fun x => w (Z ⟨256 + r.val, by omega⟩) (t0 + (256 + r.val)) (s0 + x.val))
    (fun x => if x.val < r.val then max (k0_pay20 q k (ix2 r x)) 0 + Ideal.log (1 + Ideal.exp (0 - FloatOps.absf (k0_pay20 q k (ix2 r x)))) else 0)
    (fun x => tri (ix2 x c)) c (fun x => ?_) (fun x => ht x c))
  · pointwise [k0_pay21, k0_pay10]
    congr 1 <;> refine Finset.sum_congr rfl fun x _ => ?_ <;> have hx := x.isLt <;>
      simp only [select_slt _ _ (show x.val < 2 ^ 31 by omega) (show r.val < 2 ^ 31 by omega)] <;> split_ifs <;> simp
  · have hx := x.isLt
    show (if x.val < r.val then max (k0_pay20 q k (ix2 r x)) 0 + Ideal.log (1 + Ideal.exp (0 - FloatOps.absf (k0_pay20 q k (ix2 r x)))) else 0) = _
    by_cases hlt : x.val < r.val
    · rw [if_pos hlt, score_later, hz, sp_kernel, w, if_pos (by omega)]
    · rw [if_neg hlt, w, if_neg (by omega), EReal.coe_zero]

theorem diag_later (hb : t0 + 512 ≤ 8192) (hv : ∀ c d, v (ix2 c d) = W d (s0 + c.val)) (h : Inv Z W t0 (s0 + 256) l a) :
    Inv Z W t0 s0 (k0_pay22 q k0_pay10 tri l k) (k0_pay23 q k0_pay10 tri l a k v) where
  sums r := by
    have hr := r.isLt
    have e : k0_pay22 (F := Ideal) q k0_pay10 tri l k (ix2 r 0)
        = if h : r.val < 256 then l (ix2 r 0) else l (ix2 ⟨256 + (r.val - 256), by omega⟩ 0) + k0_pay21 q k0_pay10 tri k (ix2 ⟨r.val - 256, by omega⟩ 0) := by
      pointwise [k0_pay22]
    rw [e]
    by_cases hlt : r.val < 256
    · rw [dif_pos hlt, h.sums, later_of_ge _ _ _ (by omega), later_of_ge _ _ _ (by omega)]
    · rw [dif_neg hlt, h.sums, tri_later q tri k Z t0 s0 ht hs hz, later_block _ _ s0 (by omega), EReal.coe_add]
      have er : (⟨256 + (r.val - 256), by omega⟩ : Fin 512) = r := Fin.ext (by show 256 + (r.val - 256) = r.val; omega)
      simp only [Fin.zero_le, if_true, er, show 256 + (r.val - 256) = r.val by omega]
  accs r d := by
    have hr := r.isLt
    have e : k0_pay23 (F := Ideal) q k0_pay10 tri l a k v (ix2 r d)
        = if h : r.val < 256 then a (ix2 r d) else a (ix2 ⟨256 + (r.val - 256), by omega⟩ d)
          + ∑ x : Fin 256, Scalar.select (IntOp.cmpi .slt (BitVec.ofNat 32 x.val) (BitVec.ofNat 32 (r.val - 256)))
              (Ideal.exp (k0_pay20 q k (ix2 ⟨r.val - 256, by omega⟩ x) - k0_pay21 q k0_pay10 tri k (ix2 ⟨r.val - 256, by omega⟩ x) - l (ix2 ⟨256 + (r.val - 256), by omega⟩ 0)) * v (ix2 x d)) 0 := by
      generalize hm : k0_pay21 (F := Ideal) q k0_pay10 tri k = g
      pointwise [k0_pay23, k0_pay10]
      simp only [k0_pay10] at hm
      rw [hm]
    rw [e]
    by_cases hlt : r.val < 256
    · rw [dif_pos hlt, h.accs, acc_of_ge _ _ _ _ (by omega), acc_of_ge _ _ _ _ (by omega)]
    · have er : (⟨256 + (r.val - 256), by omega⟩ : Fin 512) = r := Fin.ext (by show 256 + (r.val - 256) = r.val; omega)
      rw [dif_neg hlt, h.accs, acc_block _ _ _ s0 (by omega)]
      simp only [er, show 256 + (r.val - 256) = r.val by omega]
      congr 1
      refine Finset.sum_congr rfl fun x _ => ?_
      have hx := x.isLt
      rw [select_slt _ _ (by omega) (by omega)]
      by_cases hlt : x.val < r.val - 256
      · rw [if_pos hlt, score_later, hz, tri_later q tri k Z t0 s0 ht hs hz, h.sums, hv]
        simp only [er, show 256 + (r.val - 256) = r.val by omega]
        rw [weight_inside _ _ s0 (by omega) x (by omega)]
      · rw [if_neg hlt, weight_of_ge _ _ _ (by omega), EReal.coe_zero, zero_mul]

end Later

/-! ## The earlier half of the diagonal: every query, the first half's under the mask -/

theorem score_earlier (r : Fin 512) (c : Fin 256) : k0_pay38 (F := Ideal) q k (ix2 r c) = ∑ d : Fin 128, q (ix2 r d) * k (ix2 c d) := by
  pointwise [k0_pay38]

/-- The running sums moved on by the block's, and the weighted values by the block's, from the block's sums `g` and scores `z`. -/
def sumsE (g : FVec Ideal S512x256 .f32) (l : FVec Ideal S512x1 .f32) : FVec Ideal S512x1 .f32 :=
  addf l (extractStridedSlice S512x1 ![0, 0] g slices_S512x256_o0_0_S512x1)

theorem sumsE_apply (g : FVec Ideal S512x256 .f32) (l : FVec Ideal S512x1 .f32) (r : Fin 512) : sumsE g l (ix2 r 0) = l (ix2 r 0) + g (ix2 r 0) := by
  pointwise [sumsE]

def weightsE (z g : FVec Ideal S512x256 .f32) (l : FVec Ideal S512x1 .f32) : FVec Ideal S512x256 .f32 :=
  concatenate S512x256 0 [⟨S256x256, select k0_pay10 (extractStridedSlice S256x256 ![0, 0] (exp (subf (subf z g) (broadcastTo S512x256 l broadcasts_S512x1_S512x256))) slices_S512x256_o0_0_S256x256) (broadcast S256x256 (Scalar.ofBits .f32 0x00000000#32))⟩,
    ⟨S256x256, extractStridedSlice S256x256 ![256, 0] (exp (subf (subf z g) (broadcastTo S512x256 l broadcasts_S512x1_S512x256))) slices_S512x256_o256_0_S256x256⟩] concatenates_S256x256_S256x256_S512x256_d0

theorem weightsE_apply (z g : FVec Ideal S512x256 .f32) (l : FVec Ideal S512x1 .f32) (r : Fin 512) (x : Fin 256) :
    weightsE z g l (ix2 r x) = if r.val < 256 → x.val < r.val then Ideal.exp (z (ix2 r x) - g (ix2 r x) - l (ix2 r 0)) else 0 := by
  have hr := r.isLt
  have hx := x.isLt
  pointwise [weightsE, k0_pay10]
  by_cases hlt : r.val < 256
  · simp only [hlt, dif_pos, forall_true_left, select_slt _ _ (show x.val < 2 ^ 31 by omega) (show r.val < 2 ^ 31 by omega)]
  · have er : (⟨256 + (r.val - 256), by omega⟩ : Fin 512) = r := Fin.ext (by show 256 + (r.val - 256) = r.val; omega)
    simp only [hlt, dif_neg, not_false_eq_true, false_imp_iff, if_true, er]

def accsE (z g : FVec Ideal S512x256 .f32) (l : FVec Ideal S512x1 .f32) (a : FVec Ideal S512x128 .f32) (v : Vec Ideal S256x128 .bf16) : FVec Ideal S512x128 .f32 :=
  addf a (matmul (φ₂ := .bf16) dot_S512x256_S256x128_S512x128_1_0_0_1_n_n none (truncf .bf16 (weightsE z g l) bitsLt_bf16_f32 : FVec Ideal S512x256 .bf16) v (constant S512x128 .f32 0x00000000#32))

theorem accsE_apply (z g : FVec Ideal S512x256 .f32) (l : FVec Ideal S512x1 .f32) (a : FVec Ideal S512x128 .f32) (v : Vec Ideal S256x128 .bf16) (r : Fin 512) (d : Fin 128) :
    accsE z g l a v (ix2 r d) = a (ix2 r d) + ∑ x : Fin 256, (if r.val < 256 → x.val < r.val then Ideal.exp (z (ix2 r x) - g (ix2 r x) - l (ix2 r 0)) else 0) * v (ix2 x d) := by
  have e : accsE z g l a v (ix2 r d) = a (ix2 r d) + ∑ x : Fin 256, weightsE z g l (ix2 r x) * v (ix2 x d) := by pointwise [accsE]
  rw [e]
  simp only [weightsE_apply]

section Earlier
variable (ht : IsTri tri) (hs : s0 = t0) (hz : ∀ r c, ∑ d : Fin 128, q (ix2 r d) * k (ix2 c d) = (Z r (s0 + c.val) : EReal))

/-- The block's sums. -/
abbrev gE : FVec Ideal S512x256 .f32 := k0_pay41 (F := Ideal) k0_pay10 tri (k0_pay39 q k) (k0_pay40 q k) (Scalar.ofBits .f32 0x3F800000#32)

include ht hs hz

theorem tri_earlier (r : Fin 512) (c : Fin 256) :
    gE q tri k (ix2 r c) = ((∑ x : Fin 256, (if c ≤ x then w (Z r) (t0 + r.val) (s0 + x.val) else 0) : ℝ) : EReal) := by
  have hr := r.isLt
  refine Eq.trans ?_ (tri_dot (fun x => w (Z r) (t0 + r.val) (s0 + x.val))
    (fun x => if r.val < 256 → x.val < r.val then max (k0_pay38 q k (ix2 r x)) 0 + Ideal.log (1 + Ideal.exp (0 - FloatOps.absf (k0_pay38 q k (ix2 r x)))) else 0)
    (fun x => tri (ix2 x c)) c (fun x => ?_) (fun x => ht x c))
  · pointwise [gE, k0_pay41, k0_pay39, k0_pay40, k0_pay10]
    congr 1 <;> refine Finset.sum_congr rfl fun x _ => ?_ <;> have hx := x.isLt <;> by_cases hlt : r.val < 256
    · simp only [hlt, dif_pos, forall_true_left, select_slt _ _ (show x.val < 2 ^ 31 by omega) (show r.val < 2 ^ 31 by omega)]
    · have er : (⟨256 + (r.val - 256), by omega⟩ : Fin 512) = r := Fin.ext (by show 256 + (r.val - 256) = r.val; omega)
      simp only [hlt, dif_neg, not_false_eq_true, false_imp_iff, if_true, er]
    · simp only [hlt, dif_pos, forall_true_left, select_slt _ _ (show x.val < 2 ^ 31 by omega) (show r.val < 2 ^ 31 by omega)]
    · have er : (⟨256 + (r.val - 256), by omega⟩ : Fin 512) = r := Fin.ext (by show 256 + (r.val - 256) = r.val; omega)
      simp only [hlt, dif_neg, not_false_eq_true, false_imp_iff, if_true, er]
  · have hx := x.isLt
    show (if r.val < 256 → x.val < r.val then max (k0_pay38 q k (ix2 r x)) 0 + Ideal.log (1 + Ideal.exp (0 - FloatOps.absf (k0_pay38 q k (ix2 r x)))) else 0) = _
    by_cases hlt : r.val < 256 → x.val < r.val
    · rw [if_pos hlt, score_earlier, hz, sp_kernel, w, if_pos (by omega)]
    · rw [if_neg hlt, w, if_neg (by omega), EReal.coe_zero]

theorem diag_earlier (hb : t0 + 512 ≤ 8192) (hv : ∀ c d, v (ix2 c d) = W d (s0 + c.val)) (h : Inv Z W t0 (s0 + 256) l a) :
    Inv Z W t0 s0 (k0_pay42 k0_pay10 tri l (k0_pay39 q k) (k0_pay40 q k) (Scalar.ofBits .f32 0x3F800000#32))
      (k0_pay43 k0_pay10 tri l a v (k0_pay38 q k) (k0_pay39 q k) (k0_pay40 q k) (Scalar.ofBits .f32 0x3F800000#32)) where
  sums r := by
    have e : k0_pay42 (F := Ideal) k0_pay10 tri l (k0_pay39 q k) (k0_pay40 q k) (Scalar.ofBits .f32 0x3F800000#32) (ix2 r 0) = l (ix2 r 0) + gE q tri k (ix2 r 0) :=
      sumsE_apply (gE q tri k) l r
    rw [e, h.sums, tri_earlier q tri k Z t0 s0 ht hs hz, later_block _ _ s0 (by omega), EReal.coe_add]
    simp only [Fin.zero_le, if_true]
  accs r d := by
    have e : k0_pay43 (F := Ideal) k0_pay10 tri l a v (k0_pay38 q k) (k0_pay39 q k) (k0_pay40 q k) (Scalar.ofBits .f32 0x3F800000#32) (ix2 r d)
        = a (ix2 r d) + ∑ x : Fin 256, (if r.val < 256 → x.val < r.val then Ideal.exp (k0_pay38 q k (ix2 r x) - gE q tri k (ix2 r x) - l (ix2 r 0)) else 0) * v (ix2 x d) := by
      exact accsE_apply (k0_pay38 q k) (gE q tri k) l a v r d
    rw [e, h.accs, acc_block _ _ _ s0 (by omega)]
    congr 1
    refine Finset.sum_congr rfl fun x _ => ?_
    have hx := x.isLt
    by_cases hlt : r.val < 256 → x.val < r.val
    · rw [if_pos hlt, score_earlier, hz, tri_earlier q tri k Z t0 s0 ht hs hz, h.sums, hv, weight_inside _ _ s0 (by omega) x (by omega)]
    · rw [if_neg hlt, weight_of_ge _ _ _ (by omega), EReal.coe_zero, zero_mul, zero_mul]

end Earlier

end Cert.Kernel2Ideal.Sb

end
-- ==== Proof.Sb.Walk.lean ====
/-
  The attention kernel's walk over the keys at the ideal instance: at finite operands the running sums stay finite, the bound
  is `⊤`, and the walk reaches the first key.
-/
module

public import proofs.«01_k».proof.Proof.Sb.Steps

@[expose] public section

set_option maxRecDepth 16384

noncomputable section

namespace Cert.Kernel2Ideal.Sb

open Cert.Kernel2Ideal Cert.Kernel2Ideal.Gen Cert.SbSpec
open Idealize.ShloMosaic Idealize.ShloMosaic.TcCoe

/-! ## The four heads' texts are one -/

section Heads
variable (q : Vec Ideal S512x128 .bf16) (msk : IVec S256x256 1) (tri : FVec Ideal S256x256 .bf16) (k v : Vec Ideal S256x128 .bf16)
  (l : FVec Ideal S512x1 .f32) (a : FVec Ideal S512x128 .f32)

theorem later1_l : k0_pay26 q msk tri l k = k0_pay22 q msk tri l k := rfl
theorem later1_a : k0_pay27 q msk tri l a k v = k0_pay23 q msk tri l a k v := rfl
theorem later2_l : k0_pay30 msk tri l (k0_pay28 q k) (Scalar.ofBits .f32 0x00000000#32) = k0_pay22 q msk tri l k := rfl
theorem later2_a : k0_pay31 msk tri l a v (k0_pay28 q k) (Scalar.ofBits .f32 0x00000000#32) = k0_pay23 q msk tri l a k v := rfl
theorem later3_l : k0_pay36 msk tri l (k0_pay33 q k) (k0_pay34 q k) = k0_pay22 q msk tri l k := rfl
theorem later3_a : k0_pay37 msk tri l a v (k0_pay32 q k) (k0_pay33 q k) (k0_pay34 q k) = k0_pay23 q msk tri l a k v := rfl

/-- The earlier half of the diagonal, of head 0's text. -/
abbrev eL : FVec Ideal S512x1 .f32 := k0_pay42 msk tri l (k0_pay39 q k) (k0_pay40 q k) (Scalar.ofBits .f32 0x3F800000#32)
abbrev eA : FVec Ideal S512x128 .f32 := k0_pay43 msk tri l a v (k0_pay38 q k) (k0_pay39 q k) (k0_pay40 q k) (Scalar.ofBits .f32 0x3F800000#32)

theorem earlier1_l : k0_pay48 tri l (k0_pay45 q k) (k0_pay46 q msk k) = eL q msk tri k l := rfl
theorem earlier1_a : k0_pay49 msk tri l a v (k0_pay44 q k) (k0_pay45 q k) (k0_pay46 q msk k) = eA q msk tri k v l a := rfl
theorem earlier2_l : k0_pay56 tri l (k0_pay53 q msk k) (k0_pay54 q msk tri k) = eL q msk tri k l := rfl
theorem earlier2_a : k0_pay57 msk tri l a v (k0_pay50 q k) (k0_pay53 q msk k) (k0_pay54 q msk tri k) = eA q msk tri k v l a := rfl
theorem earlier3_l : k0_pay1 l (k0_pay59 q msk tri k) = eL q msk tri k l := rfl
theorem earlier3_a : k0_pay2 msk a v (k0_pay60 q msk tri l k) (k0_pay61 q msk tri l k) = eA q msk tri k v l a := rfl

theorem older1_l : k0_pay69 tri l (k0_pay66 q k) (k0_pay67 q k) = k0_pay64 q tri l k := rfl
theorem older1_a : k0_pay70 tri l a v (k0_pay66 q k) (k0_pay67 q k) = k0_pay65 q tri l a k v := rfl
theorem older2_l : k0_pay74 l (k0_pay72 tri q k) = k0_pay64 q tri l k := rfl
theorem older2_a : k0_pay75 l a v (k0_pay73 tri q k) = k0_pay65 q tri l a k v := rfl
theorem older3_l : k0_pay78 tri q l k = k0_pay64 q tri l k := rfl
theorem older3_a : k0_pay79 tri q l a k v = k0_pay65 q tri l a k v := rfl
end Heads

/-! ## The loads -/

theorem ldK (x : Vec Ideal S8192x256 .bf16) (o : Fin 2 → ℕ) (h : ∀ a, o a + S256x128.size a ≤ S8192x256.size a) (s col : ℕ) (e : o = ![s, col])
    (hs : s + 256 ≤ 8192) (hc : col + 128 ≤ 256) (c : Fin 256) (d : Fin 128) :
    View.ld x (rK o h) (ix2 c d) = x (ix2 ⟨s + c.val, by have := c.isLt; omega⟩ ⟨col + d.val, by have := d.isLt; omega⟩) := by
  subst e
  unfold rK
  rw [View.ld_unit]
  pointwise

theorem ldV (x : Vec Ideal S8192x512 .bf16) (o : Fin 2 → ℕ) (h : ∀ a, o a + S256x128.size a ≤ S8192x512.size a) (s col : ℕ) (e : o = ![s, col])
    (hs : s + 256 ≤ 8192) (hc : col + 128 ≤ 512) (c : Fin 256) (d : Fin 128) :
    View.ld x (rV o h) (ix2 c d) = x (ix2 ⟨s + c.val, by have := c.isLt; omega⟩ ⟨col + d.val, by have := d.isLt; omega⟩) := by
  subst e
  unfold rV
  rw [View.ld_unit]
  pointwise

/-! ## The walk goes on while a running sum is finite -/

/-- The least of a column, as the kernel takes it. -/
def least (x : FVec Ideal S512x1 .f32) : Ideal .f32 :=
  extractAt ![0, 0, 0] (shapeCast S1x1x1 (multiReduction .minimumf [1, 2] S1 (shapeCast S1x512x1 x shapeCasts_S512x1_S1x512x1) 0x7F800000#32 reduces_S1x512x1_S1 (.inl rfl) rfl) shapeCasts_S1_S1x1x1) inpos_S1x1x1_p0_0_0

theorem least_le (x : FVec Ideal S512x1 .f32) : (least x : EReal) ≤ x (ix2 0 0) := by
  unfold least
  pointwise
  exact (Finset.fold_min_le _).2 (.inr ⟨(0, 0), Finset.mem_univ _, le_rfl⟩)

theorem flag_zero (x : EReal) (hx : x ≠ ⊤) : Scalar.extui (Scalar.cmpf (F := Ideal) (φ := .f32) .oge x (bound (F := Ideal))) = 0#32 := by
  have e : bound (F := Ideal) = (⊤ : EReal) := IdealRules.named_const.ideal_named_scalar _ _ _ _ rfl
  rw [e]
  have h : Scalar.cmpf (F := Ideal) (φ := .f32) .oge x (⊤ : EReal) = 0#1 := by
    show Ideal.cmp .oge x ⊤ = 0#1
    simp [Ideal.cmp, hx]
  rw [h]; rfl

/-- The least of the four heads' sums is finite when one of head 0's is. -/
theorem least_ne_top (l0 l1 l2 l3 : FVec Ideal S512x1 .f32) (x : ℝ) (hx : l0 (ix2 0 0) = (x : EReal)) :
    (least (minimumf (minimumf (minimumf l0 l1) l2) l3) : EReal) ≠ ⊤ := by
  have h := least_le (minimumf (minimumf (minimumf l0 l1) l2) l3)
  have h2 : (minimumf (minimumf (minimumf l0 l1) l2) l3) (ix2 0 0) ≤ (x : EReal) := by
    rw [← hx]
    show min (min (min (l0 (ix2 0 0) : EReal) (l1 (ix2 0 0))) (l2 (ix2 0 0))) (l3 (ix2 0 0)) ≤ l0 (ix2 0 0)
    exact (min_le_left _ _).trans ((min_le_left _ _).trans (min_le_left _ _))
  exact fun e => absurd (h.trans h2) (by rw [e]; exact not_le.mpr (EReal.coe_lt_top x))

theorem more_of_lt (i : grid0.Coords) (n : ℕ) (hn : n < 2 * (i 2).val) (s : St Ideal) (h1 : s.1 = BitVec.ofNat 32 n) (h2 : s.2.1 = 0#32) : More i s := by
  have H : ∀ j : Fin 16, ∀ n : Fin 32, n.val < 2 * j.val →
      Scalar.andi (Scalar.cmpi .slt (BitVec.ofNat 32 n.val) (Scalar.muli (BitVec.ofNat 32 j.val) 2#32)) (Scalar.cmpi .eq 0#32 0#32) = 1#1 := by decide +kernel
  have hj : (i 2).val < 16 := (i 2).isLt
  unfold More; rw [h1, h2]
  exact H ⟨(i 2).val, hj⟩ ⟨n, by omega⟩ hn

theorem mult3_toNat (i : grid0.Coords) (n : ℕ) (hn : n < 2 * (i 2).val) : (k0_mult3 i (BitVec.ofNat 32 n)).toNat = 512 * (i 2).val - 256 * (n + 1) := by
  have H : ∀ j : Fin 16, ∀ n : Fin 32, n.val < 2 * j.val →
      (BitVec.ofNat 32 j.val * 512#32 - (BitVec.ofNat 32 n.val + 1#32) * 256#32).toNat = 512 * j.val - 256 * (n.val + 1) := by decide +kernel
  have hj : (i 2).val < 16 := (i 2).isLt
  exact H ⟨(i 2).val, hj⟩ ⟨n, by omega⟩ hn

/-! ## The four heads along the walk -/

/-- A head's scores against the key columns from `col` on, and its values in the value columns from `col` on. -/
def Scores (q : Vec Ideal S512x128 .bf16) (x1 : Vec Ideal S8192x256 .bf16) (col : Fin 129) (Z : Fin 512 → ℕ → ℝ) : Prop :=
  ∀ (r : Fin 512) (s : Fin 8192), ∑ d : Fin 128, q (ix2 r d) * x1 (ix2 s ⟨col.val + d.val, by have := col.isLt; have := d.isLt; omega⟩) = (Z r s.val : EReal)
def Vals (x2 : Vec Ideal S8192x512 .bf16) (col : Fin 385) (W : Fin 128 → ℕ → EReal) : Prop :=
  ∀ (s : Fin 8192) (d : Fin 128), x2 (ix2 s ⟨col.val + d.val, by have := col.isLt; have := d.isLt; omega⟩) = W d s.val

variable (i : grid0.Coords) (q0 q1 q2 q3 : Vec Ideal S512x128 .bf16) (tri : FVec Ideal S256x256 .bf16) (x1 : Vec Ideal S8192x256 .bf16)
  (x2 : Vec Ideal S8192x512 .bf16) (Z : Fin 4 → Fin 512 → ℕ → ℝ) (W : Fin 4 → Fin 128 → ℕ → EReal)

/-- The state after `n` trips. -/
structure StInv (n : ℕ) (s : St Ideal) : Prop where
  count : s.1 = BitVec.ofNat 32 n
  flag : s.2.1 = 0#32
  h0 : Inv (Z 0) (W 0) (512 * (i 2).val) (512 * (i 2).val - 256 * n) s.2.2.1 s.2.2.2.1
  h1 : Inv (Z 1) (W 1) (512 * (i 2).val) (512 * (i 2).val - 256 * n) s.2.2.2.2.1 s.2.2.2.2.2.1
  h2 : Inv (Z 2) (W 2) (512 * (i 2).val) (512 * (i 2).val - 256 * n) s.2.2.2.2.2.2.1 s.2.2.2.2.2.2.2.1
  h3 : Inv (Z 3) (W 3) (512 * (i 2).val) (512 * (i 2).val - 256 * n) s.2.2.2.2.2.2.2.2.1 s.2.2.2.2.2.2.2.2.2

theorem inv_zero (Z : Fin 512 → ℕ → ℝ) (W : Fin 128 → ℕ → EReal) (t0 s0 : ℕ) (h : t0 + 512 ≤ s0) (l : FVec Ideal S512x1 .f32) (a : FVec Ideal S512x128 .f32)
    (hl : ∀ r, l (ix2 r 0) = 0) (ha : ∀ r d, a (ix2 r d) = 0) : Inv Z W t0 s0 l a where
  sums r := by have := r.isLt; rw [hl, later_of_ge _ _ _ (by omega), EReal.coe_zero]
  accs r d := by have := r.isLt; rw [ha, acc_of_ge _ _ _ _ (by omega)]

variable (ht : IsTri tri) (z0 : Scores q0 x1 0 (Z 0)) (z1 : Scores q1 x1 0 (Z 1)) (z2 : Scores q2 x1 128 (Z 2)) (z3 : Scores q3 x1 128 (Z 3))
  (v0 : Vals x2 0 (W 0)) (v1 : Vals x2 128 (W 1)) (v2 : Vals x2 256 (W 2)) (v3 : Vals x2 384 (W 3))

/-- The scores and the values of a loaded piece. -/
theorem scores_ld (q : Vec Ideal S512x128 .bf16) (col : Fin 129) (Z : Fin 512 → ℕ → ℝ) (hz : Scores q x1 col Z) (o : Fin 2 → ℕ) (h) (s : ℕ) (e : o = ![s, col.val])
    (hs : s + 256 ≤ 8192) (r : Fin 512) (c : Fin 256) : ∑ d : Fin 128, q (ix2 r d) * View.ld x1 (rK o h) (ix2 c d) = (Z r (s + c.val) : EReal) := by
  have := col.isLt
  have := c.isLt
  rw [← hz r ⟨s + c.val, by omega⟩]
  exact Finset.sum_congr rfl fun d _ => by rw [ldK x1 o h s col.val e hs (by omega)]

theorem vals_ld (col : Fin 385) (W : Fin 128 → ℕ → EReal) (hv : Vals x2 col W) (o : Fin 2 → ℕ) (h) (s : ℕ) (e : o = ![s, col.val])
    (hs : s + 256 ≤ 8192) (c : Fin 256) (d : Fin 128) : View.ld x2 (rV o h) (ix2 c d) = W d (s + c.val) := by
  have := col.isLt
  have := c.isLt
  rw [ldV x2 o h s col.val e hs (by omega), ← hv ⟨s + c.val, by omega⟩ d]

include ht z0 z1 z2 z3 v0 v1 v2 v3

/-- After the diagonal. -/
theorem start_inv : StInv i Z W 0 (start i q0 q1 q2 q3 tri x1 x2) := by
  have hj : (i 2).val < 16 := (i 2).isLt
  have hb : 512 * (i 2).val + 512 ≤ 8192 := by omega
  have n0 : 512 * (i 2).val - 256 * 0 = 512 * (i 2).val := by omega
  have o1 : k0_off1 i 256#32 = ![512 * (i 2).val + 256, 0] := k0_off1_eq i 1
  have o2 : k0_off2 i 256#32 = ![512 * (i 2).val + 256, 0] := k0_off2_eq i 1
  have o3 : k0_off3 i 256#32 = ![512 * (i 2).val + 256, 128] := k0_off3_eq i 1
  have o4 : k0_off4 i 256#32 = ![512 * (i 2).val + 256, 128] := k0_off4_eq i 1
  have o5 : k0_off5 i 256#32 = ![512 * (i 2).val + 256, 256] := k0_off5_eq i 1
  have o6 : k0_off6 i 256#32 = ![512 * (i 2).val + 256, 384] := k0_off6_eq i 1
  have p1 : k0_off1 i 0#32 = ![512 * (i 2).val, 0] := k0_off1_eq i 0
  have p2 : k0_off2 i 0#32 = ![512 * (i 2).val, 0] := k0_off2_eq i 0
  have p3 : k0_off3 i 0#32 = ![512 * (i 2).val, 128] := k0_off3_eq i 0
  have p4 : k0_off4 i 0#32 = ![512 * (i 2).val, 128] := k0_off4_eq i 0
  have p5 : k0_off5 i 0#32 = ![512 * (i 2).val, 256] := k0_off5_eq i 0
  have p6 : k0_off6 i 0#32 = ![512 * (i 2).val, 384] := k0_off6_eq i 0
  have zl : ∀ r : Fin 512, k0_pay12 (F := Ideal) (ix2 r 0) = 0 := fun r => by pointwise [k0_pay12]
  have za : ∀ (r : Fin 512) (d : Fin 128), k0_pay13 (F := Ideal) (ix2 r d) = 0 := fun r d => by pointwise [k0_pay13]
  have head : ∀ (q : Vec Ideal S512x128 .bf16) (Z : Fin 512 → ℕ → ℝ) (W : Fin 128 → ℕ → EReal) (kc : Fin 129) (vc : Fin 385), Scores q x1 kc Z → Vals x2 vc W →
      ∀ (ok1 ok0 : Fin 2 → ℕ) (hk1 hk0) (ov1 ov0 : Fin 2 → ℕ) (hv1 hv0), ok1 = ![512 * (i 2).val + 256, kc.val] → ok0 = ![512 * (i 2).val, kc.val] →
        ov1 = ![512 * (i 2).val + 256, vc.val] → ov0 = ![512 * (i 2).val, vc.val] →
      Inv Z W (512 * (i 2).val) (512 * (i 2).val)
        (eL q k0_pay10 tri (View.ld x1 (rK ok0 hk0)) (k0_pay22 q k0_pay10 tri k0_pay12 (View.ld x1 (rK ok1 hk1))))
        (eA q k0_pay10 tri (View.ld x1 (rK ok0 hk0)) (View.ld x2 (rV ov0 hv0)) (k0_pay22 q k0_pay10 tri k0_pay12 (View.ld x1 (rK ok1 hk1)))
          (k0_pay23 q k0_pay10 tri k0_pay12 k0_pay13 (View.ld x1 (rK ok1 hk1)) (View.ld x2 (rV ov1 hv1)))) := by
    intro q Z W kc vc hz hv ok1 ok0 hk1 hk0 ov1 ov0 hv1 hv0 e1 e0 f1 f0
    refine diag_earlier q tri _ _ _ _ Z W _ _ ht rfl (fun r c => scores_ld x1 q kc Z hz ok0 hk0 _ e0 (by omega) r c) hb
      (fun c d => vals_ld x2 vc W hv ov0 hv0 _ f0 (by omega) c d) ?_
    refine diag_later q tri _ _ _ _ Z W _ _ ht rfl (fun r c => scores_ld x1 q kc Z hz ok1 hk1 _ e1 (by omega) r c) hb
      (fun c d => vals_ld x2 vc W hv ov1 hv1 _ f1 (by omega) c d) ?_
    exact inv_zero Z W _ _ (by omega) _ _ zl za
  have i0 := head q0 (Z 0) (W 0) 0 0 z0 v0 _ _ (k0_off1_inb i 1) (k0_off1_inb i 0) _ _ (k0_off2_inb i 1) (k0_off2_inb i 0) o1 p1 o2 p2
  have i1 := head q1 (Z 1) (W 1) 0 128 z1 v1 _ _ (k0_off1_inb i 1) (k0_off1_inb i 0) _ _ (k0_off3_inb i 1) (k0_off3_inb i 0) o1 p1 o3 p3
  have i2 := head q2 (Z 2) (W 2) 128 256 z2 v2 _ _ (k0_off4_inb i 1) (k0_off4_inb i 0) _ _ (k0_off5_inb i 1) (k0_off5_inb i 0) o4 p4 o5 p5
  have i3 := head q3 (Z 3) (W 3) 128 384 z3 v3 _ _ (k0_off4_inb i 1) (k0_off4_inb i 0) _ _ (k0_off6_inb i 1) (k0_off6_inb i 0) o4 p4 o6 p6
  refine ⟨rfl, ?_, ?_, ?_, ?_, ?_⟩
  · exact flag_zero _ (least_ne_top _ _ _ _ _ (i0.sums 0))
  all_goals rw [n0]
  · exact i0
  · exact i1
  · exact i2
  · exact i3

/-- A trip. -/
theorem step_inv (n : ℕ) (hn : n < 2 * (i 2).val) (s : St Ideal) (hs : StInv i Z W n s) (h : k0_chk1 i s.1) :
    StInv i Z W (n + 1) (step i q0 q1 q2 q3 tri x1 x2 s h) := by
  have hj : (i 2).val < 16 := (i 2).isLt
  obtain ⟨w, f, l0, a0, l1, a1, l2, a2, l3, a3⟩ := s
  obtain ⟨c1, c2, h0, h1, h2, h3⟩ := hs
  simp only at c1 c2 h0 h1 h2 h3
  subst c1
  have hm := mult3_toNat i n hn
  have hb : 512 * (i 2).val - 256 * (n + 1) + 256 = 512 * (i 2).val - 256 * n := by omega
  rw [← hb] at h0 h1 h2 h3
  have o : ∀ col : ℕ, (![(k0_mult3 i (BitVec.ofNat 32 n)).toNat, col] : Fin 2 → ℕ) = ![512 * (i 2).val - 256 * (n + 1), col] := fun col => by rw [hm]
  have head : ∀ (q : Vec Ideal S512x128 .bf16) (Z : Fin 512 → ℕ → ℝ) (W : Fin 128 → ℕ → EReal) (kc : Fin 129) (vc : Fin 385), Scores q x1 kc Z → Vals x2 vc W →
      ∀ (ok : Fin 2 → ℕ) (hk) (ov : Fin 2 → ℕ) (hv), ok = ![512 * (i 2).val - 256 * (n + 1), kc.val] → ov = ![512 * (i 2).val - 256 * (n + 1), vc.val] →
      ∀ (l : FVec Ideal S512x1 .f32) (a : FVec Ideal S512x128 .f32), Inv Z W (512 * (i 2).val) (512 * (i 2).val - 256 * (n + 1) + 256) l a →
      Inv Z W (512 * (i 2).val) (512 * (i 2).val - 256 * (n + 1)) (k0_pay64 q tri l (View.ld x1 (rK ok hk))) (k0_pay65 q tri l a (View.ld x1 (rK ok hk)) (View.ld x2 (rV ov hv))) := by
    intro q Z W kc vc hz hv ok hk ov hv' e f l a hi
    exact older q tri _ _ l a Z W _ _ ht (by omega) (fun r c => scores_ld x1 q kc Z hz ok hk _ e (by omega) r c) (by omega)
      (fun c d => vals_ld x2 vc W hv ov hv' _ f (by omega) c d) hi
  have i0 := head q0 (Z 0) (W 0) 0 0 z0 v0 _ (k0_off7_inb i _ h) _ (k0_off8_inb i _ h) (o 0) (o 0) l0 a0 h0
  have i1 := head q1 (Z 1) (W 1) 0 128 z1 v1 _ (k0_off7_inb i _ h) _ (k0_off9_inb i _ h) (o 0) (o 128) l1 a1 h1
  have i2 := head q2 (Z 2) (W 2) 128 256 z2 v2 _ (k0_off10_inb i _ h) _ (k0_off11_inb i _ h) (o 128) (o 256) l2 a2 h2
  have i3 := head q3 (Z 3) (W 3) 128 384 z3 v3 _ (k0_off10_inb i _ h) _ (k0_off12_inb i _ h) (o 128) (o 384) l3 a3 h3
  refine ⟨add_one_word n, ?_, ?_, ?_, ?_, ?_⟩
  · exact flag_zero _ (least_ne_top _ _ _ _ _ (i0.sums 0))
  · exact i0
  · exact i1
  · exact i2
  · exact i3

/-- The whole walk. -/
theorem loop_inv : ∀ (k n : ℕ), n + k = 2 * (i 2).val → ∀ s, StInv i Z W n s → StInv i Z W (2 * (i 2).val) (loop i q0 q1 q2 q3 tri x1 x2 k s) := by
  intro k
  induction k with
  | zero => intro n hn s hs; rw [loop]; obtain rfl : n = 2 * (i 2).val := by omega
            exact hs
  | succ k ih =>
    intro n hn s hs
    have hc : k0_chk1 i s.1 := by rw [hs.count]; exact chk_of_lt i n (by omega)
    rw [loop, if_pos (more_of_lt i n (by omega) s hs.count hs.flag), dif_pos hc]
    exact ih (n + 1) (by omega) _ (step_inv i q0 q1 q2 q3 tri x1 x2 Z W ht z0 z1 z2 z3 v0 v1 v2 v3 n (by omega) s hs hc)

theorem walk_inv : StInv i Z W (2 * (i 2).val) (loop i q0 q1 q2 q3 tri x1 x2 (2 * (i 2).val) (start i q0 q1 q2 q3 tri x1 x2)) :=
  loop_inv i q0 q1 q2 q3 tri x1 x2 Z W ht z0 z1 z2 z3 v0 v1 v2 v3 _ 0 (by omega) _ (start_inv i q0 q1 q2 q3 tri x1 x2 Z W ht z0 z1 z2 z3 v0 v1 v2 v3)

end Cert.Kernel2Ideal.Sb

end
-- ==== Proof.Sb.FrameIdeal.lean ====
/-
  The attention kernel's frame: the body's triple (`sound_kernel`: the two diagonal sub-blocks executed, the `while` answered by
  `spec`, the two stores covering the result block), the pipeline's proof data, the run, and the claim that the argument
  arrays end as they were launched.
-/
module

public import proofs.«01_k».proof.Proof.Sb.BodyIdeal
public import Idealize.ShloMosaic.Lib.Ring
public import Idealize.ShloMosaic.Lib.Pipeline.FrameBody
public import Idealize.ShloMosaic.Lib.Claim
public import Idealize.ShloMosaic.Lib.Tactic
public import Idealize.ShloMosaic.Lib.WordCmp

@[expose] public section

set_option maxRecDepth 16384

noncomputable section

namespace Cert.Kernel2Ideal.Sb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The entry function up to the kernel -/

/-- A core's buffers when the kernel starts: after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub host_fresh main_chain

/-- No host operation writes an argument array. -/
theorem V_arg (c : Dev nD) (b : Ref sig .tc) (hb : b = main_arg0 ∨ b = main_arg1 ∨ b = main_arg2) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases hb with rfl | rfl | rfl
    all_goals
      repeat' apply And.intro
      all_goals exact StableHlo.devRef_ne_of_ne (by decide)))

/-- Window `w`'s block at a point, of its array as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The body -/

/-- The result block, from the state the walk leaves: heads 0 and 1 in the left half, heads 2 and 3 in the right one. -/
def outOf (s : St F) : Vec F S512x256 .f32 :=
  View.canon [⟨rR, k0_pay5 s.2.2.2.2.2.2.2.1 s.2.2.2.2.2.2.2.2.2⟩, ⟨rL, k0_pay4 s.2.2.2.1 s.2.2.2.2.2.1⟩]

/-- The result block, from the operand blocks. -/
def out (i : grid0.Coords) (x0 : Vec F S512x256 .bf16) (x1 : Vec F S8192x256 .bf16) (x2 : Vec F S8192x512 .bf16) (x3 : Vec F S256x256 .bf16) : Vec F S512x256 .f32 :=
  let q0 := k0_pay6 (View.ld x0 rL)
  let q1 := k0_pay7 (View.ld x0 rL)
  let q2 := k0_pay8 (View.ld x0 rR)
  let q3 := k0_pay9 (View.ld x0 rR)
  let tri := k0_pay11 (View.ld x3 rT)
  outOf (loop i q0 q1 q2 q3 tri x1 x2 (2 * (i 2).val) (start i q0 q1 q2 q3 tri x1 x2))

/-- The two stores cover the result block. -/
theorem cover_out (p0 p1 : Vec F S512x128 .f32) (y : S512x256.Idx) :
    ∃ pc ∈ ([⟨rR, p0⟩, ⟨rL, p1⟩] : List (View.Piece (Elt F) S512x256 .f32)), y ∈ pc.1.set :=
  View.cover_of_tiled [⟨rR, p0⟩, ⟨rL, p1⟩] S512x128.size (by rfl) y

set_option maxHeartbeats 4000000 in
theorem sound_kernel (c : Dev nD) (E : Set ℕ) (i : grid0.Coords) (arg3 : Memref sig .tc .vmem S512x256 .bf16) (harg3 : arg3.IsWhole)
    (arg4 : Memref sig .tc .vmem S8192x256 .bf16) (harg4 : arg4.IsWhole) (arg5 : Memref sig .tc .vmem S8192x512 .bf16) (harg5 : arg5.IsWhole)
    (arg6 : Memref sig .tc .vmem S256x256 .bf16) (harg6 : arg6.IsWhole) (arg7 : Memref sig .tc .vmem S512x256 .f32) (harg7 : arg7.IsWhole)
    (x0 : Vec F S512x256 .bf16) (x1 : Vec F S8192x256 .bf16) (x2 : Vec F S8192x512 .bf16) (x3 : Vec F S256x256 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out i x0 x1 x2 x3)) -∗ K ⟨⟩))
      ⊢ wp frame (wpE (defs₀ (F := F)) Variants.nat c none) E (cc0_sb i arg3 harg3 arg4 harg4 arg5 harg5 arg6 harg6 arg7 harg7) K := by
  simp only [cc0_sb_eq_skeleton]; unfold cc0_sb_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  unfold k0_part1_skel k0_part2_skel k0_part3_skel k0_part4_skel k0_part5_skel k0_part6_skel k0_part7_skel k0_part8_skel
  simp only [Prog.lift, Prog.bind_op, Prog.bind_ret, Prog.pure_eq_ret]
  iapply (wp_load Variants.nat (c : Thread nD τ) none E (m := arg3) (View.setOn_subset_set _ _)) $$ H0; iintro H0
  iapply (wp_load Variants.nat (c : Thread nD τ) none E (m := arg3) (View.setOn_subset_set _ _)) $$ H0; iintro H0
  iapply (wp_load Variants.nat (c : Thread nD τ) none E (m := arg6) (View.setOn_subset_set _ _)) $$ H3; iintro H3
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_load Variants.nat (c : Thread nD τ) none E (m := arg4) (View.setOn_subset_set _ _)) $$ H1; iintro H1
  iapply (wp_load Variants.nat (c : Thread nD τ) none E (m := arg5) (View.setOn_subset_set _ _)) $$ H2; iintro H2
  iapply (wp_call_spec Variants.nat (c : Thread nD τ) none E
    (spec c i arg4 arg5 (k0_pay6 (View.ld (arg3.view.read (Elt F) f0) rL)) (k0_pay7 (View.ld (arg3.view.read (Elt F) f0) rL)) (k0_pay8 (View.ld (arg3.view.read (Elt F) f0) rR)) (k0_pay9 (View.ld (arg3.view.read (Elt F) f0) rR))
      (k0_pay11 (View.ld (arg6.view.read (Elt F) f3) rT)) f1 f2 (2 * (i 2).val)
      (start i (k0_pay6 (View.ld (arg3.view.read (Elt F) f0) rL)) (k0_pay7 (View.ld (arg3.view.read (Elt F) f0) rL)) (k0_pay8 (View.ld (arg3.view.read (Elt F) f0) rR)) (k0_pay9 (View.ld (arg3.view.read (Elt F) f0) rR))
      (k0_pay11 (View.ld (arg6.view.read (Elt F) f3) rT)) (arg4.view.read (Elt F) f1) (arg5.view.read (Elt F) f2))) (2 * (i 2).val)
    (fun u hu => nomatch hu)
    (spec_le c i arg4 harg4 arg5 harg5 _ _ _ _ _ f1 f2 E (2 * (i 2).val) 0 (Nat.zero_add _) _ _ _ _ _ _ _ _ _))
  rw [spec_apply]; unfold held
  isplitl [H1 H2]
  · isplitl [H1]; · iexact H1
    iexact H2
  iintro ⟨H1, H2⟩
  generalize hs : loop (F := F) i _ _ _ _ _ _ _ _ _ = s
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold out
  simp only [hs]
  exact View.read_writes_eq_canon _ _ _ (cover_out _ _)

/-! ## The pipeline's proof data -/

/-- The arrays as the kernel finds them; after the body each operand's buffer at its block and the result's at `out`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (grid0.coords t) (iblk m c 0 t) (iblk m c 1 t) (iblk m c 2 t) (iblk m c 3 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = iblk m c 3 t := by dsimp only [dats]; rfl
theorem after4 (c : Dev nD) (t : Fin (cfg0 (F := F)).N) : (dats m 0 c).after 4 t = out (grid0.coords t) (iblk m c 0 t) (iblk m c 1 t) (iblk m c 2 t) (iblk m c 3 t) := by dsimp only [dats]; rfl

/-- An operand's buffer holds its block before the body at every point, fetched there or not. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body is called with at a point, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, body_row]
  exact triple_restated (sound_body m c t) rfl .rfl fun _ => .rfl

/-! ## The run -/

set_option backward.isDefEq.respectTransparency.types false in
set_option maxHeartbeats 800000 in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose)
    (hshare := fun c w => by fin_cases w <;> rfl)
    (howed := fun _ _ => rfl) (V := V m) (hmain := hmain m) (hA := A_eq m) (hΦ := fun _ _ => rfl)

/-- The frame: the argument arrays end as launched and every semaphore counter at zero; and the result array is what the
    pipeline writes back block by block. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
      ∧ ∀ c : Dev nD, r.2.mem ((c.tc : Thread nD τ).loc main_v8) = (dats m 0 c).arrAt 4 (cfg0 (F := F)).N) :=
  (θ_run defs _ _).mono (fun _ h => ⟨⟨fun c => ⟨((h.1 c).1 0).trans (((dats m 0 c).arrAt_in 0 rfl _).trans ((A_eq m c 0).trans (V_arg m c main_arg0 (by simp)))),
      ((h.1 c).1 1).trans (((dats m 0 c).arrAt_in 1 rfl _).trans ((A_eq m c 1).trans (V_arg m c main_arg1 (by simp)))),
      ((h.1 c).1 2).trans (((dats m 0 c).arrAt_in 2 rfl _).trans ((A_eq m c 2).trans (V_arg m c main_arg2 (by simp))))⟩, h.2⟩,
      fun c => (h.1 c).1 4⟩) (run_quiescent m ρ)

end Cert.Kernel2Ideal.Sb

end
-- ==== Proof.Sb.Value.lean ====
/-
  The attention kernel at the ideal instance: what one grid point leaves in its block, and the whole result array.
-/
module

public import proofs.«01_k».proof.Proof.Sb.Walk
public import proofs.«01_k».proof.Proof.Sb.FrameIdeal
public import Idealize.ShloMosaic.Lib.Pipeline.ValueKit

@[expose] public section

set_option maxRecDepth 16384

noncomputable section

namespace Cert.Kernel2Ideal.Sb

open Cert.Kernel2Ideal Cert.Kernel2Ideal.Gen Cert.SbSpec
open Idealize.ShloMosaic Idealize.ShloMosaic.TcCoe

/-! ## One block -/

theorem select_sge {α : Type} (a b : ℕ) (ha : a < 2 ^ 31) (hb : b < 2 ^ 31) (p q : α) :
    Scalar.select (IntOp.cmpi .sge (BitVec.ofNat 32 a) (BitVec.ofNat 32 b)) p q = if b ≤ a then p else q := by
  rw [WordCmp.cmpi_sge_ofNat (by simpa using ha) (by simpa using hb)]
  unfold Scalar.select
  by_cases h : b ≤ a <;> simp [h]

variable (x0 : Vec Ideal S512x256 .bf16) (x1 : Vec Ideal S8192x256 .bf16) (x2 : Vec Ideal S8192x512 .bf16) (x3 : Vec Ideal S256x256 .bf16)

theorem q0_apply (r : Fin 512) (d : Fin 128) : k0_pay6 (View.ld x0 rL) (ix2 r d) = if d.val < 64 then x0 (ix2 r ⟨d.val, by have := d.isLt; omega⟩) else 0 := by
  have := d.isLt
  rw [← select_slt d.val 64 (by omega) (by omega)]
  unfold rL; rw [View.ld_unit]
  pointwise [k0_pay6]

theorem q1_apply (r : Fin 512) (d : Fin 128) : k0_pay7 (View.ld x0 rL) (ix2 r d) = if 64 ≤ d.val then x0 (ix2 r ⟨d.val, by have := d.isLt; omega⟩) else 0 := by
  have := d.isLt
  rw [← select_sge d.val 64 (by omega) (by omega)]
  unfold rL; rw [View.ld_unit]
  pointwise [k0_pay7]

theorem q2_apply (r : Fin 512) (d : Fin 128) : k0_pay8 (View.ld x0 rR) (ix2 r d) = if d.val < 64 then x0 (ix2 r ⟨128 + d.val, by have := d.isLt; omega⟩) else 0 := by
  have := d.isLt
  rw [← select_slt d.val 64 (by omega) (by omega)]
  unfold rR; rw [View.ld_unit]
  pointwise [k0_pay8]

theorem q3_apply (r : Fin 512) (d : Fin 128) : k0_pay9 (View.ld x0 rR) (ix2 r d) = if 64 ≤ d.val then x0 (ix2 r ⟨128 + d.val, by have := d.isLt; omega⟩) else 0 := by
  have := d.isLt
  rw [← select_sge d.val 64 (by omega) (by omega)]
  unfold rR; rw [View.ld_unit]
  pointwise [k0_pay9]

theorem tri_apply (r c : Fin 256) : k0_pay11 (View.ld x3 rT) (ix2 r c) = x3 (ix2 r c) := by
  unfold rT; rw [View.ld_unit]
  pointwise [k0_pay11]

/-- A sum over 128 lanes as two sums over 64. -/
theorem sum_halves (f : Fin 128 → EReal) :
    ∑ d, f d = ∑ d : Fin 64, f ⟨d.val, by have := d.isLt; omega⟩ + ∑ d : Fin 64, f ⟨64 + d.val, by have := d.isLt; omega⟩ :=
  Fin.sum_univ_add (a := 64) (b := 64) f

/-- The score of a key for a query of the block, of head `h` of the block's four. -/
def bscore (h : Fin 4) (r : Fin 512) (s : ℕ) : EReal :=
  ∑ d : Fin 64, x0 (ix2 r ⟨64 * h.val + d.val, by have := h.isLt; have := d.isLt; omega⟩)
    * x1 (ix2 ⟨s % 8192, Nat.mod_lt _ (by decide)⟩ ⟨64 * h.val + d.val, by have := h.isLt; have := d.isLt; omega⟩)

theorem bscore_real (h0 : IsFinite x0) (h1 : IsFinite x1) (h : Fin 4) (r : Fin 512) (s : ℕ) : ((bscore x0 x1 h r s).toReal : EReal) = bscore x0 x1 h r s :=
  coe_toReal_dot _ _ (fun _ => h0 _) (fun _ => h1 _)

/-- An even head's masked queries give its scores. -/
theorem scores_even (h0 : IsFinite x0) (h1 : IsFinite x1) (h : Fin 4) (col : Fin 129) (hc : col.val = 64 * h.val) (q : Vec Ideal S512x128 .bf16)
    (hq : ∀ (r : Fin 512) (d : Fin 128), q (ix2 r d) = if d.val < 64 then x0 (ix2 r ⟨col.val + d.val, by have := col.isLt; have := d.isLt; omega⟩) else 0) :
    Scores q x1 col (fun r s => (bscore x0 x1 h r s).toReal) := by
  intro r s
  have hs := s.isLt
  rw [bscore_real x0 x1 h0 h1, sum_halves]
  have e2 : ∑ d : Fin 64, q (ix2 r ⟨64 + d.val, by have := d.isLt; omega⟩) * x1 (ix2 s ⟨col.val + (64 + d.val), by have := col.isLt; have := d.isLt; omega⟩) = 0 :=
    Finset.sum_eq_zero fun d _ => by rw [hq, if_neg (by show ¬ 64 + d.val < 64; omega), zero_mul]
  rw [show (∑ d : Fin 64, q (ix2 r ⟨64 + d.val, _⟩) * x1 (ix2 s ⟨col.val + (⟨64 + d.val, _⟩ : Fin 128).val, _⟩)) = 0 from e2, add_zero]
  refine Finset.sum_congr rfl fun d _ => ?_
  rw [hq, if_pos d.isLt]
  simp only [hc, Nat.mod_eq_of_lt hs]

/-- An odd head's masked queries give its scores. -/
theorem scores_odd (h0 : IsFinite x0) (h1 : IsFinite x1) (h : Fin 4) (col : Fin 129) (hc : col.val + 64 = 64 * h.val) (q : Vec Ideal S512x128 .bf16)
    (hq : ∀ (r : Fin 512) (d : Fin 128), q (ix2 r d) = if 64 ≤ d.val then x0 (ix2 r ⟨col.val + d.val, by have := col.isLt; have := d.isLt; omega⟩) else 0) :
    Scores q x1 col (fun r s => (bscore x0 x1 h r s).toReal) := by
  intro r s
  have hs := s.isLt
  rw [bscore_real x0 x1 h0 h1, sum_halves]
  have e2 : ∑ d : Fin 64, q (ix2 r ⟨d.val, by have := d.isLt; omega⟩) * x1 (ix2 s ⟨col.val + d.val, by have := col.isLt; have := d.isLt; omega⟩) = 0 :=
    Finset.sum_eq_zero fun d _ => by rw [hq, if_neg (by show ¬ 64 ≤ d.val; have := d.isLt; omega), zero_mul]
  rw [show (∑ d : Fin 64, q (ix2 r ⟨d.val, _⟩) * x1 (ix2 s ⟨col.val + (⟨d.val, _⟩ : Fin 128).val, _⟩)) = 0 from e2, zero_add]
  refine Finset.sum_congr rfl fun d _ => ?_
  rw [hq, if_pos (by show 64 ≤ 64 + d.val; omega)]
  simp only [← hc, Nat.mod_eq_of_lt hs, Nat.add_assoc]

/-- The values of head `h` of the block's four. -/
def bval (h : Fin 4) (d : Fin 128) (s : ℕ) : EReal :=
  x2 (ix2 ⟨s % 8192, Nat.mod_lt _ (by decide)⟩ ⟨128 * h.val + d.val, by have := h.isLt; have := d.isLt; omega⟩)

theorem vals (h : Fin 4) (col : Fin 385) (hc : col.val = 128 * h.val) : Vals x2 col (bval x2 h) := by
  intro s d
  have hs := s.isLt
  unfold bval
  simp only [hc, Nat.mod_eq_of_lt hs]

/-- The left half of the block, and the right one, from the four heads' weighted values. -/
theorem half_apply (a b : FVec Ideal S512x128 .f32) (r : Fin 512) (d : Fin 128) :
    k0_pay4 a b (ix2 r d) = if d.val < 64 then a (ix2 r d) else b (ix2 r ⟨(d.val + 128 - 64) % 128, Nat.mod_lt _ (by decide)⟩) := by
  have := d.isLt
  rw [← select_slt d.val 64 (by omega) (by omega)]
  pointwise [k0_pay4]

theorem canon_apply (a b : FVec Ideal S512x128 .f32) (y : S512x256.Idx) :
    View.canon (Val := Elt Ideal) (e := .f32) [⟨rR, a⟩, ⟨rL, b⟩] y
      = if h : (y 1).val < 128 then b (ix2 (y 0) ⟨(y 1).val, h⟩) else a (ix2 (y 0) ⟨(y 1).val - 128, by have h : (y 1).val < 256 := (y 1).isLt; omega⟩) := by
  refine View.canon_apply_of_pieces (Val := Elt Ideal) (e := .f32)
    (fun y => if h : (y 1).val < 128 then b (ix2 (y 0) ⟨(y 1).val, h⟩) else a (ix2 (y 0) ⟨(y 1).val - 128, by have h : (y 1).val < 256 := (y 1).isLt; omega⟩)) _ ?_ y (cover_out a b y)
  intro pc hpc x
  rcases List.mem_cons.mp hpc with rfl | hpc
  · have hx : (x 1).val < 128 := (x 1).isLt
    have e1 : ((rR.emb x) 1).val = 128 + (x 1).val := by show 128 + 1 * (x 1).val = _; omega
    have e0 : ((rR.emb x) 0).val = (x 0).val := by show 0 + 1 * (x 0).val = _; omega
    show a x = dite _ _ _
    rw [dif_neg (by rw [e1]; omega)]
    congr 1; funext k
    match k with
    | ⟨0, _⟩ => exact Fin.ext e0.symm
    | ⟨1, _⟩ => exact Fin.ext (by show (x 1).val = ((rR.emb x) 1).val - 128; omega)
  rcases List.mem_cons.mp hpc with rfl | hpc
  · have hx : (x 1).val < 128 := (x 1).isLt
    have e1 : ((rL.emb x) 1).val = (x 1).val := by show 0 + 1 * (x 1).val = _; omega
    have e0 : ((rL.emb x) 0).val = (x 0).val := by show 0 + 1 * (x 0).val = _; omega
    show b x = dite _ _ _
    rw [dif_pos (by rw [e1]; omega)]
    congr 1; funext k
    match k with
    | ⟨0, _⟩ => exact Fin.ext e0.symm
    | ⟨1, _⟩ => exact Fin.ext e1.symm
  nomatch hpc

/-- What one grid point leaves at row `r` and column `64 h + d` of its block: the weighted values of head `h`. -/
theorem out_apply (i : grid0.Coords) (h0 : IsFinite x0) (h1 : IsFinite x1) (h3 : IsTri x3) (r : Fin 512) (h : Fin 4) (d : Fin 64) :
    out i x0 x1 x2 x3 (ix2 r ⟨64 * h.val + d.val, by have := h.isLt; have := d.isLt; omega⟩)
      = acc (fun s => (bscore x0 x1 h r s).toReal) (bval x2 h ⟨d.val, by have := d.isLt; omega⟩) (512 * (i 2).val + r.val) 0 := by
  have hd := d.isLt
  have ht : IsTri (k0_pay11 (View.ld x3 rT)) := fun x c => (tri_apply x3 x c).trans (h3 x c)
  have w := walk_inv i (k0_pay6 (View.ld x0 rL)) (k0_pay7 (View.ld x0 rL)) (k0_pay8 (View.ld x0 rR)) (k0_pay9 (View.ld x0 rR)) (k0_pay11 (View.ld x3 rT)) x1 x2
    (fun h r s => (bscore x0 x1 h r s).toReal) (bval x2) ht
    (scores_even x0 x1 h0 h1 0 0 rfl _ fun r d => by rw [q0_apply]; simp only [Fin.val_zero, Nat.zero_add])
    (scores_odd x0 x1 h0 h1 1 0 rfl _ fun r d => by rw [q1_apply]; simp only [Fin.val_zero, Nat.zero_add])
    (scores_even x0 x1 h0 h1 2 128 rfl _ fun r d => by rw [q2_apply]; rfl)
    (scores_odd x0 x1 h0 h1 3 128 rfl _ fun r d => by rw [q3_apply]; rfl)
    (vals x2 0 0 rfl) (vals x2 1 128 rfl) (vals x2 2 256 rfl) (vals x2 3 384 rfl)
  have hz : 512 * (i 2).val - 256 * (2 * (i 2).val) = 0 := by omega
  obtain ⟨-, -, w0, w1, w2, w3⟩ := w
  rw [hz] at w0 w1 w2 w3
  unfold out outOf
  rw [canon_apply]
  match h with
  | 0 =>
    rw [dif_pos (by show 64 * 0 + d.val < 128; omega)]
    refine (half_apply _ _ _ _).trans ?_
    rw [if_pos (by show 64 * 0 + d.val < 64; omega)]
    refine Eq.trans (congrArg _ ?_) (w0.accs r ⟨d.val, by omega⟩)
    congr 1; exact Fin.ext (by show 64 * 0 + d.val = d.val; omega)
  | 1 =>
    rw [dif_pos (by show 64 * 1 + d.val < 128; omega)]
    refine (half_apply _ _ _ _).trans ?_
    rw [if_neg (by show ¬ 64 * 1 + d.val < 64; omega)]
    refine Eq.trans (congrArg _ ?_) (w1.accs r ⟨d.val, by omega⟩)
    congr 1; exact Fin.ext (by show (64 * 1 + d.val + 128 - 64) % 128 = d.val; omega)
  | 2 =>
    rw [dif_neg (by show ¬ 64 * 2 + d.val < 128; omega)]
    refine (half_apply _ _ _ _).trans ?_
    rw [if_pos (by show 64 * 2 + d.val - 128 < 64; omega)]
    refine Eq.trans (congrArg _ ?_) (w2.accs r ⟨d.val, by omega⟩)
    congr 1; exact Fin.ext (by show 64 * 2 + d.val - 128 = d.val; omega)
  | 3 =>
    rw [dif_neg (by show ¬ 64 * 3 + d.val < 128; omega)]
    refine (half_apply _ _ _ _).trans ?_
    rw [if_neg (by show ¬ 64 * 3 + d.val - 128 < 64; omega)]
    refine Eq.trans (congrArg _ ?_) (w3.accs r ⟨d.val, by omega⟩)
    congr 1; exact Fin.ext (by show (64 * 3 + d.val - 128 + 128 - 64) % 128 = d.val; omega)

end Cert.Kernel2Ideal.Sb

end
-- ==== Proof.Sb.Array.lean ====
/-
  The whole result array of the attention kernel at the ideal instance.
-/
module

public import proofs.«01_k».proof.Proof.Sb.Value

@[expose] public section

set_option maxRecDepth 16384

noncomputable section

namespace Cert.Kernel2Ideal.Sb

open Cert.Kernel2Ideal Cert.Kernel2Ideal.Gen Cert.SbSpec
open Idealize.ShloMosaic Idealize.ShloMosaic.TcCoe Idealize.SL.Sem

/-- Each window's block index at point `t = 32 b + 16 p + i`, and the point's last coordinate. -/
theorem idx : ∀ t : Fin grid0.N, win0_0.index t = ![t.val / 32 * 16 + t.val % 16, t.val / 16 % 2] ∧ win0_1.index t = ![t.val / 32, t.val / 16 % 2]
    ∧ win0_2.index t = ![t.val / 32, t.val / 16 % 2] ∧ win0_3.index t = ![0, 0] ∧ win0_4.index t = ![t.val / 32 * 16 + t.val % 16, t.val / 16 % 2]
    ∧ ((grid0.coords t) 2).val = t.val % 16 := by
  decide +kernel

/-- A block whose operands are the right pieces of the arrays holds its piece of the result. -/
theorem block_result (Q K : (⟨2, ![16384, 512]⟩ : Shape).Idx → EReal) (U : (⟨2, ![16384, 1024]⟩ : Shape).Idx → EReal) (hQ : IsFinite Q) (hK : IsFinite K)
    (x0 : Vec Ideal S512x256 .bf16) (x1 : Vec Ideal S8192x256 .bf16) (x2 : Vec Ideal S8192x512 .bf16) (x3 : Vec Ideal S256x256 .bf16)
    (i : grid0.Coords) (b p : Fin 2)
    (e0 : ∀ (r : Fin 512) (c : Fin 256), x0 (ix2 r c) = Q (ix2 ⟨8192 * b.val + (512 * (i 2).val + r.val), by have h : (i 2).val < 16 := (i 2).isLt; have := r.isLt; have := b.isLt; omega⟩ ⟨256 * p.val + c.val, by have := c.isLt; have := p.isLt; omega⟩))
    (e1 : ∀ (s : Fin 8192) (c : Fin 256), x1 (ix2 s c) = K (ix2 ⟨8192 * b.val + s.val, by have := s.isLt; have := b.isLt; omega⟩ ⟨256 * p.val + c.val, by have := c.isLt; have := p.isLt; omega⟩))
    (e2 : ∀ (s : Fin 8192) (c : Fin 512), x2 (ix2 s c) = U (ix2 ⟨8192 * b.val + s.val, by have := s.isLt; have := b.isLt; omega⟩ ⟨512 * p.val + c.val, by have := c.isLt; have := p.isLt; omega⟩))
    (h3 : IsTri x3) (r : Fin 512) (c : Fin 256) :
    out i x0 x1 x2 x3 (ix2 r c) = result Q K U (ix2 ⟨8192 * b.val + (512 * (i 2).val + r.val), by have h : (i 2).val < 16 := (i 2).isLt; have := r.isLt; have := b.isLt; omega⟩ ⟨256 * p.val + c.val, by have := c.isLt; have := p.isLt; omega⟩) := by
  have hi : (i 2).val < 16 := (i 2).isLt
  have hr := r.isLt
  have hc := c.isLt
  have hb := b.isLt
  have hp := p.isLt
  have h0 : IsFinite x0 := fun j => (hQ _).imp fun _ h => (congrArg x0 (eq_ix2 j)).trans ((e0 _ _).trans h)
  have h1 : IsFinite x1 := fun j => (hK _).imp fun _ h => (congrArg x1 (eq_ix2 j)).trans ((e1 _ _).trans h)
  have o := out_apply x0 x1 x2 x3 i h0 h1 h3 r ⟨c.val / 64, by omega⟩ ⟨c.val % 64, by omega⟩
  have ec : (⟨64 * (c.val / 64) + c.val % 64, by omega⟩ : Fin 256) = c := Fin.ext (by show 64 * (c.val / 64) + c.val % 64 = c.val; omega)
  rw [ec] at o
  rw [o]
  rw [result_at Q K U _ _ b ⟨512 * (i 2).val + r.val, by omega⟩ ⟨4 * p.val + c.val / 64, by omega⟩ ⟨c.val % 64, by omega⟩ rfl
    (by show 256 * p.val + c.val = 64 * (4 * p.val + c.val / 64) + c.val % 64; omega)]
  unfold attn
  refine acc_congr _ _ _ _ _ _ (fun s => congrArg EReal.toReal ?_) fun s => ?_
  · unfold bscore score
    refine Finset.sum_congr rfl fun d _ => ?_
    have hd := d.isLt
    have ed : (⟨256 * p.val + (64 * (c.val / 64) + d.val), by omega⟩ : Fin 512) = ⟨64 * (4 * p.val + c.val / 64) + d.val, by omega⟩ := Fin.ext (by show _ + _ = _ + _; omega)
    have et : (⟨8192 * b.val + (512 * (i 2).val + r.val), by omega⟩ : Fin 16384) = ⟨8192 * b.val + (512 * (i 2).val + r.val) % 8192, by omega⟩ := Fin.ext (by show _ + _ = _ + _; omega)
    rw [e0, e1]
    simp only [ed, et]
  · unfold bval
    have hl : 128 * (c.val / 64) + c.val % 64 < 512 := by omega
    have ed : (⟨512 * p.val + (128 * (c.val / 64) + c.val % 64), by omega⟩ : Fin 1024) = ⟨128 * (4 * p.val + c.val / 64) + c.val % 64, by omega⟩ := Fin.ext (by show _ + _ = _ + _; omega)
    rw [e2]
    simp only [ed]

variable (m : (ℓ : Loc nD τ sig) → Buf (Elt Ideal) ℓ)

/-- The triangle the host builds holds one at and right of the diagonal's row, zero elsewhere. -/
theorem tri_block (d : Dev nD) (t : Fin grid0.N) : IsTri (iblk m d 3 t) := by
  intro x c
  blk_simp [iblk, idx t]
  entry_read
  pointwise
  have e : ((View.whole main_v7).slice (win0_3.rect t)).emb (ix2 x c) = ix2 x c := by blk_ext [idx t]
  rw [e]
  have hx := x.isLt
  have hc := c.isLt
  show FloatOps.uitofp FTy.bf16 (IntOp.cmpi CmpIPredicate.sge (BitVec.ofNat 32 x.val) (BitVec.ofNat 32 c.val)) = _
  rw [WordCmp.cmpi_sge_ofNat (by simpa using by omega) (by simpa using by omega)]
  by_cases h : c.val ≤ x.val
  · rw [if_pos (show c ≤ x from h), decide_eq_true h]
    exact congrArg (fun n : ℕ => ((n : ℝ) : EReal)) (rfl : (1#1).toNat = 1) |>.trans (by simp)
  · rw [if_neg (show ¬ c ≤ x from h), decide_eq_false h]
    exact congrArg (fun n : ℕ => ((n : ℝ) : EReal)) (rfl : (0#1).toNat = 0) |>.trans (by simp)

/-- The blocks tile the result array, and each holds its piece of `result`. -/
theorem final (d : Dev nD) (hQ : IsFinite (m ((d : Thread nD τ).loc main_arg0))) (hK : IsFinite (m ((d : Thread nD τ).loc main_arg1))) :
    (dats m 0 d).arrAt 4 (cfg0 (F := Ideal)).N = result (m ((d : Thread nD τ).loc main_arg0)) (m ((d : Thread nD τ).loc main_arg1)) (m ((d : Thread nD τ).loc main_arg2)) := by
  refine (dats m 0 d).arrAt_eq_of_covers 4 _ (by decide +kernel) fun t hf y => ?_
  blk_simp
  rw [after4]
  idx_vars y
  have ht : t.val < 64 := t.isLt
  have hi := (idx t).2.2.2.2.2
  rw [block_result (m ((d : Thread nD τ).loc main_arg0)) (m ((d : Thread nD τ).loc main_arg1)) (m ((d : Thread nD τ).loc main_arg2)) hQ hK
    (iblk m d 0 t) (iblk m d 1 t) (iblk m d 2 t) (iblk m d 3 t) (grid0.coords t) ⟨t.val / 32, by omega⟩ ⟨t.val / 16 % 2, by omega⟩
    (fun r c => by blk_ext [iblk, V_arg, idx t]) (fun s c => by blk_ext [iblk, V_arg, idx t]) (fun s c => by blk_ext [iblk, V_arg, idx t]) (tri_block m d t) y0 y1]
  congr 1
  blk_ext [idx t]

end Cert.Kernel2Ideal.Sb

end
-- ==== Proof.Sb.Reference.lean ====
/-
  The reference's stick-breaking attention at the ideal instance, read index by index.
-/
module

public import proofs.«01_k».proof.Proof.Sb.Spec
public import proofs.«01_k».proof.Proof.Gen.Reference2Ideal.Run
public import Idealize.ShloMosaic.Lib.Pointwise
public import Idealize.ShloMosaic.PureOps.Ideal

@[expose] public section

set_option maxRecDepth 16384

noncomputable section

namespace Cert.Reference2Ideal.Sb

open Cert.Reference2Ideal Cert.Reference2Ideal.Gen Cert.SbSpec
open Idealize.ShloMosaic Idealize.ShloMosaic.TcCoe Idealize.SL.Sem

/-! ## The operations by name -/

variable (q k : FVec Ideal S16384x512 .bf16) (v : FVec Ideal S16384x1024 .bf16)

/-- The scores. -/
def scores : FVec Ideal S2x8x8192x8192 .f32 :=
  Host.dotGeneral dot_S2x8192x8x64_S2x8192x8x64_S2x8x8192x8192_3_3_1_1_02_02 none (shapeCast _ q shapeCasts_S16384x512_S2x8192x8x64) (shapeCast _ k shapeCasts_S16384x512_S2x8192x8x64)

/-- Whether the key is older than the query. -/
def strict : IVec S2x8x8192x8192 1 :=
  broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Zero everywhere. -/
def zeros : FVec Ideal S2x8x8192x8192 .f32 := broadcastInDim S2x8x8192x8192 ![] bcast_S_S2x8x8192x8192 (constant S_ .f32 0x00000000#32)

/-- The logarithm of the sigmoid of minus `x`. -/
def logSig (x : FVec Ideal S2x8x8192x8192 .f32) : FVec Ideal S2x8x8192x8192 .f32 :=
  Host.negf (select (cmpf .une (subf x zeros) (subf x zeros)) (addf x zeros) (addf (maximumf x zeros) (Host.log1p (Host.exp (Host.negf (Host.absf (subf x zeros)))))))

/-- The masked logarithms of one minus beta. -/
def logs (z : FVec Ideal S2x8x8192x8192 .f32) : FVec Ideal S2x8x8192x8192 .f32 := select strict (logSig (Host.negf (Host.negf z))) zeros

/-- Their sums over the keys from each one on. -/
def sums (x : FVec Ideal S2x8x8192x8192 .f32) : FVec Ideal S2x8x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S2x8x8192x8192_S2x8x8192x8192_w1s1p0_0_w1s1p0_0_w1s1p0_0_w8192s1p0_8191 h_S_

/-- The attention weights. -/
def weights (z : FVec Ideal S2x8x8192x8192 .f32) : FVec Ideal S2x8x8192x8192 .bf16 :=
  truncf .bf16 (select strict (Host.exp (addf (logSig (Host.negf z)) (subf (sums (logs z)) (logs z)))) zeros) bitsLt_bf16_f32

/-- The weighted values, as the product leaves them. -/
def mixed (a : FVec Ideal S2x8x8192x8192 .bf16) : FVec Ideal S2x8x64x8192 .f32 :=
  Host.dotGeneral dot_S2x8192x8x64_S2x8x8192x8192_S2x8x64x8192_1_3_3_2_02_01 none (extractStridedSlice S2x8192x8x64 ![0, 0, 0, 0] (shapeCast _ v shapeCasts_S16384x1024_S2x8192x8x128) slices_S2x8192x8x128_S2x8192x8x64_0_0_0_0) a

/-- The result. -/
def whole (x : FVec Ideal S2x8x64x8192 .f32) : FVec Ideal S16384x512 .f32 :=
  shapeCast _ (transpose S2x8192x8x64 [0, 3, 1, 2] x transposes_S2x8x64x8192_S2x8192x8x64_0_3_1_2) shapeCasts_S2x8192x8x64_S16384x512

theorem res_eq (m : (ℓ : Loc nD τ sig) → Buf (Elt Ideal) ℓ) (c : Dev nD) :
    Cert.Reference2Ideal.Value.res_main_v23 m c = whole (mixed (m ((c.tc : Thread nD τ).loc main_arg2)) (weights (scores (m ((c.tc : Thread nD τ).loc main_arg0)) (m ((c.tc : Thread nD τ).loc main_arg1))))) := by
  unfold Cert.Reference2Ideal.Value.res_main_v23 whole mixed weights logs logSig sums zeros strict scores
  rfl

theorem whole_apply (x : FVec Ideal S2x8x64x8192 .f32) (R : Fin 16384) (C : Fin 512) : whole x (ix2 R C) = x (ix4 ⟨R.val / 8192, by have := R.isLt; omega⟩ ⟨C.val / 64, by have := C.isLt; omega⟩ ⟨C.val % 64, Nat.mod_lt _ (by decide)⟩ ⟨R.val % 8192, Nat.mod_lt _ (by decide)⟩) := by
  pointwise [whole]

theorem mixed_apply (a : FVec Ideal S2x8x8192x8192 .bf16) (b : Fin 2) (h : Fin 8) (d : Fin 64) (t : Fin 8192) :
    mixed v a (ix4 b h d t) = ∑ s : Fin 8192, v (ix2 ⟨8192 * b.val + s.val, by have := b.isLt; have := s.isLt; omega⟩ ⟨128 * h.val + d.val, by have := h.isLt; have := d.isLt; omega⟩) * a (ix4 b h t s) := by
  pointwise [mixed]
  simp only [Nat.mul_comm]

theorem scores_apply (b : Fin 2) (h : Fin 8) (t s : Fin 8192) : scores q k (ix4 b h t s) = score q k b h t.val s.val := by
  pointwise [scores]
  unfold score
  simp only [Nat.mul_comm, Nat.mod_eq_of_lt t.isLt, Nat.mod_eq_of_lt s.isLt]

theorem strict_apply (b : Fin 2) (h : Fin 8) (t s : Fin 8192) : strict (ix4 b h t s) = IntOp.cmpi .slt (BitVec.ofNat 32 s.val) (BitVec.ofNat 32 t.val) := by
  pointwise [strict]

theorem zeros_apply (b : Fin 2) (h : Fin 8) (t s : Fin 8192) : zeros (ix4 b h t s) = 0 := by
  pointwise [zeros]

/-! ## The window sum -/

/-- Adding up a list from the left. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The window's shape, and its positions. -/
abbrev win : Shape := ⟨4, ![1, 1, 1, 8192]⟩

def winIdx (j : Fin 8192) : win.Idx := fun a => match a with
  | ⟨0, _⟩ => (0 : Fin 1)
  | ⟨1, _⟩ => (0 : Fin 1)
  | ⟨2, _⟩ => (0 : Fin 1)
  | ⟨3, _⟩ => j

theorem winIdx_bijective : Function.Bijective winIdx := by
  refine ⟨fun a b h => congrFun h 3, fun i => ⟨i 3, funext fun a => ?_⟩⟩
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

theorem sums_apply (x : FVec Ideal S2x8x8192x8192 .f32) (b : Fin 2) (h : Fin 8) (t s : Fin 8192) :
    sums x (ix4 b h t s) = ∑ j : Fin 8192, if hj : s.val + j.val < 8192 then x (ix4 b h t ⟨s.val + j.val, hj⟩) else 0 := by
  have hv : (broadcastInDim S_ ![] bcast_S_S_ (constant (F := Ideal) S_ .f32 0x00000000#32)) (Shape.Idx.first h_S_) = (0 : EReal) := by
    show Ideal.ofBits .f32 0x00000000#32 = 0
    simp
  unfold sums Host.reduceWindowAdd
  rw [hv]
  show Ideal.hostReduceWindowAdd _ _ _ _ _ x 0 (ix4 b h t s) = _
  unfold Ideal.hostReduceWindowAdd Host.reduceWindow
  refine (foldl_add _ _ _).trans ?_
  rw [zero_add, ← Fin.sum_univ_def]
  have hb := b.isLt
  have hh := h.isLt
  have ht := t.isLt
  have hs := s.isLt
  refine Eq.trans (Finset.sum_congr rfl fun n _ => ?_) ((Equiv.sum_comp win.rowMajor.symm (fun w : win.Idx => if hj : s.val + (w 3).val < 8192 then x (ix4 b h t ⟨s.val + (w 3).val, hj⟩) else 0)).trans
    (winIdx_bijective.sum_comp _).symm)
  have i0 : (win.rowMajor.symm n 0).val < 1 := (win.rowMajor.symm n 0).isLt
  have i1 : (win.rowMajor.symm n 1).val < 1 := (win.rowMajor.symm n 1).isLt
  have i2 : (win.rowMajor.symm n 2).val < 1 := (win.rowMajor.symm n 2).isLt
  by_cases hj : s.val + (win.rowMajor.symm n 3).val < 8192
  · refine (dif_pos (fun a => by
      match a with
      | ⟨0, _⟩ => exact ⟨Nat.zero_le _, by show b.val * 1 + (win.rowMajor.symm n 0).val - 0 < 2; omega⟩
      | ⟨1, _⟩ => exact ⟨Nat.zero_le _, by show h.val * 1 + (win.rowMajor.symm n 1).val - 0 < 8; omega⟩
      | ⟨2, _⟩ => exact ⟨Nat.zero_le _, by show t.val * 1 + (win.rowMajor.symm n 2).val - 0 < 8192; omega⟩
      | ⟨3, _⟩ => exact ⟨Nat.zero_le _, by show s.val * 1 + (win.rowMajor.symm n 3).val - 0 < 8192; omega⟩)).trans (Eq.trans ?_ (dif_pos hj).symm)
    refine congrArg x (funext fun a => Fin.ext ?_)
    match a with
    | ⟨0, _⟩ => show b.val * 1 + (win.rowMajor.symm n 0).val - 0 = b.val; omega
    | ⟨1, _⟩ => show h.val * 1 + (win.rowMajor.symm n 1).val - 0 = h.val; omega
    | ⟨2, _⟩ => show t.val * 1 + (win.rowMajor.symm n 2).val - 0 = t.val; omega
    | ⟨3, _⟩ => show s.val * 1 + (win.rowMajor.symm n 3).val - 0 = s.val + (win.rowMajor.symm n 3).val; omega
  · refine (dif_neg fun hin => hj ?_).trans (by show (0 : EReal) = dite _ _ _; rw [dif_neg hj])
    have h3 : s.val * 1 + (win.rowMajor.symm n 3).val - 0 < 8192 := (hin 3).2
    omega

/-! ## At real scores -/

theorem logSig_apply (x : FVec Ideal S2x8x8192x8192 .f32) (b : Fin 2) (h : Fin 8) (t s : Fin 8192) (r : ℝ) (e : x (ix4 b h t s) = (r : EReal)) :
    logSig x (ix4 b h t s) = ((-spR r : ℝ) : EReal) := by
  have k := sp_kernel r
  pointwise [logSig]
  simp only [zeros_apply, e]
  rw [if_neg (by simp), sub_zero]
  unfold Ideal.log1p
  rw [zero_sub] at k
  rw [k, EReal.coe_neg]

theorem weights_apply (z : FVec Ideal S2x8x8192x8192 .f32) (b : Fin 2) (h : Fin 8) (t s : Fin 8192) : weights z (ix4 b h t s)
    = if s.val < t.val then Ideal.exp (logSig (Host.negf z) (ix4 b h t s) + (sums (logs z) (ix4 b h t s) - logs z (ix4 b h t s))) else 0 := by
  rw [← select_slt s.val t.val (by have := s.isLt; omega) (by have := t.isLt; omega), ← strict_apply b h t s, ← zeros_apply b h t s]
  rfl

section Value
variable (z : FVec Ideal S2x8x8192x8192 .f32) (b : Fin 2) (h : Fin 8) (t : Fin 8192) (Z : ℕ → ℝ) (hZ : ∀ s : Fin 8192, z (ix4 b h t s) = (Z s.val : EReal))
include hZ

theorem neg_apply (s : Fin 8192) : (Host.negf z) (ix4 b h t s) = ((-Z s.val : ℝ) : EReal) := by
  rw [EReal.coe_neg, ← hZ]; rfl

theorem logs_apply (s : Fin 8192) : logs z (ix4 b h t s) = ((-w Z t.val s.val : ℝ) : EReal) := by
  have hn : (Host.negf (Host.negf z)) (ix4 b h t s) = (Z s.val : EReal) := by
    show -((Host.negf z) (ix4 b h t s)) = _
    rw [neg_apply z b h t Z hZ, ← EReal.coe_neg, neg_neg]
  show Scalar.select (strict (ix4 b h t s)) (logSig (Host.negf (Host.negf z)) (ix4 b h t s)) (zeros (ix4 b h t s)) = _
  rw [strict_apply, zeros_apply, select_slt s.val t.val (by have := s.isLt; omega) (by have := t.isLt; omega), logSig_apply _ b h t s _ hn]
  unfold w
  split
  · rfl
  · rw [neg_zero]; rfl

theorem sums_logs_apply (s : Fin 8192) : sums (logs z) (ix4 b h t s) = ((-later Z t.val s.val : ℝ) : EReal) := by
  have hs := s.isLt
  rw [sums_apply]
  have e : ∀ j : Fin 8192, (if hj : s.val + j.val < 8192 then logs z (ix4 b h t ⟨s.val + j.val, hj⟩) else 0)
      = (((fun n => if s.val + n < 8192 then -w Z t.val (s.val + n) else 0) j.val : ℝ) : EReal) := fun j => by
    by_cases hj : s.val + j.val < 8192
    · rw [dif_pos hj, logs_apply z b h t Z hZ]; simp only [if_pos hj]
    · rw [dif_neg hj]; simp only [if_neg hj]; rfl
  rw [Finset.sum_congr rfl fun j _ => e j]
  refine (map_sum (⟨⟨((↑) : ℝ → EReal), rfl⟩, EReal.coe_add⟩ : ℝ →+ EReal) _ _).symm.trans ?_
  show ((_ : ℝ) : EReal) = _
  congr 1
  rw [← Finset.sum_range (fun n => if s.val + n < 8192 then -w Z t.val (s.val + n) else 0), ← Finset.sum_filter]
  unfold later
  rw [← Finset.sum_neg_distrib, Finset.sum_Ico_eq_sum_range]
  refine Finset.sum_congr (Finset.ext fun n => ?_) fun _ _ => rfl
  simp only [Finset.mem_filter, Finset.mem_range]
  omega

theorem weights_real (s : Fin 8192) : weights z (ix4 b h t s) = (weight Z t.val s.val : EReal) := by
  rw [weights_apply]
  unfold weight
  by_cases hst : s.val < t.val
  · rw [if_pos hst, if_pos hst, logSig_apply _ b h t s _ (neg_apply z b h t Z hZ s), sums_logs_apply z b h t Z hZ, logs_apply z b h t Z hZ, ← EReal.coe_sub, ← EReal.coe_add, Ideal.exp_coe, spR_neg]
    congr 2
    have : w Z t.val s.val = spR (Z s.val) := if_pos hst
    rw [this]; ring
  · rw [if_neg hst, if_neg hst]; rfl

end Value

/-- The reference's result at finite queries and keys. -/
theorem res_value (hq : IsFinite q) (hk : IsFinite k) : whole (mixed v (weights (scores q k))) = result q k v := by
  funext x
  obtain ⟨R, C, rfl⟩ : ∃ (R : Fin 16384) (C : Fin 512), x = ix2 R C := ⟨x 0, x 1, eq_ix2 x⟩
  have hR := R.isLt
  have hC := C.isLt
  have hs := fun (s : Fin 8192) => scores_apply q k ⟨R.val / 8192, by omega⟩ ⟨C.val / 64, by omega⟩ ⟨R.val % 8192, Nat.mod_lt _ (by decide)⟩ s
  rw [whole_apply, mixed_apply]
  show _ = attn q k v ⟨R.val / 8192, _⟩ ⟨R.val % 8192, _⟩ ⟨C.val / 64, _⟩ ⟨C.val % 64, _⟩
  unfold attn acc
  rw [Nat.Ico_zero_eq_range, Finset.sum_range]
  refine Finset.sum_congr rfl fun s _ => ?_
  rw [weights_real (scores q k) _ _ _ (fun s => (score q k ⟨R.val / 8192, by omega⟩ ⟨C.val / 64, by omega⟩ (R.val % 8192) s).toReal) (fun s => by rw [hs, score_real q k hq hk]) s, mul_comm]
  simp only [Nat.mod_eq_of_lt s.isLt]

end Cert.Reference2Ideal.Sb

end
-- ==== Proof.Sb.Finite.lean ====
/-
  What the attention's precondition says at the ideal instance: every query and key element is a real number.
-/
module

public import proofs.«01_k».proof.Proof.Sb.Spec
public import proofs.«01_k».proof.Proof.Gen.Pre_finite
public import Idealize.ShloMosaic.Lib.ReduceAll
public import Idealize.ShloMosaic.Lib.Pointwise

@[expose] public section

noncomputable section

namespace Cert.Pre_finite.Sb

open Cert.Pre_finite Cert.Pre_finite.Gen Cert.SbSpec
open Idealize.ShloMosaic

/-- A number whose absolute value is less than infinity is real. -/
theorem real_of_abs_lt (x : EReal) (h : FloatOps.cmpf (F := Ideal) (φ := .bf16) .olt (FloatOps.hostAbsf (F := Ideal) (φ := .bf16) x) ⊤ = 1#1) : ∃ r : ℝ, x = (r : EReal) := by
  have h1 : max x (-x) < ⊤ := by
    have h2 : BitVec.ofBool (decide (max x (-x) < ⊤)) = 1#1 := h
    by_contra hn
    rw [decide_eq_false hn] at h2
    exact absurd h2 (by decide)
  refine ⟨x.toReal, (EReal.coe_toReal ?_ ?_).symm⟩
  · rintro rfl; simp at h1
  · rintro rfl; simp at h1

theorem finite_of_all (x : FVec Ideal S16384x512 .bf16)
    (h : ∀ i, cmpf .olt (Host.absf x) (broadcastInDim S16384x512 ![] bcast_S_S16384x512 (constant (F := Ideal) S_ .bf16 0x7F80#16)) i = 1#1) : IsFinite x := by
  intro i
  refine real_of_abs_lt _ ?_
  have e : (⊤ : EReal) = Ideal.ofBits .bf16 0x7F80#16 := by simp [Ideal.ofBits, Ideal.ieee]
  rw [e]
  exact h i

theorem finite_of_fn (q k : FVec Ideal S16384x512 .bf16) (v : FVec Ideal S16384x1024 .bf16) (h : fn (F := Ideal) q k v = fun _ => 1#1) : IsFinite q ∧ IsFinite k := by
  have h0 := congrFun h (ix0)
  unfold fn at h0
  simp only [] at h0
  obtain ⟨a, b⟩ := IntOp.andi_eq_one.1 h0
  exact ⟨finite_of_all q (Host.reduce_andi_all _ _ _ _ _ a), finite_of_all k (Host.reduce_andi_all _ _ _ _ _ b)⟩

end Cert.Pre_finite.Sb

end
-- ==== Proof.Fox.BodyIdeal.lean ====
/-
  The forgetting-attention kernel's body run once: what it leaves in its result block, as a function of its three operand blocks
  and of the two numbers it finds in its first scratch buffer.  The block of keys on the diagonal is straight-line code (`start`);
  the older blocks are the `while` (`loop`), whose scores were left in the second scratch buffer one block ahead; it stops after
  the oldest block or as soon as no older key can be seen.  The label of the `while` is answered by a specification with the
  number of trips that may still come (`spec`), met by induction on that number.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Tactic
public import Idealize.ShloMosaic.Lib.WordCmp

@[expose] public section

set_option maxRecDepth 16384

noncomputable section

namespace Cert.Kernel3Ideal.Fox

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The state of the walk over the keys -/

/-- What the `while` carries: the trips done, whether the rest is out of reach, and per head the maximum of each query's row and
    its row of accumulated values and weights. -/
abbrev St (F : FTy → Type) : Type := BitVec 32 × BitVec 32 × FVec F S512x1 .f32 × FVec F S512x128 .f32 × FVec F S512x1 .f32 × FVec F S512x128 .f32

/-- A 512-row block of the keys (or of the values), and one row of the keys, at an offset. -/
abbrev rK (o : Fin 2 → ℕ) (h : ∀ a, o a + S512x128.size a ≤ S8192x256.size a) : Rect S8192x256 := Rect.unit (s := S8192x256) o S512x128.size h
abbrev rRow (o : Fin 2 → ℕ) (h : ∀ a, o a + S1x128.size a ≤ S8192x256.size a) : Rect S8192x256 := Rect.unit (s := S8192x256) o S1x128.size h
/-- The left and the right half of a block of queries. -/
abbrev rL : Rect S512x256 := Rect.unit (s := S512x256) ![0, 0] S512x128.size inb_S512x256_S512x128_0_0
abbrev rR : Rect S512x256 := Rect.unit (s := S512x256) ![0, 128] S512x128.size inb_S512x256_S512x128_0_128
/-- The two heads' slabs of scores computed ahead. -/
abbrev rS0 : Rect S2x512x512 := Rect.unit (s := S2x512x512) ![0, 0, 0] S1x512x512.size inb_S2x512x512_S1x512x512_0_0_0
abbrev rS1 : Rect S2x512x512 := Rect.unit (s := S2x512x512) ![1, 0, 0] S1x512x512.size inb_S2x512x512_S1x512x512_1_0_0
/-- The whole result block. -/
abbrev rO : Rect S512x128 := Rect.unit (s := S512x128) ![0, 0] S512x128.size inb_S512x128_S512x128_0_0

/-- The bound below which an older key's weight is lost. -/
abbrev bound : F .f32 := Named.named κ "underflow2" 0xC3180000#32

/-- The lanes of the number a key carries. -/
abbrev lanes : IVec S1x128 1 := k0_pay19 (iota .tc S1x128 32 [1] iota_S1x128_d1_w32) k0_pay18

/-- Two slabs side by side. -/
def slabs (s0 s1 : Vec F S1x512x512 .f32) : Vec F S2x512x512 .f32 := View.canon [⟨rS1, s1⟩, ⟨rS0, s0⟩]

/-- After the block of keys on the diagonal. -/
def start (i : grid0.Coords) (q0 q1 : FVec F S512x128 .bf16) (g0 g1 : FVec F S512x1 .f32) (x1 x2 : Vec F S8192x256 .bf16) : St F :=
  let k0 : Vec F S512x128 .bf16 := View.ld x1 (rK (k0_off5 i) (k0_off5_inb i))
  let k1 : Vec F S512x128 .bf16 := View.ld x1 (rK (k0_off6 i) (k0_off6_inb i))
  let s0 := k0_pay26 q0 k0_pay17 k0
  let s1 := k0_pay27 q1 k0_pay17 k1
  (0#32, Scalar.extui (Scalar.cmpf .olt (k0_pay1 g1 lanes (k0_pay30 g0 lanes k0_pay20 s0 (View.ld x1 (rRow (k0_off7 i) (k0_off7_inb i))))
      (k0_pay31 k0_pay22 s1) (View.ld x1 (rRow (k0_off8 i) (k0_off8_inb i)))) bound),
    k0_pay28 k0_pay20 s0, k0_pay29 k0_pay20 k0_pay21 s0 (View.ld x2 (rK (k0_off5 i) (k0_off5_inb i))),
    k0_pay31 k0_pay22 s1, k0_pay32 k0_pay22 k0_pay23 s1 (View.ld x2 (rK (k0_off6 i) (k0_off6_inb i))))

/-- The scores of the block before the diagonal one, left for the first trip. -/
def first (i : grid0.Coords) (q0 q1 : FVec F S512x128 .bf16) (x1 : Vec F S8192x256 .bf16) : Vec F S2x512x512 .f32 :=
  slabs (k0_pay2 (k0_pay24 q0 (View.ld x1 (rK (k0_off3 i) (k0_off3_inb i))))) (k0_pay3 (k0_pay25 q1 (View.ld x1 (rK (k0_off4 i) (k0_off4_inb i)))))

/-- One trip of the `while`: the next older block of keys, for the two heads, from the scores found. -/
def step (i : grid0.Coords) (g0 g1 : FVec F S512x1 .f32) (x1 x2 : Vec F S8192x256 .bf16) (x8 : Vec F S2x512x512 .f32) (s : St F)
    (h : k0_chk1 i s.1) : St F :=
  let s0 : Vec F S1x512x512 .f32 := View.ld x8 rS0
  let s1 := k0_pay34 (View.ld x8 rS1 : Vec F S1x512x512 .f32)
  (Scalar.addi s.1 1#32,
    Scalar.extui (Scalar.cmpf .olt (k0_pay41 lanes g0 g1 s.2.2.2.2.1 s1 (k0_pay37 s.2.2.1 s0) (View.ld x1 (rRow (k0_off12 i s.1) (k0_off12_inb i s.1 h)))
      (View.ld x1 (rRow (k0_off14 i s.1) (k0_off14_inb i s.1 h)))) bound),
    k0_pay37 s.2.2.1 s0, k0_pay38 s.2.2.1 s.2.2.2.1 s0 (View.ld x2 (rK (k0_off11 i s.1) (k0_off11_inb i s.1 h))),
    k0_pay39 s.2.2.2.2.1 s1, k0_pay40 s.2.2.2.2.1 s.2.2.2.2.2 s1 (View.ld x2 (rK (k0_off13 i s.1) (k0_off13_inb i s.1 h))))

/-- The scores a trip leaves for the next one. -/
def ahead (i : grid0.Coords) (q0 q1 : FVec F S512x128 .bf16) (x1 : Vec F S8192x256 .bf16) (n : BitVec 32) (h : k0_chk1 i n) : Vec F S2x512x512 .f32 :=
  slabs (k0_pay5 (k0_pay35 q0 (View.ld x1 (rK (k0_off9 i n) (k0_off9_inb i n h))))) (k0_pay6 (k0_pay36 q1 (View.ld x1 (rK (k0_off10 i n) (k0_off10_inb i n h)))))

/-- Whether another trip is made. -/
def More (i : grid0.Coords) (s : St F) : Prop :=
  Scalar.andi (Scalar.cmpi .slt s.1 (BitVec.ofNat 32 (i 2).val)) (Scalar.cmpi .eq s.2.1 0#32) = 1#1

instance (i : grid0.Coords) (s : St F) : Decidable (More i s) := by unfold More; infer_instance

/-- The state the `while` leaves, with at most `k` more trips. -/
def loop (i : grid0.Coords) (q0 q1 : FVec F S512x128 .bf16) (g0 g1 : FVec F S512x1 .f32) (x1 x2 : Vec F S8192x256 .bf16) :
    ℕ → Vec F S2x512x512 .f32 → St F → St F
  | 0, _, s => s
  | k + 1, x8, s => if More i s then (if h : k0_chk1 i s.1 then loop i q0 q1 g0 g1 x1 x2 k (ahead i q0 q1 x1 s.1 h) (step i g0 g1 x1 x2 x8 s h) else s) else s

/-! ## The words of the counter -/

/-- Below the number of older blocks the trip's offsets are inside the arrays. -/
theorem chk_of_lt (i : grid0.Coords) (n : ℕ) (hn : n < (i 2).val) : k0_chk1 i (BitVec.ofNat 32 n) := by
  have H : ∀ j : Fin 16, ∀ n : Fin 16, n.val < j.val →
      (Scalar.muli (Scalar.maxsi (Scalar.subi (Scalar.subi (Scalar.subi (BitVec.ofNat 32 j.val) 1#32) (BitVec.ofNat 32 n.val)) 1#32) 0#32) 512#32).toNat = 512 * (j.val - 2 - n.val)
      ∧ (Scalar.muli (Scalar.subi (Scalar.subi (BitVec.ofNat 32 j.val) 1#32) (BitVec.ofNat 32 n.val)) 512#32).toNat = 512 * (j.val - 1 - n.val) := by decide +kernel
  have hj : (i 2).val < 16 := (i 2).isLt
  obtain ⟨h0, h1⟩ := H ⟨(i 2).val, hj⟩ ⟨n, by omega⟩ hn
  simp only at h0 h1
  have hm7 : (k0_mult7 i (BitVec.ofNat 32 n)).toNat = 512 * ((i 2).val - 2 - n) := h0
  have hm8 : (k0_mult8 i (BitVec.ofNat 32 n)).toNat = 512 * ((i 2).val - 2 - n) := h0
  have hm9 : (k0_mult9 i (BitVec.ofNat 32 n)).toNat = 512 * ((i 2).val - 1 - n) := h1
  have hk : ∀ (a0 c : ℕ), a0 ≤ 7680 → c ≤ 128 → ∀ a, (![a0, c] : Fin 2 → ℕ) a + S512x128.size a ≤ S8192x256.size a := by
    intro a0 c ha hc a
    fin_cases a
    · show a0 + 512 ≤ 8192; omega
    · show c + 128 ≤ 256; omega
  have hr : ∀ (a0 c : ℕ), a0 ≤ 7680 → c ≤ 128 → ∀ a, (![a0, c] : Fin 2 → ℕ) a + S1x128.size a ≤ S8192x256.size a := by
    intro a0 c ha hc a
    fin_cases a
    · show a0 + 1 ≤ 8192; omega
    · show c + 128 ≤ 256; omega
  have b7 : (k0_mult7 i (BitVec.ofNat 32 n)).toNat ≤ 7680 := by omega
  have b8 : (k0_mult8 i (BitVec.ofNat 32 n)).toNat ≤ 7680 := by omega
  have b9 : (k0_mult9 i (BitVec.ofNat 32 n)).toNat ≤ 7680 := by omega
  exact ⟨by rw [hm7]; omega, hk _ 0 b7 (by omega), by rw [hm8]; omega, hk _ 128 b8 (by omega), by rw [hm9]; omega, hk _ 0 b9 (by omega),
    hr _ 0 b9 (by omega), hk _ 128 b9 (by omega), hr _ 128 b9 (by omega)⟩

/-- With no older block left no further trip is made. -/
theorem not_more (i : grid0.Coords) (s : St F) (h : s.1 = BitVec.ofNat 32 (i 2).val) : ¬ More i s := by
  have H : ∀ j : Fin 16, ∀ b : BitVec 1, ¬ Scalar.andi (Scalar.cmpi .slt (BitVec.ofNat 32 j.val) (BitVec.ofNat 32 j.val)) b = 1#1 := by
    decide +kernel
  unfold More; rw [h]
  exact H ⟨(i 2).val, (i 2).isLt⟩ _

theorem add_one_word (n : ℕ) : Scalar.addi (BitVec.ofNat 32 n) 1#32 = BitVec.ofNat 32 (n + 1) := by
  show BitVec.ofNat 32 n + 1#32 = _
  apply BitVec.eq_of_toNat_eq; simp

/-- The two slabs cover the second scratch buffer. -/
theorem cover_slabs (p0 p1 : Vec F S1x512x512 .f32) (y : S2x512x512.Idx) :
    ∃ pc ∈ ([⟨rS1, p1⟩, ⟨rS0, p0⟩] : List (View.Piece (Elt F) S2x512x512 .f32)), y ∈ pc.1.set :=
  View.cover_of_tiled [⟨rS1, p1⟩, ⟨rS0, p0⟩] S1x512x512.size (by rfl) y

/-- A part of a buffer's elements is among the buffer's elements. -/
theorem slab_sub {s : Shape} {e : EltTy} (arg : Memref sig .tc .vmem s e) (r : Rect s) : (arg.access r).set ⊆ arg.view.set := by
  show (arg.view.slice r).set ⊆ arg.view.set
  rw [View.set_slice]; exact View.setOn_subset_set _ _

/-! ## The label of the `while` -/

section Label
variable (c : Dev nD) (i : grid0.Coords) (arg8 : Memref sig .tc .vmem S2x512x512 .f32) (harg8 : arg8.IsWhole)
  (arg4 : Memref sig .tc .vmem S8192x256 .bf16) (harg4 : arg4.IsWhole)
  (arg5 : Memref sig .tc .vmem S8192x256 .bf16) (harg5 : arg5.IsWhole) (q0 q1 : FVec F S512x128 .bf16) (g0 g1 : FVec F S512x1 .f32)
  (f1 : Buf (Elt F) (arg4.view.loc (c : Thread nD τ))) (f2 : Buf (Elt F) (arg5.view.loc (c : Thread nD τ)))

/-- The two operands the loop reads, held whole. -/
def held : sProp 𝕄 :=
  iprop((arg4.view.loc (c : Thread nD τ) ↦[arg4.view.set]{fullShare} f1) ∗ (arg5.view.loc (c : Thread nD τ) ↦[arg5.view.set]{fullShare} f2))

/-- The second scratch buffer, holding anything. -/
def spare : sProp 𝕄 := iprop(∃ f8, (arg8.view.loc (c : Thread nD τ) ↦[arg8.view.set]{fullShare} f8))

/-- The label's specification with at most `k` trips to come: it reads the two operands and the scores left ahead, and returns
    what `loop` computes. -/
def spec (k : ℕ) (f8 : Buf (Elt F) (arg8.view.loc (c : Thread nD τ))) (s : St F) : sWPT 𝕄 (St F) := do
  sWPT.consume iprop(held c arg4 arg5 f1 f2 ∗ (arg8.view.loc (c : Thread nD τ) ↦[arg8.view.set]{fullShare} f8))
  sWPT.produce iprop(held c arg4 arg5 f1 f2 ∗ spare c arg8)
  pure (loop i q0 q1 g0 g1 (arg4.view.read (Elt F) f1) (arg5.view.read (Elt F) f2) k (arg8.view.read (Elt F) f8) s)

theorem spec_apply (k : ℕ) (f8 : Buf (Elt F) (arg8.view.loc (c : Thread nD τ))) (s : St F) (K : St F → sProp 𝕄) :
    spec c i arg8 arg4 arg5 q0 q1 g0 g1 f1 f2 k f8 s K
      = iprop((held c arg4 arg5 f1 f2 ∗ (arg8.view.loc (c : Thread nD τ) ↦[arg8.view.set]{fullShare} f8)) ∗ ((held c arg4 arg5 f1 f2 ∗ spare c arg8)
        -∗ K (loop i q0 q1 g0 g1 (arg4.view.read (Elt F) f1) (arg5.view.read (Elt F) f2) k (arg8.view.read (Elt F) f8) s))) := rfl

set_option maxHeartbeats 4000000 in
theorem spec_le (E : Set ℕ) : ∀ (k n : ℕ), n + k = (i 2).val → ∀ (f8 : Buf (Elt F) (arg8.view.loc (c : Thread nD τ))) (w : BitVec 32) (m0 : FVec F S512x1 .f32) (a0 : FVec F S512x128 .f32)
    (m1 : FVec F S512x1 .f32) (a1 : FVec F S512x128 .f32)
    (K : St F → sProp 𝕄), spec c i arg8 arg4 arg5 q0 q1 g0 g1 f1 f2 k f8 (BitVec.ofNat 32 n, w, m0, a0, m1, a1) K
      ⊢ wp frame (wpE (defs₀ (F := F)) Variants.nat (c : Thread nD τ) (some k)) E
          (defs₀ (F := F) .tc 1 ⟨i, arg8, harg8, arg4, harg4, q0, q1, arg5, harg5, lanes, g0, g1, BitVec.ofNat 32 n, w, m0, a0, m1, a1⟩) K := by
  intro k
  induction k with
  | zero =>
    intro n hn f8 w m0 a0 m1 a1 K
    rw [spec_apply]
    show _ ⊢ wp frame (wpE (defs₀ (F := F)) Variants.nat (c : Thread nD τ) (some 0)) E
      (cc0_while1 i arg8 harg8 arg4 harg4 q0 q1 arg5 harg5 lanes g0 g1 (BitVec.ofNat 32 n) w m0 a0 m1 a1) K
    simp only [cc0_while1_eq_skeleton]; unfold cc0_while1_skel
    have ht := not_more (F := F) i (BitVec.ofNat 32 n, w, m0, a0, m1, a1) (by show BitVec.ofNat 32 n = _; rw [show n = (i 2).val by omega])
    unfold More at ht
    simp only [ht, ↓reduceIte, Prog.pure_eq_ret]
    iintro ⟨⟨H, H8⟩, Hk⟩
    rw [wp_ret]; imodintro
    simp only [loop]
    iapply Hk
    isplitl [H]; · iexact H
    unfold spare
    iexists _; iexact H8
  | succ k ih =>
    intro n hn f8 w m0 a0 m1 a1 K
    rw [spec_apply]
    show _ ⊢ wp frame (wpE (defs₀ (F := F)) Variants.nat (c : Thread nD τ) (some (k + 1))) E
      (cc0_while1 i arg8 harg8 arg4 harg4 q0 q1 arg5 harg5 lanes g0 g1 (BitVec.ofNat 32 n) w m0 a0 m1 a1) K
    simp only [cc0_while1_eq_skeleton]; unfold cc0_while1_skel
    by_cases ht : More (F := F) i (BitVec.ofNat 32 n, w, m0, a0, m1, a1)
    · have hc : k0_chk1 i (BitVec.ofNat 32 n) := chk_of_lt i n (by omega)
      have hl : loop i q0 q1 g0 g1 (arg4.view.read (Elt F) f1) (arg5.view.read (Elt F) f2) (k + 1) (arg8.view.read (Elt F) f8) (BitVec.ofNat 32 n, w, m0, a0, m1, a1)
          = loop i q0 q1 g0 g1 (arg4.view.read (Elt F) f1) (arg5.view.read (Elt F) f2) k (ahead i q0 q1 (arg4.view.read (Elt F) f1) (BitVec.ofNat 32 n) hc)
            (step i g0 g1 (arg4.view.read (Elt F) f1) (arg5.view.read (Elt F) f2) (arg8.view.read (Elt F) f8) (BitVec.ofNat 32 n, w, m0, a0, m1, a1) hc) := by
        rw [loop, if_pos ht, dif_pos hc]
      rw [hl]
      unfold More at ht
      simp only at ht
      simp only [ht, ↓reduceIte, k0_part4_eq_skeleton, k0_part5_eq_skeleton]
      unfold k0_part4_skel k0_part5_skel
      simp only [Prog.lift, Prog.bind_op, Prog.bind_ret, Prog.pure_eq_ret]
      unfold held
      iintro ⟨⟨⟨H1, H2⟩, H8⟩, Hk⟩
      iapply (wp_assume Variants.nat (c : Thread nD τ) (some (k + 1)) E hc)
      iapply (wp_load Variants.nat (c : Thread nD τ) (some (k + 1)) E (m := arg8) (View.setOn_subset_set _ _)) $$ H8; iintro H8
      iapply (wp_load Variants.nat (c : Thread nD τ) (some (k + 1)) E (m := arg8) (View.setOn_subset_set _ _)) $$ H8; iintro H8
      iapply (wp_load Variants.nat (c : Thread nD τ) (some (k + 1)) E (m := arg4) (View.setOn_subset_set _ _)) $$ H1; iintro H1
      iapply (wp_load Variants.nat (c : Thread nD τ) (some (k + 1)) E (m := arg4) (View.setOn_subset_set _ _)) $$ H1; iintro H1
      iapply (wp_load Variants.nat (c : Thread nD τ) (some (k + 1)) E (m := arg5) (View.setOn_subset_set _ _)) $$ H2; iintro H2
      iapply (wp_load Variants.nat (c : Thread nD τ) (some (k + 1)) E (m := arg4) (View.setOn_subset_set _ _)) $$ H1; iintro H1
      iapply (wp_load Variants.nat (c : Thread nD τ) (some (k + 1)) E (m := arg5) (View.setOn_subset_set _ _)) $$ H2; iintro H2
      iapply (wp_load Variants.nat (c : Thread nD τ) (some (k + 1)) E (m := arg4) (View.setOn_subset_set _ _)) $$ H1; iintro H1
      iapply (wp_load Variants.nat (c : Thread nD τ) (some (k + 1)) E (m := arg8) (View.setOn_subset_set _ _)) $$ H8; iintro H8
      iapply (wp_store_writes₀ Variants.nat (c : Thread nD τ) (some (k + 1)) E (m := arg8) (slab_sub arg8 _)) $$ H8; iintro H8
      iapply (wp_load Variants.nat (c : Thread nD τ) (some (k + 1)) E (m := arg8) (View.setOn_subset_set _ _)) $$ H8; iintro H8
      iapply (wp_store_writes Variants.nat (c : Thread nD τ) (some (k + 1)) E (m := arg8) (slab_sub arg8 _)) $$ H8; iintro H8
      rw [add_one_word]
      iapply (wp_call_spec Variants.nat (c : Thread nD τ) (some (k + 1)) E
        (spec c i arg8 arg4 arg5 q0 q1 g0 g1 f1 f2 k _ (BitVec.ofNat 32 (n + 1), _, _, _, _, _)) k
        (fun u hu => by cases hu; exact Nat.lt_succ_self k) (ih (n + 1) (by omega) _ _ _ _ _ _))
      rw [spec_apply]; unfold held
      isplitl [H1 H2 H8]
      · isplitl [H1 H2]
        · isplitl [H1]; · iexact H1
          iexact H2
        iexact H8
      iintro ⟨⟨H1, H2⟩, H8⟩
      rw [wp_ret]; imodintro
      rw [View.read_writes_eq_canon _ _ _ (cover_slabs _ _)]
      simp only [step, ahead, slabs, add_one_word]
      simp only [View.readAt_eq_ld]
      iapply Hk
      isplitl [H1 H2]
      · isplitl [H1]; · iexact H1
        iexact H2
      iexact H8
    · have hl : loop i q0 q1 g0 g1 (arg4.view.read (Elt F) f1) (arg5.view.read (Elt F) f2) (k + 1) (arg8.view.read (Elt F) f8) (BitVec.ofNat 32 n, w, m0, a0, m1, a1)
          = (BitVec.ofNat 32 n, w, m0, a0, m1, a1) := by rw [loop, if_neg ht]
      rw [hl]
      unfold More at ht
      simp only at ht
      simp only [ht, ↓reduceIte, Prog.pure_eq_ret]
      iintro ⟨⟨H, H8⟩, Hk⟩
      rw [wp_ret]; imodintro
      iapply Hk
      isplitl [H]; · iexact H
      unfold spare
      iexists _; iexact H8

end Label

end Cert.Kernel3Ideal.Fox

end
-- ==== Proof.Fox.Spec.lean ====
/-
  Forgetting attention as mathematics: for one query the keys' scores `z` in base 2, the weights `2^z` over their total, and the
  weighted sum of the values — and the same sums relative to any real number in place of the row's maximum and cut at any key,
  so that a walk over blocks of keys that keeps such a number, the latest block first, is a chain of equations.
-/
module

public import Idealize.ShloMosaic.Lib.Pointwise
public import Idealize.ShloMosaic.Lib.WordCmp
public import Idealize.ShloMosaic.PureOps.Ideal

@[expose] public section

noncomputable section

open Idealize.ShloMosaic

namespace Cert.FoxSpec

/-! ## Sums of extended reals -/

/-- The sum of real numbers, as an extended real. -/
theorem coe_sum {ι : Type} (s : Finset ι) (f : ι → ℝ) : ∑ j ∈ s, (f j : EReal) = ((∑ j ∈ s, f j : ℝ) : EReal) :=
  (map_sum (⟨⟨((↑) : ℝ → EReal), rfl⟩, EReal.coe_add⟩ : ℝ →+ EReal) f s).symm

/-- A real factor that is not negative moves into a sum. -/
theorem mul_sum_coe {ι : Type} (c : ℝ) (hc : 0 ≤ c) (s : Finset ι) (f : ι → EReal) : (c : EReal) * ∑ j ∈ s, f j = ∑ j ∈ s, (c : EReal) * f j := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-! ## One query -/

variable (z : ℕ → ℝ) (v : ℕ → EReal) (t : ℕ)

/-- A key's weight relative to `M`. -/
def wt (M : ℝ) (j : ℕ) : ℝ := (2 : ℝ) ^ (z j - M)

/-- The weighted values of the keys from `s` up to the query, relative to `M`. -/
def acc (M : ℝ) (s : ℕ) : EReal := ∑ j ∈ Finset.Ico s (t + 1), (wt z M j : EReal) * v j

/-- The total of the weights. -/
def total : ℝ := ∑ j ∈ Finset.range (t + 1), (2 : ℝ) ^ z j

/-- The attention's result: the softmax of the scores in base 2, times the values. -/
def attn : EReal := ∑ j ∈ Finset.range (t + 1), (((2 : ℝ) ^ z j / total z t : ℝ) : EReal) * v j

theorem exp2_real (r : ℝ) : Ideal.exp2 (r : EReal) = (((2 : ℝ) ^ r : ℝ) : EReal) := rfl

theorem exp2_sub (a M : ℝ) : Ideal.exp2 ((a : EReal) - (M : EReal)) = (((2 : ℝ) ^ (a - M) : ℝ) : EReal) := by
  rw [← EReal.coe_sub]; rfl

theorem exp2_bot_sub (M : ℝ) : Ideal.exp2 ((⊥ : EReal) - (M : EReal)) = 0 := by
  rw [EReal.bot_sub]; rfl

theorem wt_pos (M : ℝ) (j : ℕ) : 0 < wt z M j := Real.rpow_pos_of_pos (by norm_num) _

theorem wt_rescale (M M' : ℝ) (j : ℕ) : (2 : ℝ) ^ (M - M') * wt z M j = wt z M' j := by
  unfold wt
  rw [← Real.rpow_add (by norm_num)]
  congr 1; ring

/-- Another number in place of `M` rescales the weighted values. -/
theorem acc_rescale (M M' : ℝ) (s : ℕ) : (((2 : ℝ) ^ (M - M') : ℝ) : EReal) * acc z v t M s = acc z v t M' s := by
  unfold acc
  rw [mul_sum_coe _ (Real.rpow_pos_of_pos (by norm_num) _).le]
  refine Finset.sum_congr rfl fun j _ => ?_
  rw [← mul_assoc, ← EReal.coe_mul, wt_rescale]

/-- An older block of 512 keys. -/
theorem acc_block (M : ℝ) (s : ℕ) (h : s + 512 ≤ t + 1) :
    acc z v t M s = acc z v t M (s + 512) + ∑ x : Fin 512, (wt z M (s + x.val) : EReal) * v (s + x.val) := by
  unfold acc
  rw [← Finset.sum_Ico_consecutive _ (show s ≤ s + 512 by omega) h, add_comm]
  congr 1
  rw [Finset.sum_Ico_eq_sum_range, Nat.add_sub_cancel_left, Finset.sum_range]

/-- The block of 512 keys on the diagonal. -/
theorem acc_diag (M : ℝ) (s : ℕ) (r : Fin 512) (h : t = s + r.val) :
    acc z v t M s = ∑ x : Fin 512, (if x.val ≤ r.val then (wt z M (s + x.val) : EReal) else 0) * v (s + x.val) := by
  have hr := r.isLt
  unfold acc
  have e : ∑ x : Fin 512, (if x.val ≤ r.val then (wt z M (s + x.val) : EReal) else 0) * v (s + x.val)
      = ∑ j ∈ Finset.range 512, (if j ≤ r.val then (wt z M (s + j) : EReal) * v (s + j) else 0) := by
    rw [Finset.sum_range]
    refine Finset.sum_congr rfl fun x _ => ?_
    split_ifs
    · rfl
    · exact zero_mul _
  rw [e, ← Finset.sum_filter, Finset.sum_Ico_eq_sum_range]
  refine Finset.sum_congr (Finset.ext fun j => ?_) fun _ _ => rfl
  simp only [Finset.mem_filter, Finset.mem_range]
  omega

theorem total_pos : 0 < total z t :=
  Finset.sum_pos (fun j _ => Real.rpow_pos_of_pos (by norm_num) _) ⟨0, Finset.mem_range.2 (by omega)⟩

/-- The weights' sum relative to `M`. -/
theorem acc_one (M : ℝ) : acc z (fun _ => 1) t M 0 = (((2 : ℝ) ^ (-M) * total z t : ℝ) : EReal) := by
  unfold acc total
  simp only [mul_one]
  rw [coe_sum, Nat.Ico_zero_eq_range, Finset.mul_sum]
  congr 1
  refine Finset.sum_congr rfl fun j _ => ?_
  unfold wt
  rw [← Real.rpow_add (by norm_num)]
  congr 1; ring

theorem div_real (x : EReal) (d : ℝ) (hd : 0 < d) : Ideal.div x (d : EReal) = ((d⁻¹ : ℝ) : EReal) * x := by
  unfold Ideal.div
  rw [if_neg (by exact_mod_cast hd.ne'), mul_comm, EReal.coe_inv]

theorem wt_div (M : ℝ) (j : ℕ) : ((2 : ℝ) ^ (-M) * total z t)⁻¹ * wt z M j = (2 : ℝ) ^ z j / total z t := by
  have hp : 0 < (2 : ℝ) ^ (-M) := Real.rpow_pos_of_pos (by norm_num) _
  have ht := total_pos z t
  have e : wt z M j = (2 : ℝ) ^ (-M) * (2 : ℝ) ^ z j := by
    unfold wt
    rw [← Real.rpow_add (by norm_num)]
    congr 1; ring
  rw [e]
  field_simp

/-- The weighted values over the weights' sum are the attention's result, whatever number they are relative to. -/
theorem acc_div (M : ℝ) : Ideal.div (acc z v t M 0) (acc z (fun _ => 1) t M 0) = attn z v t := by
  have hp : 0 < (2 : ℝ) ^ (-M) := Real.rpow_pos_of_pos (by norm_num) _
  have ht := total_pos z t
  rw [acc_one, div_real _ _ (mul_pos hp ht)]
  unfold acc attn
  rw [mul_sum_coe _ (inv_nonneg.2 (mul_pos hp ht).le), Nat.Ico_zero_eq_range]
  refine Finset.sum_congr rfl fun j _ => ?_
  rw [← mul_assoc, ← EReal.coe_mul]
  rw [wt_div]

theorem attn_congr (z z' : ℕ → ℝ) (v v' : ℕ → EReal) (t : ℕ) (hz : ∀ s, z s = z' s) (hv : ∀ s, v s = v' s) : attn z v t = attn z' v' t := by
  rw [funext hz, funext hv]

/-- A row of weights relative to `M`, zero past the query: each over the row's sum, times the values. -/
theorem row_sum (n : ℕ) (ht : t < n) (M : ℝ) (e : Fin n → EReal) (he : ∀ s : Fin n, e s = if s.val ≤ t then (wt z M s.val : EReal) else 0) :
    ∑ s : Fin n, v s.val * Ideal.div (e s) (∑ j, e j) = attn z v t := by
  have cut : ∀ f : ℕ → EReal, ∑ s : Fin n, (if s.val ≤ t then f s.val else 0) = ∑ j ∈ Finset.range (t + 1), f j := fun f => by
    rw [← Finset.sum_range (fun j => if j ≤ t then f j else 0), ← Finset.sum_filter]
    refine Finset.sum_congr (Finset.ext fun j => ?_) fun _ _ => rfl
    simp only [Finset.mem_filter, Finset.mem_range]
    omega
  have hD : ∑ j, e j = (((2 : ℝ) ^ (-M) * total z t : ℝ) : EReal) := by
    rw [← acc_one]
    unfold acc
    simp only [he, mul_one, Nat.Ico_zero_eq_range]
    exact cut fun j => (wt z M j : EReal)
  have hp : 0 < (2 : ℝ) ^ (-M) * total z t := mul_pos (Real.rpow_pos_of_pos (by norm_num) _) (total_pos z t)
  unfold attn
  rw [hD, ← cut fun j => (((2 : ℝ) ^ z j / total z t : ℝ) : EReal) * v j]
  refine Finset.sum_congr rfl fun s _ => ?_
  rw [div_real _ _ hp, he]
  split_ifs
  · rw [← EReal.coe_mul, wt_div, mul_comm]
  · rw [mul_zero, mul_zero]

/-! ## A row's maximum -/

/-- The maximum of a row of numbers less than infinity, one of them more than minus infinity, is a real number. -/
theorem max_real {n : ℕ} (m : EReal) (f : Fin n → EReal) (hm : m ≠ ⊤) (hf : ∀ x, f x ≠ ⊤) (h : m ≠ ⊥ ∨ ∃ x, f x ≠ ⊥) :
    ∃ M : ℝ, max m (Finset.fold max (Ideal.ofBits .f32 0xFF800000#32) f Finset.univ) = (M : EReal) := by
  have e : Ideal.ofBits .f32 0xFF800000#32 = (⊥ : EReal) := by simp [Ideal.ofBits, Ideal.ieee]
  rw [e]
  refine ⟨_, (EReal.coe_toReal ?_ ?_).symm⟩
  · refine ne_of_lt (max_lt (lt_top_iff_ne_top.2 hm) (Finset.fold_max_lt _ |>.2 ⟨bot_lt_top, fun x _ => lt_top_iff_ne_top.2 (hf x)⟩))
  · refine ne_of_gt (lt_max_iff.2 ?_)
    rcases h with h | ⟨x, hx⟩
    · exact .inl (bot_lt_iff_ne_bot.2 h)
    · exact .inr ((Finset.lt_fold_max _).2 (.inr ⟨x, Finset.mem_univ _, bot_lt_iff_ne_bot.2 hx⟩))

/-- A choice by a comparison of small numbers. -/
theorem select_slt {α : Type} (a b : ℕ) (ha : a < 2 ^ 31) (hb : b < 2 ^ 31) (p q : α) :
    Scalar.select (IntOp.cmpi .slt (BitVec.ofNat 32 a) (BitVec.ofNat 32 b)) p q = if a < b then p else q := by
  rw [WordCmp.cmpi_slt_ofNat (by simpa using ha) (by simpa using hb)]
  unfold Scalar.select
  by_cases h : a < b <;> simp [h]

theorem select_sle {α : Type} (a b : ℕ) (ha : a < 2 ^ 31) (hb : b < 2 ^ 31) (p q : α) :
    Scalar.select (IntOp.cmpi .sle (BitVec.ofNat 32 a) (BitVec.ofNat 32 b)) p q = if a ≤ b then p else q := by
  rw [WordCmp.cmpi_sle_ofNat (by simpa using ha) (by simpa using hb)]
  unfold Scalar.select
  by_cases h : a ≤ b <;> simp [h]

/-! ## The attention's result -/

/-- Every element is a real number. -/
def IsFinite {s : Shape} (x : s.Idx → EReal) : Prop := ∀ i, ∃ r : ℝ, x i = (r : EReal)

/-- A sum of products of reals is a real. -/
theorem coe_toReal_dot {n : ℕ} (f g : Fin n → EReal) (hf : ∀ d, ∃ r : ℝ, f d = (r : EReal)) (hg : ∀ d, ∃ r : ℝ, g d = (r : EReal)) :
    ((∑ d, f d * g d).toReal : EReal) = ∑ d, f d * g d := by
  choose a ha using hf
  choose b hb using hg
  simp only [ha, hb, ← EReal.coe_mul, coe_sum, EReal.toReal_coe]

/-- The kernel's number for log2(e). -/
def lam : ℝ := (Ideal.ofBits .f32 0x3FB8AA3B#32).toReal

theorem lam_pos : Ideal.ofBits .f32 0x3FB8AA3B#32 = (lam : EReal) := by
  unfold lam
  simp [Ideal.ofBits, Ideal.ieee]
  rw [← EReal.coe_mul, EReal.toReal_coe]

theorem lam_neg : Ideal.ofBits .f32 0xBFB8AA3B#32 = ((-lam : ℝ) : EReal) := by
  unfold lam
  simp [Ideal.ofBits, Ideal.ieee]
  rw [← EReal.coe_mul, EReal.toReal_coe]

section Attention
variable (Q K V : (⟨2, ![16384, 512]⟩ : Shape).Idx → EReal) (C : (⟨2, ![16384, 8]⟩ : Shape).Idx → EReal)

/-- The dot product of query `t` and key `s` over the 64 lanes of head `h` in batch `b`. -/
def dot (b : Fin 2) (h : Fin 8) (t s : ℕ) : EReal :=
  ∑ d : Fin 64, Q (ix2 ⟨8192 * b.val + t % 8192, by have := b.isLt; omega⟩ ⟨64 * h.val + d.val, by have := h.isLt; have := d.isLt; omega⟩)
    * K (ix2 ⟨8192 * b.val + s % 8192, by have := b.isLt; omega⟩ ⟨64 * h.val + d.val, by have := h.isLt; have := d.isLt; omega⟩)

/-- The cumulated log forget gate of position `s`. -/
def gate (b : Fin 2) (h : Fin 8) (s : ℕ) : EReal := C (ix2 ⟨8192 * b.val + s % 8192, by have := b.isLt; omega⟩ h)

/-- The score of key `s` for query `t`, up to the query's own gate. -/
def score (b : Fin 2) (h : Fin 8) (t s : ℕ) : ℝ := (dot Q K b h t s).toReal - lam * (gate C b h s).toReal

/-- Lane `d` of head `h` of the result for query `t` of batch `b`. -/
def lane (b : Fin 2) (t : Fin 8192) (h : Fin 8) (d : Fin 64) : EReal :=
  attn (score Q K C b h t.val)
    (fun s => V (ix2 ⟨8192 * b.val + s % 8192, by have := b.isLt; omega⟩ ⟨64 * h.val + d.val, by have := h.isLt; have := d.isLt; omega⟩)) t.val

theorem dot_real (hQ : IsFinite Q) (hK : IsFinite K) (b : Fin 2) (h : Fin 8) (t s : ℕ) : ((dot Q K b h t s).toReal : EReal) = dot Q K b h t s :=
  coe_toReal_dot _ _ (fun _ => hQ _) (fun _ => hK _)

theorem gate_real (hC : IsFinite C) (b : Fin 2) (h : Fin 8) (s : ℕ) : ((gate C b h s).toReal : EReal) = gate C b h s := by
  obtain ⟨r, hr⟩ := hC (ix2 ⟨8192 * b.val + s % 8192, by have := b.isLt; omega⟩ h)
  unfold gate
  rw [hr, EReal.toReal_coe]

/-- The whole result array. -/
def result (x : (⟨2, ![16384, 512]⟩ : Shape).Idx) : EReal :=
  lane Q K V C ⟨(x 0).val / 8192, by have h : (x 0).val < 16384 := (x 0).isLt; omega⟩ ⟨(x 0).val % 8192, Nat.mod_lt _ (by decide)⟩
    ⟨(x 1).val / 64, by have h : (x 1).val < 512 := (x 1).isLt; omega⟩ ⟨(x 1).val % 64, Nat.mod_lt _ (by decide)⟩

theorem result_at (R : Fin 16384) (S : Fin 512) (b : Fin 2) (t : Fin 8192) (h : Fin 8) (d : Fin 64) (hR : R.val = 8192 * b.val + t.val)
    (hS : S.val = 64 * h.val + d.val) : result Q K V C (ix2 R S) = lane Q K V C b t h d := by
  have := t.isLt
  have := d.isLt
  have e1 : R.val / 8192 = b.val := by omega
  have e2 : R.val % 8192 = t.val := by omega
  have e3 : S.val / 64 = h.val := by omega
  have e4 : S.val % 64 = d.val := by omega
  show lane Q K V C ⟨R.val / 8192, _⟩ ⟨R.val % 8192, _⟩ ⟨S.val / 64, _⟩ ⟨S.val % 64, _⟩ = _
  simp only [e1, e2, e3, e4]

end Attention

end Cert.FoxSpec

end
-- ==== Proof.Fox.Steps.lean ====
/-
  One block of keys at the ideal instance, for one head: what it does to the running maximum and to the accumulated values and
  weights, on the diagonal and before it.  The four texts (two heads, on the diagonal and before it) are one text.
-/
module

public import proofs.«01_k».proof.Proof.Fox.BodyIdeal
public import proofs.«01_k».proof.Proof.Fox.Spec

@[expose] public section

set_option maxRecDepth 16384

noncomputable section

namespace Cert.Kernel3Ideal.Fox

open Cert.Kernel3Ideal Cert.Kernel3Ideal.Gen Cert.FoxSpec
open Idealize.ShloMosaic Idealize.ShloMosaic.TcCoe

/-- A head's state after the keys from `s0` on, for the queries from `t0` on: every row's sums are relative to a real number. -/
def Inv (Z : Fin 512 → ℕ → ℝ) (W : Fin 128 → ℕ → EReal) (t0 s0 : ℕ) (m : FVec Ideal S512x1 .f32) (a : FVec Ideal S512x128 .f32) : Prop :=
  ∀ r : Fin 512, ∃ M : ℝ, m (ix2 r 0) = (M : EReal) ∧ ∀ d : Fin 128, a (ix2 r d) = acc (Z r) (W d) (t0 + r.val) M s0

/-! ## The four texts are one -/

section Texts
variable (m : FVec Ideal S512x1 .f32) (a : FVec Ideal S512x128 .f32) (S : FVec Ideal S512x512 .f32) (x : Vec Ideal S1x512x512 .f32) (v : Vec Ideal S512x128 .bf16)

theorem diag1_m : k0_pay31 m S = k0_pay28 m S := rfl
theorem diag1_a : k0_pay32 m a S v = k0_pay29 m a S v := rfl
theorem older0_m : k0_pay37 m x = k0_pay28 m (k0_pay33 x) := rfl
theorem older0_a : k0_pay38 m a x v = k0_pay29 m a (k0_pay33 x) v := rfl
theorem older1_m : k0_pay39 m S = k0_pay28 m S := rfl
theorem older1_a : k0_pay40 m a S v = k0_pay29 m a S v := rfl
theorem slab1 : k0_pay34 x = k0_pay33 x := rfl

theorem max_apply (r : Fin 512) :
    k0_pay28 m S (ix2 r 0) = max (m (ix2 r 0)) (Finset.fold max (Ideal.ofBits FTy.f32 0xFF800000#32) (fun x => S (ix2 r x)) Finset.univ) := by
  pointwise [k0_pay28]

theorem acc_apply (r : Fin 512) (d : Fin 128) : k0_pay29 m a S v (ix2 r d)
    = Ideal.exp2 (m (ix2 r 0) - k0_pay28 m S (ix2 r 0)) * a (ix2 r d) + ∑ x, Ideal.exp2 (S (ix2 r x) - k0_pay28 m S (ix2 r 0)) * v (ix2 x d) := by
  pointwise [k0_pay29]
  rfl
end Texts

variable (q : FVec Ideal S512x128 .bf16) (k : Vec Ideal S512x128 .bf16)
  (m : FVec Ideal S512x1 .f32) (a : FVec Ideal S512x128 .f32) (S : FVec Ideal S512x512 .f32) (v : Vec Ideal S512x128 .bf16)
  (Z : Fin 512 → ℕ → ℝ) (W : Fin 128 → ℕ → EReal) (t0 s0 : ℕ)

/-! ## An older block -/

theorem older (hs : s0 + 512 ≤ t0) (hz : ∀ r c, S (ix2 r c) = (Z r (s0 + c.val) : EReal)) (hv : ∀ c d, v (ix2 c d) = W d (s0 + c.val))
    (h : Inv Z W t0 (s0 + 512) m a) : Inv Z W t0 s0 (k0_pay28 m S) (k0_pay29 m a S v) := by
  intro r
  obtain ⟨M, hM, ha⟩ := h r
  obtain ⟨M', hM'⟩ := max_real (m (ix2 r 0)) (fun x => S (ix2 r x)) (by rw [hM]; exact EReal.coe_ne_top _) (fun x => by show S _ ≠ _; rw [hz]; exact EReal.coe_ne_top _)
    (.inl (by rw [hM]; exact EReal.coe_ne_bot _))
  rw [← max_apply] at hM'
  refine ⟨M', hM', fun d => ?_⟩
  rw [acc_apply, hM', hM, ha, exp2_sub, acc_rescale, acc_block _ _ _ _ s0 (by omega)]
  congr 1
  refine Finset.sum_congr rfl fun x _ => ?_
  rw [hz, hv, exp2_sub]; rfl

/-! ## The block on the diagonal -/

/-- The number a masked score and an unseen maximum are set to. -/
def mask : EReal := Named.named (F := Ideal) (φ := .f32) κ "mask" 0xF149F2CA#32

theorem mask_bot : mask = ⊥ := IdealRules.named_const.ideal_named_scalar _ _ _ _ rfl

theorem start_m (r : Fin 512) : k0_pay20 (F := Ideal) (ix2 r 0) = (⊥ : EReal) := by
  rw [← mask_bot]
  pointwise [k0_pay20]
  rfl

theorem start_a (r : Fin 512) (d : Fin 128) : k0_pay21 (F := Ideal) (ix2 r d) = (0 : EReal) := by
  pointwise [k0_pay21]

theorem diag_score (r c : Fin 512) : k0_pay26 (F := Ideal) q k0_pay17 k (ix2 r c) = if c.val ≤ r.val then ∑ d : Fin 128, q (ix2 r d) * k (ix2 c d) else ⊥ := by
  have := r.isLt
  have := c.isLt
  rw [← select_sle c.val r.val (by omega) (by omega), ← mask_bot]
  pointwise [k0_pay26, k0_pay17]
  rfl

theorem diag (hs : s0 = t0) (hz : ∀ r c, S (ix2 r c) = if c.val ≤ r.val then (Z r (s0 + c.val) : EReal) else ⊥) (hv : ∀ c d, v (ix2 c d) = W d (s0 + c.val))
    (hm : ∀ r, m (ix2 r 0) = (⊥ : EReal)) (ha : ∀ r d, a (ix2 r d) = (0 : EReal)) : Inv Z W t0 s0 (k0_pay28 m S) (k0_pay29 m a S v) := by
  intro r
  obtain ⟨M', hM'⟩ := max_real (m (ix2 r 0)) (fun x => S (ix2 r x)) (by rw [hm]; exact bot_ne_top)
    (fun x => by show S _ ≠ _; rw [hz]; split_ifs; exacts [EReal.coe_ne_top _, bot_ne_top])
    (.inr ⟨r, by show S _ ≠ _; rw [hz, if_pos le_rfl]; exact EReal.coe_ne_bot _⟩)
  rw [← max_apply] at hM'
  refine ⟨M', hM', fun d => ?_⟩
  rw [acc_apply, hM', ha, mul_zero, zero_add, acc_diag _ _ _ _ s0 r (by omega)]
  refine Finset.sum_congr rfl fun x _ => ?_
  rw [hz, hv]
  by_cases hx : x.val ≤ r.val
  · rw [if_pos hx, if_pos hx, exp2_sub]; rfl
  · rw [if_neg hx, if_neg hx, exp2_bot_sub]

end Cert.Kernel3Ideal.Fox

end
-- ==== Proof.Fox.Walk.lean ====
/-
  The forgetting-attention kernel's walk over the keys at the ideal instance: the bound is `⊥`, so the walk reaches the first
  key; the scores found in the second scratch buffer are those of the next older block.
-/
module

public import proofs.«01_k».proof.Proof.Fox.Steps

@[expose] public section

set_option maxRecDepth 16384

noncomputable section

namespace Cert.Kernel3Ideal.Fox

open Cert.Kernel3Ideal Cert.Kernel3Ideal.Gen Cert.FoxSpec
open Idealize.ShloMosaic Idealize.ShloMosaic.TcCoe

/-! ## The loads -/

theorem ldK (x : Vec Ideal S8192x256 .bf16) (o : Fin 2 → ℕ) (h : ∀ a, o a + S512x128.size a ≤ S8192x256.size a) (s col : ℕ) (e : o = ![s, col])
    (hs : s + 512 ≤ 8192) (hc : col + 128 ≤ 256) (c : Fin 512) (d : Fin 128) :
    View.ld x (rK o h) (ix2 c d) = x (ix2 ⟨s + c.val, by have := c.isLt; omega⟩ ⟨col + d.val, by have := d.isLt; omega⟩) := by
  subst e
  unfold rK
  rw [View.ld_unit]
  pointwise

/-- Element `(g, r, c)` of two slabs side by side. -/
theorem slabs_apply (s0 s1 : Vec Ideal S1x512x512 .f32) (y : S2x512x512.Idx) :
    slabs s0 s1 y = if (y 0).val = 0 then s0 (ix3 0 (y 1) (y 2)) else s1 (ix3 0 (y 1) (y 2)) := by
  refine View.canon_apply_of_pieces (Val := Elt Ideal) (e := .f32)
    (fun y => if (y 0).val = 0 then s0 (ix3 0 (y 1) (y 2)) else s1 (ix3 0 (y 1) (y 2))) _ ?_ y (cover_slabs s0 s1 y)
  intro pc hpc x
  rcases List.mem_cons.mp hpc with rfl | hpc
  · have x0 : x 0 = (0 : Fin 1) := Subsingleton.elim (α := Fin 1) _ _
    have e0 : ((rS1.emb x) 0).val = 1 := by
      show 1 + 1 * (x 0).val = 1
      rw [x0]; rfl
    show s1 x = ite _ _ _
    rw [if_neg (by rw [e0]; decide)]
    congr 1; funext k
    match k with
    | ⟨0, _⟩ => exact x0
    | ⟨1, _⟩ => exact Fin.ext (by show (x 1).val = 0 + 1 * (x 1).val; omega)
    | ⟨2, _⟩ => exact Fin.ext (by show (x 2).val = 0 + 1 * (x 2).val; omega)
  rcases List.mem_cons.mp hpc with rfl | hpc
  · have x0 : x 0 = (0 : Fin 1) := Subsingleton.elim (α := Fin 1) _ _
    have e0 : ((rS0.emb x) 0).val = 0 := by
      show 0 + 1 * (x 0).val = 0
      rw [x0]; rfl
    show s0 x = ite _ _ _
    rw [if_pos e0]
    congr 1; funext k
    match k with
    | ⟨0, _⟩ => exact x0
    | ⟨1, _⟩ => exact Fin.ext (by show (x 1).val = 0 + 1 * (x 1).val; omega)
    | ⟨2, _⟩ => exact Fin.ext (by show (x 2).val = 0 + 1 * (x 2).val; omega)
  nomatch hpc

section Slabs
variable (S0 S1 : FVec Ideal S512x512 .f32) (x8 : Vec Ideal S2x512x512 .f32) (x : FVec Ideal S1x512x512 .f32) (r c : Fin 512) (g : Fin 1)

theorem slab_apply : k0_pay2 S0 (ix3 g r c) = S0 (ix2 r c) := by
  pointwise [k0_pay2]

theorem plane_apply : k0_pay33 x (ix2 r c) = x (ix3 0 r c) := by
  pointwise [k0_pay33]

theorem ldS0 : (View.ld x8 rS0 : Vec Ideal S1x512x512 .f32) (ix3 g r c) = x8 (ix3 0 r c) := by
  unfold rS0; rw [View.ld_unit]
  pointwise

theorem ldS1 : (View.ld x8 rS1 : Vec Ideal S1x512x512 .f32) (ix3 g r c) = x8 (ix3 1 r c) := by
  unfold rS1; rw [View.ld_unit]
  pointwise

theorem ld_slab0 : k0_pay33 (View.ld (slabs (k0_pay2 S0) (k0_pay2 S1)) rS0 : Vec Ideal S1x512x512 .f32) (ix2 r c) = S0 (ix2 r c) := by
  refine (plane_apply _ r c).trans ((ldS0 _ r c 0).trans ((slabs_apply _ _ (ix3 0 r c)).trans ?_))
  exact (if_pos rfl).trans (slab_apply S0 r c 0)

theorem ld_slab1 : k0_pay33 (View.ld (slabs (k0_pay2 S0) (k0_pay2 S1)) rS1 : Vec Ideal S1x512x512 .f32) (ix2 r c) = S1 (ix2 r c) := by
  refine (plane_apply _ r c).trans ((ldS1 _ r c 0).trans ((slabs_apply _ _ (ix3 1 r c)).trans ?_))
  exact (if_neg Nat.one_ne_zero).trans (slab_apply S1 r c 0)
end Slabs

/-! ## The walk goes on -/

theorem flag_zero (x : EReal) : Scalar.extui (Scalar.cmpf (F := Ideal) (φ := .f32) .olt x (bound (F := Ideal))) = 0#32 := by
  have e : bound (F := Ideal) = (⊥ : EReal) := IdealRules.named_const.ideal_named_scalar _ _ _ _ rfl
  rw [e]
  have h : Scalar.cmpf (F := Ideal) (φ := .f32) .olt x (⊥ : EReal) = 0#1 := by
    show Ideal.cmp .olt x ⊥ = 0#1
    simp [Ideal.cmp]
  rw [h]; rfl

theorem more_of_lt (i : grid0.Coords) (n : ℕ) (hn : n < (i 2).val) (s : St Ideal) (h1 : s.1 = BitVec.ofNat 32 n) (h2 : s.2.1 = 0#32) : More i s := by
  have H : ∀ j : Fin 16, ∀ n : Fin 16, n.val < j.val →
      Scalar.andi (Scalar.cmpi .slt (BitVec.ofNat 32 n.val) (BitVec.ofNat 32 j.val)) (Scalar.cmpi .eq 0#32 0#32) = 1#1 := by decide +kernel
  have hj : (i 2).val < 16 := (i 2).isLt
  unfold More; rw [h1, h2]
  exact H ⟨(i 2).val, hj⟩ ⟨n, by omega⟩ hn

theorem off3_eq : ∀ i : grid0.Coords, k0_off3 i = ![512 * ((i 2).val - 1), 0] := by decide +kernel
theorem off4_eq : ∀ i : grid0.Coords, k0_off4 i = ![512 * ((i 2).val - 1), 128] := by decide +kernel

/-- The trip's offsets: the block looked ahead at, and the block taken. -/
theorem mults (i : grid0.Coords) (n : ℕ) (hn : n < (i 2).val) : (k0_mult7 i (BitVec.ofNat 32 n)).toNat = 512 * ((i 2).val - 1 - (n + 1))
    ∧ (k0_mult8 i (BitVec.ofNat 32 n)).toNat = 512 * ((i 2).val - 1 - (n + 1)) ∧ (k0_mult9 i (BitVec.ofNat 32 n)).toNat = 512 * ((i 2).val - 1 - n) := by
  have H : ∀ j : Fin 16, ∀ n : Fin 16, n.val < j.val →
      (Scalar.muli (Scalar.maxsi (Scalar.subi (Scalar.subi (Scalar.subi (BitVec.ofNat 32 j.val) 1#32) (BitVec.ofNat 32 n.val)) 1#32) 0#32) 512#32).toNat = 512 * (j.val - 1 - (n.val + 1))
      ∧ (Scalar.muli (Scalar.subi (Scalar.subi (BitVec.ofNat 32 j.val) 1#32) (BitVec.ofNat 32 n.val)) 512#32).toNat = 512 * (j.val - 1 - n.val) := by decide +kernel
  have hj : (i 2).val < 16 := (i 2).isLt
  obtain ⟨h0, h1⟩ := H ⟨(i 2).val, hj⟩ ⟨n, by omega⟩ hn
  exact ⟨h0, h0, h1⟩

/-! ## The two heads along the walk -/

/-- A head's scores against the key columns from `col` on, and its values in the value columns from `col` on. -/
def Scores (q : FVec Ideal S512x128 .bf16) (x1 : Vec Ideal S8192x256 .bf16) (col : Fin 129) (Z : Fin 512 → ℕ → ℝ) : Prop :=
  ∀ (r : Fin 512) (s : Fin 8192), ∑ d : Fin 128, q (ix2 r d) * x1 (ix2 s ⟨col.val + d.val, by have := col.isLt; have := d.isLt; omega⟩) = (Z r s.val : EReal)
def Vals (x2 : Vec Ideal S8192x256 .bf16) (col : Fin 129) (W : Fin 128 → ℕ → EReal) : Prop :=
  ∀ (s : Fin 8192) (d : Fin 128), x2 (ix2 s ⟨col.val + d.val, by have := col.isLt; have := d.isLt; omega⟩) = W d s.val

variable (i : grid0.Coords) (q0 q1 : FVec Ideal S512x128 .bf16) (g0 g1 : FVec Ideal S512x1 .f32) (x1 x2 : Vec Ideal S8192x256 .bf16)
  (Z : Fin 2 → Fin 512 → ℕ → ℝ) (W : Fin 2 → Fin 128 → ℕ → EReal)

/-- The state after `n` trips. -/
structure StInv (n : ℕ) (s : St Ideal) : Prop where
  count : s.1 = BitVec.ofNat 32 n
  flag : s.2.1 = 0#32
  h0 : Inv (Z 0) (W 0) (512 * (i 2).val) (512 * ((i 2).val - n)) s.2.2.1 s.2.2.2.1
  h1 : Inv (Z 1) (W 1) (512 * (i 2).val) (512 * ((i 2).val - n)) s.2.2.2.2.1 s.2.2.2.2.2

/-- The scores in the second scratch buffer are those of the block from key `s` on. -/
def Held (x8 : Vec Ideal S2x512x512 .f32) (s : ℕ) : Prop :=
  ∀ r c : Fin 512, k0_pay33 (View.ld x8 rS0 : Vec Ideal S1x512x512 .f32) (ix2 r c) = (Z 0 r (s + c.val) : EReal)
    ∧ k0_pay33 (View.ld x8 rS1 : Vec Ideal S1x512x512 .f32) (ix2 r c) = (Z 1 r (s + c.val) : EReal)

theorem product_apply (q : FVec Ideal S512x128 .bf16) (k : Vec Ideal S512x128 .bf16) (r c : Fin 512) :
    k0_pay24 (F := Ideal) q k (ix2 r c) = ∑ d : Fin 128, q (ix2 r d) * k (ix2 c d) := by
  pointwise [k0_pay24]

/-- The scores and the values of a loaded piece. -/
theorem scores_ld (q : FVec Ideal S512x128 .bf16) (col : Fin 129) (Z : Fin 512 → ℕ → ℝ) (hz : Scores q x1 col Z) (o : Fin 2 → ℕ) (h) (s : ℕ) (e : o = ![s, col.val])
    (hs : s + 512 ≤ 8192) (r c : Fin 512) : ∑ d : Fin 128, q (ix2 r d) * View.ld x1 (rK o h) (ix2 c d) = (Z r (s + c.val) : EReal) := by
  have := col.isLt
  have := c.isLt
  rw [← hz r ⟨s + c.val, by omega⟩]
  exact Finset.sum_congr rfl fun d _ => by rw [ldK x1 o h s col.val e hs (by omega)]

theorem vals_ld (col : Fin 129) (W : Fin 128 → ℕ → EReal) (hv : Vals x2 col W) (o : Fin 2 → ℕ) (h) (s : ℕ) (e : o = ![s, col.val])
    (hs : s + 512 ≤ 8192) (c : Fin 512) (d : Fin 128) : View.ld x2 (rK o h) (ix2 c d) = W d (s + c.val) := by
  have := col.isLt
  have := c.isLt
  rw [ldK x2 o h s col.val e hs (by omega), ← hv ⟨s + c.val, by omega⟩ d]

section Held
variable (z0 : Scores q0 x1 0 (Z 0)) (z1 : Scores q1 x1 128 (Z 1))
include z0 z1

/-- Two slabs of products are held as the block's scores. -/
theorem held_slabs (o0 o1 : Fin 2 → ℕ) (h0 h1) (s : ℕ) (e0 : o0 = ![s, 0]) (e1 : o1 = ![s, 128]) (hs : s + 512 ≤ 8192) :
    Held Z (slabs (k0_pay2 (k0_pay24 q0 (View.ld x1 (rK o0 h0)))) (k0_pay2 (k0_pay24 q1 (View.ld x1 (rK o1 h1))))) s := by
  intro r c
  rw [ld_slab0, ld_slab1, product_apply, product_apply]
  exact ⟨scores_ld x1 q0 0 (Z 0) z0 o0 h0 s e0 hs r c, scores_ld x1 q1 128 (Z 1) z1 o1 h1 s e1 hs r c⟩

theorem held_first : Held Z (first i q0 q1 x1) (512 * ((i 2).val - 1 - 0)) := by
  have hj : (i 2).val < 16 := (i 2).isLt
  exact held_slabs q0 q1 x1 Z z0 z1 _ _ (k0_off3_inb i) (k0_off4_inb i) _ (off3_eq i) (off4_eq i) (by omega)

theorem held_ahead (n : ℕ) (hn : n < (i 2).val) (h : k0_chk1 i (BitVec.ofNat 32 n)) : Held Z (ahead i q0 q1 x1 (BitVec.ofNat 32 n) h) (512 * ((i 2).val - 1 - (n + 1))) := by
  have hj : (i 2).val < 16 := (i 2).isLt
  obtain ⟨m7, m8, -⟩ := mults i n hn
  exact held_slabs q0 q1 x1 Z z0 z1 (k0_off9 i (BitVec.ofNat 32 n)) (k0_off10 i (BitVec.ofNat 32 n)) (k0_off9_inb i _ h) (k0_off10_inb i _ h) _
    (congrArg (fun a => (![a, 0] : Fin 2 → ℕ)) m7) (congrArg (fun a => (![a, 128] : Fin 2 → ℕ)) m8) (by omega)

end Held

section Run
variable (z0 : Scores q0 x1 0 (Z 0)) (z1 : Scores q1 x1 128 (Z 1)) (v0 : Vals x2 0 (W 0)) (v1 : Vals x2 128 (W 1))

include z0 z1 v0 v1 in
/-- After the diagonal. -/
theorem start_inv : StInv i Z W 0 (start i q0 q1 g0 g1 x1 x2) := by
  have hj : (i 2).val < 16 := (i 2).isLt
  have head : ∀ (q : FVec Ideal S512x128 .bf16) (Z : Fin 512 → ℕ → ℝ) (W : Fin 128 → ℕ → EReal) (col : Fin 129), Scores q x1 col Z → Vals x2 col W →
      ∀ (o : Fin 2 → ℕ) (h h'), o = ![512 * (i 2).val, col.val] →
      Inv Z W (512 * (i 2).val) (512 * (i 2).val) (k0_pay28 k0_pay20 (k0_pay26 q k0_pay17 (View.ld x1 (rK o h))))
        (k0_pay29 k0_pay20 k0_pay21 (k0_pay26 q k0_pay17 (View.ld x1 (rK o h))) (View.ld x2 (rK o h'))) := by
    intro q Z W col hz hv o h h' e
    refine diag _ _ _ _ Z W _ _ rfl (fun r c => ?_) (fun c d => vals_ld x2 col W hv o h' _ e (by omega) c d) start_m start_a
    rw [diag_score, scores_ld x1 q col Z hz o h _ e (by omega)]
  exact ⟨rfl, flag_zero _, head q0 (Z 0) (W 0) 0 z0 v0 _ (k0_off5_inb i) (k0_off5_inb i) (k0_off5_eq i),
    head q1 (Z 1) (W 1) 128 z1 v1 _ (k0_off6_inb i) (k0_off6_inb i) (k0_off6_eq i)⟩

include v0 v1 in
/-- A trip. -/
theorem step_inv (n : ℕ) (hn : n < (i 2).val) (x8 : Vec Ideal S2x512x512 .f32) (hx : Held Z x8 (512 * ((i 2).val - 1 - n))) (s : St Ideal) (hs : StInv i Z W n s)
    (h : k0_chk1 i s.1) : StInv i Z W (n + 1) (step i g0 g1 x1 x2 x8 s h) := by
  have hj : (i 2).val < 16 := (i 2).isLt
  obtain ⟨w, f, m0, a0, m1, a1⟩ := s
  obtain ⟨c1, c2, h0, h1⟩ := hs
  simp only at c1 c2 h0 h1
  subst c1
  obtain ⟨-, -, m9⟩ := mults i n hn
  have hb : 512 * ((i 2).val - n) = 512 * ((i 2).val - 1 - n) + 512 := by omega
  have hb' : (i 2).val - 1 - n = (i 2).val - (n + 1) := by omega
  rw [hb] at h0 h1
  have head : ∀ (S : FVec Ideal S512x512 .f32) (Z : Fin 512 → ℕ → ℝ) (W : Fin 128 → ℕ → EReal) (col : Fin 129), (∀ r c, S (ix2 r c) = (Z r (512 * ((i 2).val - 1 - n) + c.val) : EReal)) →
      Vals x2 col W → ∀ (o : Fin 2 → ℕ) (h), o = ![512 * ((i 2).val - 1 - n), col.val] → ∀ (m : FVec Ideal S512x1 .f32) (a : FVec Ideal S512x128 .f32),
      Inv Z W (512 * (i 2).val) (512 * ((i 2).val - 1 - n) + 512) m a →
      Inv Z W (512 * (i 2).val) (512 * ((i 2).val - (n + 1))) (k0_pay28 m S) (k0_pay29 m a S (View.ld x2 (rK o h))) := by
    intro S Z W col hz hv o h e m a hi
    rw [← hb']
    exact older _ _ _ _ Z W _ _ (by omega) hz (fun c d => vals_ld x2 col W hv o h _ e (by omega) c d) hi
  exact ⟨add_one_word n, flag_zero _,
    head _ (Z 0) (W 0) 0 (fun r c => (hx r c).1) v0 (k0_off11 i (BitVec.ofNat 32 n)) (k0_off11_inb i _ h) (congrArg (fun a => (![a, 0] : Fin 2 → ℕ)) m9) m0 a0 h0,
    head _ (Z 1) (W 1) 128 (fun r c => (hx r c).2) v1 (k0_off13 i (BitVec.ofNat 32 n)) (k0_off13_inb i _ h) (congrArg (fun a => (![a, 128] : Fin 2 → ℕ)) m9) m1 a1 h1⟩

include z0 z1 v0 v1 in
/-- The whole walk. -/
theorem loop_inv : ∀ (k n : ℕ), n + k = (i 2).val → ∀ x8, Held Z x8 (512 * ((i 2).val - 1 - n)) → ∀ s, StInv i Z W n s →
    StInv i Z W (i 2).val (loop i q0 q1 g0 g1 x1 x2 k x8 s) := by
  intro k
  induction k with
  | zero => intro n hn x8 hx s hs; rw [loop]; obtain rfl : n = (i 2).val := by omega
            exact hs
  | succ k ih =>
    intro n hn x8 hx s hs
    have hc : k0_chk1 i s.1 := by rw [hs.count]; exact chk_of_lt i n (by omega)
    rw [loop, if_pos (more_of_lt i n (by omega) s hs.count hs.flag), dif_pos hc]
    refine ih (n + 1) (by omega) _ ?_ _ (step_inv i g0 g1 x1 x2 Z W v0 v1 n (by omega) x8 hx s hs hc)
    have hcount := hs.count
    obtain ⟨w, st⟩ := s
    simp only at hcount
    subst hcount
    exact held_ahead i q0 q1 x1 Z z0 z1 n (by omega) hc

include z0 z1 v0 v1 in
theorem walk_inv : StInv i Z W (i 2).val (loop i q0 q1 g0 g1 x1 x2 (i 2).val (first i q0 q1 x1) (start i q0 q1 g0 g1 x1 x2)) :=
  loop_inv i q0 q1 g0 g1 x1 x2 Z W z0 z1 v0 v1 _ 0 (by omega) _ (held_first i q0 q1 x1 Z z0 z1) _ (start_inv i q0 q1 g0 g1 x1 x2 Z W z0 z1 v0 v1)

end Run

end Cert.Kernel3Ideal.Fox

end
-- ==== Proof.Fox.FrameIdeal.lean ====
/-
  The forgetting-attention kernel's frame: the body's triple (`sound_kernel`: the pass over all keys that fills the first scratch
  buffer at a sequence's first block of queries, the block on the diagonal, the `while` answered by `spec`, the store of the
  result block), the pipeline's proof data, the run, and the claim that the argument arrays end as they were launched.  What the
  first scratch buffer holds is not followed: the result block is held to `Out`, which allows any two numbers there.
-/
module

public import proofs.«01_k».proof.Proof.Fox.BodyIdeal
public import Idealize.ShloMosaic.Lib.Ring
public import Idealize.ShloMosaic.Lib.Pipeline.DatRel
public import Idealize.ShloMosaic.Lib.Pipeline.ArrRel
public import Idealize.ShloMosaic.Lib.Pipeline.FrameBody
public import Idealize.ShloMosaic.Lib.Claim
public import Idealize.ShloMosaic.Lib.Tactic
public import Idealize.ShloMosaic.Lib.WordCmp

@[expose] public section

set_option maxRecDepth 16384

noncomputable section

namespace Cert.Kernel3Ideal.Fox

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The entry function up to the kernel -/

/-- A core's buffers when the kernel starts: after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ Variants.nat m (main (F := F)) (V m) :=
  Pipeline.hmain_prefix cfgs 0 defs₀ Variants.nat m main hostOps0 hostOps0_sub host_fresh main_chain

/-- No host operation writes an argument array. -/
theorem V_arg (c : Dev nD) (b : Ref sig .tc) (hb : b = main_arg0 ∨ b = main_arg1 ∨ b = main_arg2 ∨ b = main_arg3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    rcases hb with rfl | rfl | rfl | rfl
    all_goals
      repeat' apply And.intro
      all_goals exact StableHlo.devRef_ne_of_ne (by decide)))

/-- Window `w`'s block at a point, of its array as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-! ## The body -/

/-- The two numbers' places in the first scratch buffer. -/
abbrev rB0 : Rect S8x128 := Rect.unit (s := S8x128) ![0, 0] S1x1.size inb_S8x128_S1x1_0_0
abbrev rB1 : Rect S8x128 := Rect.unit (s := S8x128) ![1, 0] S1x1.size inb_S8x128_S1x1_1_0

/-- The state the walk leaves, from the operand blocks and the two numbers found in the first scratch buffer. -/
def walk (i : grid0.Coords) (b0 b1 : Vec F S1x1 .f32) (x0 : Vec F S512x256 .bf16) (x1 x2 : Vec F S8192x256 .bf16) : St F :=
  let q0 := k0_pay13 (View.ld x0 rL : Vec F S512x128 .bf16)
  let q1 := k0_pay14 (View.ld x0 rR : Vec F S512x128 .bf16)
  let g0 := k0_pay15 (View.ld x0 rL : Vec F S512x128 .bf16) b0
  let g1 := k0_pay16 (View.ld x0 rR : Vec F S512x128 .bf16) b1
  loop i q0 q1 g0 g1 x1 x2 (i 2).val (first i q0 q1 x1) (start i q0 q1 g0 g1 x1 x2)

theorem walk_eq (i : grid0.Coords) (b0 b1 : Vec F S1x1 .f32) (x0 : Vec F S512x256 .bf16) (x1 x2 : Vec F S8192x256 .bf16) :
    walk i b0 b1 x0 x1 x2 = loop i (k0_pay13 (View.ld x0 rL : Vec F S512x128 .bf16)) (k0_pay14 (View.ld x0 rR : Vec F S512x128 .bf16))
      (k0_pay15 (View.ld x0 rL : Vec F S512x128 .bf16) b0) (k0_pay16 (View.ld x0 rR : Vec F S512x128 .bf16) b1) x1 x2 (i 2).val
      (first i (k0_pay13 (View.ld x0 rL : Vec F S512x128 .bf16)) (k0_pay14 (View.ld x0 rR : Vec F S512x128 .bf16)) x1)
      (start i (k0_pay13 (View.ld x0 rL : Vec F S512x128 .bf16)) (k0_pay14 (View.ld x0 rR : Vec F S512x128 .bf16))
        (k0_pay15 (View.ld x0 rL : Vec F S512x128 .bf16) b0) (k0_pay16 (View.ld x0 rR : Vec F S512x128 .bf16) b1) x1 x2) := rfl

theorem first_eq (i : grid0.Coords) (q0 q1 : FVec F S512x128 .bf16) (x1 : Vec F S8192x256 .bf16) :
    first i q0 q1 x1 = View.canon [⟨rS1, k0_pay3 (k0_pay25 q1 (View.ld x1 (rK (k0_off4 i) (k0_off4_inb i)) : Vec F S512x128 .bf16))⟩,
      ⟨rS0, k0_pay2 (k0_pay24 q0 (View.ld x1 (rK (k0_off3 i) (k0_off3_inb i)) : Vec F S512x128 .bf16))⟩] := rfl

/-- The result block. -/
def out (i : grid0.Coords) (b0 b1 : Vec F S1x1 .f32) (x0 : Vec F S512x256 .bf16) (x1 x2 : Vec F S8192x256 .bf16) : Vec F S512x128 .f32 :=
  View.canon [⟨rO, k0_pay4 (walk i b0 b1 x0 x1 x2).2.2.2.1 (walk i b0 b1 x0 x1 x2).2.2.2.2.2⟩]

/-- A result block the body may leave. -/
def Out (i : grid0.Coords) (x0 : Vec F S512x256 .bf16) (x1 x2 : Vec F S8192x256 .bf16) (X : Vec F S512x128 .f32) : Prop :=
  ∃ b0 b1 : Vec F S1x1 .f32, X = out i b0 b1 x0 x1 x2

/-- The one store covers the result block. -/
theorem cover_out (p : Vec F S512x128 .f32) (y : S512x128.Idx) : ∃ pc ∈ ([⟨rO, p⟩] : List (View.Piece (Elt F) S512x128 .f32)), y ∈ pc.1.set :=
  View.cover_of_tiled [⟨rO, p⟩] S512x128.size (by rfl) y

set_option maxHeartbeats 4000000 in
theorem sound_kernel (c : Dev nD) (E : Set ℕ) (i : grid0.Coords) (arg3 : Memref sig .tc .vmem S512x256 .bf16) (harg3 : arg3.IsWhole)
    (arg4 : Memref sig .tc .vmem S8192x256 .bf16) (harg4 : arg4.IsWhole) (arg5 : Memref sig .tc .vmem S8192x256 .bf16) (harg5 : arg5.IsWhole)
    (arg6 : Memref sig .tc .vmem S512x128 .f32) (harg6 : arg6.IsWhole) (arg7 : Memref sig .tc .vmem S8x128 .f32) (harg7 : arg7.IsWhole)
    (arg8 : Memref sig .tc .vmem S2x512x512 .f32) (harg8 : arg8.IsWhole)
    (x0 : Vec F S512x256 .bf16) (x1 : Vec F S8192x256 .bf16) (x2 : Vec F S8192x256 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ (∃ X, ⌜Out i x0 x1 x2 X⌝ ∗ owns (c : Thread nD τ) arg6 fullShare X) ∗ (∃ d, owns (c : Thread nD τ) arg7 fullShare d)
            ∗ (∃ d, owns (c : Thread nD τ) arg8 fullShare d)) -∗ K ⟨⟩))
      ⊢ wp frame (wpE (defs₀ (F := F)) Variants.nat c none) E (cc0_fox i arg3 harg3 arg4 harg4 arg5 harg5 arg6 harg6 arg7 harg7 arg8 harg8) K := by
  simp only [cc0_fox_eq_skeleton]; unfold cc0_fox_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d7, %f7, -, H7⟩, ⟨%d8, %f8, -, H8⟩, Hk⟩
  subst hf0 hf1 hf2
  unfold k0_part1_skel k0_part2_skel k0_part3_skel
  have hbody : ∀ h1 : k0_cond1 i = 1#1, ∀ (k : Fin (Scf.trips k0_t1_loop.lb k0_t1_loop.ub k0_t1_loop.st)) (acc : FVec F S1x1 .f32 × FVec F S1x1 .f32),
      (arg4.view.loc (c : Thread nD τ) ↦[arg4.view.set]{fullShare} f1 : sProp 𝕄)
        ⊢ wp frame (wpE (defs₀ (F := F)) Variants.nat c none) E
          (k0_t1_body i arg3 harg3 arg4 harg4 arg5 harg5 arg6 harg6 arg7 harg7 arg8 harg8 h1 k acc)
          (fun _ => (arg4.view.loc (c : Thread nD τ) ↦[arg4.view.set]{fullShare} f1)) := by
    intro h1 k acc
    iintro H1
    unfold k0_t1_body
    simp only [Prog.lift, Prog.bind_op, Prog.bind_ret, Prog.pure_eq_ret]
    iapply (wp_load Variants.nat (c : Thread nD τ) none E (m := arg4) (View.setOn_subset_set _ _)) $$ H1; iintro H1
    iapply (wp_load Variants.nat (c : Thread nD τ) none E (m := arg4) (View.setOn_subset_set _ _)) $$ H1; iintro H1
    rw [wp_ret]; imodintro
    iexact H1
  rw [wp_bind]
  by_cases h1 : k0_cond1 i = 1#1
  case' pos =>
    simp only [dif_pos h1]
    iapply (Scf.wp_for_bind frame (wpE (defs₀ (F := F)) Variants.nat c none) E k0_t1_loop.lb k0_t1_loop.ub k0_t1_loop.st (k0_t1_ok i h1) (k0_pay7, k0_pay8)
      (k0_t1_body i arg3 harg3 arg4 harg4 arg5 harg5 arg6 harg6 arg7 harg7 arg8 harg8 h1) (fun _ _ => (arg4.view.loc (c : Thread nD τ) ↦[arg4.view.set]{fullShare} f1)) (hbody h1)) $$ H1
    iintro %acc H1
    simp only [Prog.lift, Prog.bind_op, Prog.bind_ret, Prog.pure_eq_ret]
    iapply (wp_load Variants.nat (c : Thread nD τ) none E (m := arg7) (View.setOn_subset_set _ _)) $$ H7; iintro H7
    iapply (wp_store_writes₀ Variants.nat (c : Thread nD τ) none E (m := arg7) (slab_sub arg7 _)) $$ H7; iintro H7
    iapply (wp_load Variants.nat (c : Thread nD τ) none E (m := arg7) (View.setOn_subset_set _ _)) $$ H7; iintro H7
    iapply (wp_store_writes Variants.nat (c : Thread nD τ) none E (m := arg7) (slab_sub arg7 _)) $$ H7; iintro H7
    generalize arg7.view.writes (Elt F) f7 _ = f7
  case' neg =>
    simp only [dif_neg h1]
  all_goals
    simp only [Prog.lift, Prog.bind_op, Prog.bind_ret, Prog.pure_eq_ret]
    iapply (wp_load Variants.nat (c : Thread nD τ) none E (m := arg3) (View.setOn_subset_set _ _)) $$ H0; iintro H0
    iapply (wp_load Variants.nat (c : Thread nD τ) none E (m := arg3) (View.setOn_subset_set _ _)) $$ H0; iintro H0
    iapply (wp_load Variants.nat (c : Thread nD τ) none E (m := arg7) (View.setOn_subset_set _ _)) $$ H7; iintro H7
    iapply (wp_load Variants.nat (c : Thread nD τ) none E (m := arg7) (View.setOn_subset_set _ _)) $$ H7; iintro H7
    rw [wp_ret]; imodintro
    simp only [Prog.lift, Prog.bind_op, Prog.bind_ret, Prog.pure_eq_ret]
    iapply (wp_load Variants.nat (c : Thread nD τ) none E (m := arg4) (View.setOn_subset_set _ _)) $$ H1; iintro H1
    iapply (wp_load Variants.nat (c : Thread nD τ) none E (m := arg4) (View.setOn_subset_set _ _)) $$ H1; iintro H1
    iapply (wp_load Variants.nat (c : Thread nD τ) none E (m := arg4) (View.setOn_subset_set _ _)) $$ H1; iintro H1
    iapply (wp_load Variants.nat (c : Thread nD τ) none E (m := arg4) (View.setOn_subset_set _ _)) $$ H1; iintro H1
    iapply (wp_load Variants.nat (c : Thread nD τ) none E (m := arg5) (View.setOn_subset_set _ _)) $$ H2; iintro H2
    iapply (wp_load Variants.nat (c : Thread nD τ) none E (m := arg4) (View.setOn_subset_set _ _)) $$ H1; iintro H1
    iapply (wp_load Variants.nat (c : Thread nD τ) none E (m := arg5) (View.setOn_subset_set _ _)) $$ H2; iintro H2
    iapply (wp_load Variants.nat (c : Thread nD τ) none E (m := arg4) (View.setOn_subset_set _ _)) $$ H1; iintro H1
    iapply (wp_load Variants.nat (c : Thread nD τ) none E (m := arg8) (View.setOn_subset_set _ _)) $$ H8; iintro H8
    iapply (wp_store_writes₀ Variants.nat (c : Thread nD τ) none E (m := arg8) (slab_sub arg8 _)) $$ H8; iintro H8
    iapply (wp_load Variants.nat (c : Thread nD τ) none E (m := arg8) (View.setOn_subset_set _ _)) $$ H8; iintro H8
    iapply (wp_store_writes Variants.nat (c : Thread nD τ) none E (m := arg8) (slab_sub arg8 _)) $$ H8; iintro H8
    simp only [View.readAt_eq_ld]
    iapply (wp_call_spec Variants.nat (c : Thread nD τ) none E
      (spec c i arg8 arg4 arg5 (k0_pay13 (View.ld (arg3.view.read (Elt F) f0) rL : Vec F S512x128 .bf16)) (k0_pay14 (View.ld (arg3.view.read (Elt F) f0) rR : Vec F S512x128 .bf16))
        (k0_pay15 (View.ld (arg3.view.read (Elt F) f0) rL : Vec F S512x128 .bf16) (View.ld (arg7.view.read (Elt F) f7) rB0 : Vec F S1x1 .f32))
        (k0_pay16 (View.ld (arg3.view.read (Elt F) f0) rR : Vec F S512x128 .bf16) (View.ld (arg7.view.read (Elt F) f7) rB1 : Vec F S1x1 .f32)) f1 f2 (i 2).val _
        (start i (k0_pay13 (View.ld (arg3.view.read (Elt F) f0) rL : Vec F S512x128 .bf16)) (k0_pay14 (View.ld (arg3.view.read (Elt F) f0) rR : Vec F S512x128 .bf16))
        (k0_pay15 (View.ld (arg3.view.read (Elt F) f0) rL : Vec F S512x128 .bf16) (View.ld (arg7.view.read (Elt F) f7) rB0 : Vec F S1x1 .f32))
        (k0_pay16 (View.ld (arg3.view.read (Elt F) f0) rR : Vec F S512x128 .bf16) (View.ld (arg7.view.read (Elt F) f7) rB1 : Vec F S1x1 .f32)) (arg4.view.read (Elt F) f1) (arg5.view.read (Elt F) f2))) (i 2).val
      (fun u hu => nomatch hu)
      (spec_le c i arg8 harg8 arg4 harg4 arg5 harg5 _ _ _ _ f1 f2 E (i 2).val 0 (Nat.zero_add _) _ _ _ _ _ _))
    rw [spec_apply]; unfold held
    isplitl [H1 H2 H8]
    · isplitl [H1 H2]
      · isplitl [H1]; · iexact H1
        iexact H2
      iexact H8
    iintro ⟨⟨H1, H2⟩, H8⟩
    rw [View.read_writes_eq_canon _ _ _ (cover_slabs _ _)]
    have hs : ∃ s, s = walk i (View.ld (arg7.view.read (Elt F) f7) rB0 : Vec F S1x1 .f32) (View.ld (arg7.view.read (Elt F) f7) rB1 : Vec F S1x1 .f32) (arg3.view.read (Elt F) f0) (arg4.view.read (Elt F) f1) (arg5.view.read (Elt F) f2) := ⟨_, rfl⟩
    obtain ⟨s, hs⟩ := hs
    simp only [← first_eq, ← walk_eq, ← hs]
    iapply (wp_load Variants.nat (c : Thread nD τ) none E (m := arg6) (View.setOn_subset_set _ _)) $$ H3; iintro H3
    iapply (wp_store_writes₀ Variants.nat (c : Thread nD τ) none E (m := arg6) (slab_sub arg6 _)) $$ H3; iintro H3
    rw [wp_ret]; imodintro
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap
      · iexists _; isplitr
        swap; · iexact H3
        ipureintro; rfl
      ipureintro
      rw [View.read_writes_eq_canon _ _ _ (cover_out _)]
      exact ⟨(View.ld (arg7.view.read (Elt F) f7) rB0 : Vec F S1x1 .f32), (View.ld (arg7.view.read (Elt F) f7) rB1 : Vec F S1x1 .f32), by unfold out; rw [hs]⟩
    isplitl [H7]
    · iexists _; iexists f7; isplitr; · ipureintro; rfl
      iexact H7
    unfold spare
    icases H8 with ⟨%f8, H8⟩
    iexists _; iexists f8; isplitr; · ipureintro; rfl
    iexact H8

/-! ## The pipeline's proof data -/

/-- The arrays as the kernel finds them; after the body each operand's buffer at its block. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (grid0.coords t) (fun _ => FloatOps.ofBits .f32 0#32) (fun _ => FloatOps.ofBits .f32 0#32) (iblk m c 0 t) (iblk m c 1 t) (iblk m c 2 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl

/-- An operand's buffer holds its block before the body at every point, fetched there or not. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The result's window, the one held to a predicate. -/
def held3 : Fin (cfg0 (F := F)).W → Bool := fun w => match w with
  | ⟨3, _⟩ => true
  | _ => false

/-- The predicate: a block the body may leave. -/
def Left (c : Dev nD) (w : Fin (cfg0 (F := F)).W) (t : Fin (cfg0 (F := F)).N) (X : ((cfg0 (F := F)).win w).block.Idx → Elt F ((cfg0 (F := F)).win w).elt) : Prop :=
  match w, X with
  | ⟨3, _⟩, X => Out (grid0.coords t) (iblk m c 0 t) (iblk m c 1 t) (iblk m c 2 t) X
  | _, _ => True

/-- What the body is called with at a point, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜((dats m 0 c).toRRel held3 (Left m c)).Finds 3 t Y⌝ ∗ owns (c : Thread nD τ) (st0_3 t) fullShare Y))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜Left m c 3 t X⌝ ∗ owns (c : Thread nD τ) (st0_3 t) fullShare X))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2]
  unfold Pipeline.ΦA
  rw [scopedRest0_eq]
  iintro ⟨⟨⟨⟨%g0, S0⟩, ⟨%g1, S1⟩⟩, Hr⟩, Ho, ⟨%d0, H0⟩, ⟨%d1, H1⟩, ⟨%d2, H2⟩, ⟨%d3, -, H3⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]
  · iexists g0; rw [owns_whole]; iexact S0
  isplitl [S1]
  · iexists g1; rw [owns_whole]; iexact S1
  simp only [owns_whole]
  iintro ⟨H0, H1, H2, H3, ⟨%e0, S0⟩, ⟨%e1, S1⟩⟩
  isplitl [S0 S1 Hr]
  · isplitl [S0 S1]
    · isplitl [S0]
      · iexists e0; iexact S0
      · iexists e1; iexact S1
    iexact Hr
  isplitl [Ho]; · iexact Ho
  isplitl [H0]; · iexact H0
  isplitl [H1]; · iexact H1
  isplitl [H2]; · iexact H2
  iexact H3

theorem body_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : Pipeline.BodyObligationRel (dats (F := F) m 0 c) (defs₀ (F := F)) Variants.nat () Set.univ held3 (Left m c) := fun t => by
  rw [bigSep_W0, bigSep_W0, body_row]
  exact triple_restated (sound_body m c t) rfl .rfl fun _ => .rfl

theorem rest_arg0 : main_arg0 ∈ Pipeline.restRefs sig spec0 := by decide
theorem rest_arg1 : main_arg1 ∈ Pipeline.restRefs sig spec0 := by decide
theorem rest_arg2 : main_arg2 ∈ Pipeline.restRefs sig spec0 := by decide
theorem rest_arg3 : main_arg3 ∈ Pipeline.restRefs sig spec0 := by decide

/-- The proof data, the result's window held to the predicate. -/
abbrev rdat (c : Dev nD) := (dats (F := F) m 0 c).toRRel held3 (Left m c)

/-! ## The run -/

set_option backward.isDefEq.respectTransparency.types false in
set_option maxHeartbeats 800000 in
theorem run_quiescent : θ_run defs (onTc (τ := τ) (main (F := F))) (s₀ m ρ) (fun r => (Pipeline.RDat.FramePost cfg0 (rdat m) (V m)) r ∧ r.2.sem = fun _ => 0) :=
  Pipeline.RDat.θ_run_frame (Q' := _) cfgs (0 : Fin 1) launch0 defs₀ Variants.nat (rdat m) m ρ main
    (hbody := fun c => (body_obligation m c).toRRel)
    (hshare := fun c w => by fin_cases w <;> rfl)
    (howed := fun _ _ => rfl) (V := V m) (hmain := hmain m) (hA := A_eq m) (hΦ := fun _ _ => rfl) (hQ' := fun _ h => h)

/-- The frame: the argument arrays end as launched and every semaphore counter at zero; and the result array is what the
    pipeline writes back block by block, of blocks that the body may leave. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
      ∧ ∀ c : Dev nD, ∃ after : (w : Fin (cfg0 (F := F)).W) → Fin (cfg0 (F := F)).N → ((cfg0 (F := F)).win w).block.Idx → Elt F ((cfg0 (F := F)).win w).elt,
          (∀ u, Out (grid0.coords u) (iblk m c 0 u) (iblk m c 1 u) (iblk m c 2 u) (after 3 u))
          ∧ r.2.mem ((c.tc : Thread nD τ).loc main_v29) = ((rdat m c).withAfter after).arrAt 3 (cfg0 (F := F)).N) :=
  (θ_run defs _ _).mono (fun r h => ⟨⟨fun c => ⟨((h.1 c).2 main_arg0 rest_arg0).trans (V_arg m c main_arg0 (by simp)),
      ((h.1 c).2 main_arg1 rest_arg1).trans (V_arg m c main_arg1 (by simp)),
      ((h.1 c).2 main_arg2 rest_arg2).trans (V_arg m c main_arg2 (by simp)),
      ((h.1 c).2 main_arg3 rest_arg3).trans (V_arg m c main_arg3 (by simp))⟩, h.2⟩,
      fun c => by
        obtain ⟨after, hL, hA⟩ := Pipeline.RDat.FramePost.exists_exact h.1 c
        refine ⟨after, fun u => ?_, hA 3⟩
        exact (dats (F := F) m 0 c).toRRel_leaves (fgt := held3) (Rl := Left m c) (w := 3) rfl (hL 3 u (flush0_3 u))⟩) (run_quiescent m ρ)

end Cert.Kernel3Ideal.Fox

end
-- ==== Proof.Fox.Value.lean ====
/-
  The forgetting-attention kernel at the ideal instance: what one grid point leaves in its block.
-/
module

public import proofs.«01_k».proof.Proof.Fox.Walk
public import proofs.«01_k».proof.Proof.Fox.FrameIdeal

@[expose] public section

set_option maxRecDepth 16384

noncomputable section

namespace Cert.Kernel3Ideal.Fox

open Cert.Kernel3Ideal Cert.Kernel3Ideal.Gen Cert.FoxSpec
open Idealize.ShloMosaic Idealize.ShloMosaic.TcCoe

variable (x0 : Vec Ideal S512x256 .bf16) (x1 x2 : Vec Ideal S8192x256 .bf16)

theorem q0_apply (r : Fin 512) (d : Fin 128) : k0_pay13 (View.ld x0 rL) (ix2 r d) = x0 (ix2 r ⟨d.val, by have := d.isLt; omega⟩) := by
  unfold rL; rw [View.ld_unit]
  pointwise [k0_pay13]

theorem q1_apply (r : Fin 512) (d : Fin 128) : k0_pay14 (View.ld x0 rR) (ix2 r d) = x0 (ix2 r ⟨128 + d.val, by have := d.isLt; omega⟩) := by
  unfold rR; rw [View.ld_unit]
  pointwise [k0_pay14]

/-- The result block: a head's weighted values, each over the same row's weights' sum held 64 lanes on. -/
theorem quotient_apply (a b : FVec Ideal S512x128 .f32) (r : Fin 512) (d : Fin 128) :
    k0_pay4 a b (ix2 r d) = if d.val < 64 then Ideal.div (a (ix2 r d)) (a (ix2 r ⟨(d.val + 128 - 64) % 128, Nat.mod_lt _ (by decide)⟩))
      else Ideal.div (b (ix2 r ⟨(d.val + 128 - 64) % 128, Nat.mod_lt _ (by decide)⟩)) (b (ix2 r ⟨((d.val + 128 - 64) % 128 + 128 - 64) % 128, Nat.mod_lt _ (by decide)⟩)) := by
  have := d.isLt
  rw [← select_slt d.val 64 (by omega) (by omega)]
  pointwise [k0_pay4]

theorem canon_whole (p : Vec Ideal S512x128 .f32) : View.canon (Val := Elt Ideal) (e := .f32) [⟨rO, p⟩] = p := by
  funext y
  refine View.canon_apply_of_pieces (Val := Elt Ideal) (e := .f32) p _ ?_ y (cover_out p y)
  intro pc hpc x
  rcases List.mem_cons.mp hpc with rfl | hpc
  · show p x = p (rO.emb x)
    congr 1; funext k
    match k with
    | ⟨0, _⟩ => exact Fin.ext (by show (x 0).val = 0 + 1 * (x 0).val; omega)
    | ⟨1, _⟩ => exact Fin.ext (by show (x 1).val = 0 + 1 * (x 1).val; omega)
  nomatch hpc

/-- What one grid point leaves at row `r` and column `64 h + d` of its block: the attention of head `h`. -/
theorem out_apply (i : grid0.Coords) (b0 b1 : Vec Ideal S1x1 .f32) (Z : Fin 2 → Fin 512 → ℕ → ℝ) (W : Fin 2 → Fin 128 → ℕ → EReal)
    (z0 : Scores (k0_pay13 (View.ld x0 rL)) x1 0 (Z 0)) (z1 : Scores (k0_pay14 (View.ld x0 rR)) x1 128 (Z 1)) (v0 : Vals x2 0 (W 0)) (v1 : Vals x2 128 (W 1))
    (ones : ∀ (h : Fin 2) (d : Fin 64), W h ⟨64 + d.val, by have := d.isLt; omega⟩ = fun _ => 1) (r : Fin 512) (h : Fin 2) (d : Fin 64) :
    out i b0 b1 x0 x1 x2 (ix2 r ⟨64 * h.val + d.val, by have := h.isLt; have := d.isLt; omega⟩)
      = attn (Z h r) (W h ⟨d.val, by have := d.isLt; omega⟩) (512 * (i 2).val + r.val) := by
  have hd := d.isLt
  have w := walk_inv i (k0_pay13 (View.ld x0 rL)) (k0_pay14 (View.ld x0 rR)) (k0_pay15 (View.ld x0 rL) b0) (k0_pay16 (View.ld x0 rR) b1) x1 x2 Z W z0 z1 v0 v1
  rw [← walk_eq] at w
  unfold out
  generalize walk i b0 b1 x0 x1 x2 = s at w ⊢
  obtain ⟨-, -, w0, w1⟩ := w
  rw [Nat.sub_self, Nat.mul_zero] at w0 w1
  rw [canon_whole]
  refine (quotient_apply _ _ _ _).trans ?_
  match h with
  | 0 =>
    obtain ⟨M, -, ha⟩ := w0 r
    rw [if_pos (by show 64 * 0 + d.val < 64; omega)]
    have e1 : (⟨64 * (0 : Fin 2).val + d.val, by show 64 * 0 + d.val < 128; omega⟩ : Fin 128) = ⟨d.val, by omega⟩ := Fin.ext (by show 64 * 0 + d.val = d.val; omega)
    have e2 : (⟨(64 * (0 : Fin 2).val + d.val + 128 - 64) % 128, Nat.mod_lt _ (by decide)⟩ : Fin 128) = ⟨64 + d.val, by omega⟩ :=
      Fin.ext (by show (64 * 0 + d.val + 128 - 64) % 128 = 64 + d.val; omega)
    refine (congrArg₂ Ideal.div ((congrArg (fun j => s.2.2.2.1 (ix2 r j)) e1).trans (ha _)) ((congrArg (fun j => s.2.2.2.1 (ix2 r j)) e2).trans (ha _))).trans ?_
    rw [ones, acc_div]
  | 1 =>
    obtain ⟨M, -, ha⟩ := w1 r
    rw [if_neg (by show ¬ 64 * 1 + d.val < 64; omega)]
    have e1 : (⟨(64 * (1 : Fin 2).val + d.val + 128 - 64) % 128, Nat.mod_lt _ (by decide)⟩ : Fin 128) = ⟨d.val, by omega⟩ :=
      Fin.ext (by show (64 * 1 + d.val + 128 - 64) % 128 = d.val; omega)
    have e2 : (⟨((64 * (1 : Fin 2).val + d.val + 128 - 64) % 128 + 128 - 64) % 128, Nat.mod_lt _ (by decide)⟩ : Fin 128) = ⟨64 + d.val, by omega⟩ :=
      Fin.ext (by show ((64 * 1 + d.val + 128 - 64) % 128 + 128 - 64) % 128 = 64 + d.val; omega)
    refine (congrArg₂ Ideal.div ((congrArg (fun j => s.2.2.2.2.2 (ix2 r j)) e1).trans (ha _)) ((congrArg (fun j => s.2.2.2.2.2 (ix2 r j)) e2).trans (ha _))).trans ?_
    rw [ones, acc_div]

end Cert.Kernel3Ideal.Fox

end
-- ==== Proof.Fox.Lanes.lean ====
/-
  The arrays the host prepares for the forgetting-attention kernel, lane by lane: each head's 64 lanes of queries, keys or values
  with 64 further lanes beside them.  Beside the queries stand three ones, beside the keys the gate as a sum of three parts, so
  that their product over the 128 lanes is the whole score; beside the values stand ones, whose weighted values are the weights'
  sum.
-/
module

public import proofs.«01_k».proof.Proof.Fox.Value
public import Idealize.ShloMosaic.Lib.Pipeline.ValueKit

@[expose] public section

set_option maxRecDepth 16384

noncomputable section

namespace Cert.Kernel3Ideal.Fox

open Cert.Kernel3Ideal Cert.Kernel3Ideal.Gen Cert.FoxSpec
open Idealize.ShloMosaic Idealize.ShloMosaic.TcCoe Idealize.SL.Sem

/-! ## The lanes -/

section Lanes

variable (Q K U : (⟨2, ![16384, 512]⟩ : Shape).Idx → EReal) (C : (⟨2, ![16384, 8]⟩ : Shape).Idx → EReal)

/-- Lane `j` of head `h` beside row `R`'s queries. -/
def qlane (R : Fin 16384) (h : Fin 8) (j : Fin 128) : EReal :=
  if hj : j.val < 64 then Q (ix2 R ⟨64 * h.val + j.val, by have := h.isLt; omega⟩) else if j.val < 67 then 1 else 0

/-- The same of the keys, with the gate in lane 64. -/
def klane (R : Fin 16384) (h : Fin 8) (j : Fin 128) : EReal :=
  if hj : j.val < 64 then K (ix2 R ⟨64 * h.val + j.val, by have := h.isLt; omega⟩) else if j.val = 64 then ((-lam : ℝ) : EReal) * C (ix2 R h) else 0

/-- The same of the values. -/
def vlane (R : Fin 16384) (h : Fin 8) (j : Fin 128) : EReal :=
  if hj : j.val < 64 then U (ix2 R ⟨64 * h.val + j.val, by have := h.isLt; omega⟩) else 1

/-- A sum over 128 lanes as two sums over 64. -/
theorem sum_halves (f : Fin 128 → EReal) :
    ∑ d, f d = ∑ d : Fin 64, f ⟨d.val, by have := d.isLt; omega⟩ + ∑ d : Fin 64, f ⟨64 + d.val, by have := d.isLt; omega⟩ :=
  Fin.sum_univ_add (a := 64) (b := 64) f

/-- The product over a head's 128 lanes is the whole score. -/
theorem score_lanes (hQ : IsFinite Q) (hK : IsFinite K) (hC : IsFinite C) (b : Fin 2) (h : Fin 8) (t s : ℕ) (R S : Fin 16384)
    (hR : R.val = 8192 * b.val + t % 8192) (hS : S.val = 8192 * b.val + s % 8192) :
    ∑ j, qlane Q R h j * klane K C S h j = (score Q K C b h t s : EReal) := by
  have e1 : ∑ j : Fin 64, qlane Q R h ⟨j.val, by have := j.isLt; omega⟩ * klane K C S h ⟨j.val, by have := j.isLt; omega⟩ = dot Q K b h t s := by
    have hr : R = ⟨8192 * b.val + t % 8192, by have := R.isLt; omega⟩ := Fin.ext hR
    have hs : S = ⟨8192 * b.val + s % 8192, by have := S.isLt; omega⟩ := Fin.ext hS
    unfold dot
    refine Finset.sum_congr rfl fun j _ => ?_
    unfold qlane klane
    rw [dif_pos (show (⟨j.val, _⟩ : Fin 128).val < 64 from j.isLt), dif_pos (show (⟨j.val, _⟩ : Fin 128).val < 64 from j.isLt), ← hr, ← hs]
  have e2 : ∑ j : Fin 64, qlane Q R h ⟨64 + j.val, by have := j.isLt; omega⟩ * klane K C S h ⟨64 + j.val, by have := j.isLt; omega⟩
      = ((-lam : ℝ) : EReal) * gate C b h s := by
    have hs : S = ⟨8192 * b.val + s % 8192, by have := S.isLt; omega⟩ := Fin.ext hS
    rw [Finset.sum_eq_single (0 : Fin 64)]
    · unfold qlane klane gate
      rw [dif_neg (by show ¬ 64 + 0 < 64; omega), dif_neg (by show ¬ 64 + 0 < 64; omega), if_pos (by show 64 + 0 < 67; omega), if_pos (by show 64 + 0 = 64; rfl),
        one_mul, ← hs]
    · intro j _ hj
      have h0 : j.val ≠ 0 := fun h => hj (Fin.ext h)
      have : klane K C S h ⟨64 + j.val, by have := j.isLt; omega⟩ = 0 := by
        unfold klane
        rw [dif_neg (by show ¬ 64 + j.val < 64; omega), if_neg (by show ¬ 64 + j.val = 64; omega)]
      rw [this, mul_zero]
    · exact fun h => absurd (Finset.mem_univ _) h
  rw [sum_halves, e1, e2, ← dot_real Q K hQ hK, ← gate_real C hC, ← EReal.coe_mul, ← EReal.coe_add]
  unfold score
  rw [neg_mul, ← sub_eq_add_neg]

end Lanes

/-! ## The host's arrays -/

variable (m : (ℓ : Loc nD τ sig) → Buf (Elt Ideal) ℓ)

/-- The queries' array. -/
theorem queries_lane (d : Dev nD) (R : Fin 16384) (c : Fin 1024) (h : Fin 8) (j : Fin 128) (hc : c.val = 128 * h.val + j.val) :
    V m d main_v20 (ix2 R c) = qlane (m ((d : Thread nD τ).loc main_arg0)) R h j := by
  have hj := j.isLt
  have e : V m d main_v20 (ix2 R c) = qlane (m ((d : Thread nD τ).loc main_arg0)) R ⟨c.val / 128, by have := c.isLt; omega⟩ ⟨c.val % 128, Nat.mod_lt _ (by decide)⟩ := by
    entry_read
    pointwise
    unfold qlane
    have h2 : (c.val % 128 - 64 < 3) = (c.val % 128 < 67) := propext ⟨fun h => by omega, fun h => by omega⟩
    simp only [Nat.mul_comm 64, h2]
    rfl
  rw [e]
  have e1 : (⟨c.val / 128, by have := c.isLt; omega⟩ : Fin 8) = h := Fin.ext (by show c.val / 128 = h.val; omega)
  have e2 : (⟨c.val % 128, Nat.mod_lt _ (by decide)⟩ : Fin 128) = j := Fin.ext (by show c.val % 128 = j.val; omega)
  rw [e1, e2]

/-- The values' array. -/
theorem values_lane (d : Dev nD) (R : Fin 16384) (c : Fin 1024) (h : Fin 8) (j : Fin 128) (hc : c.val = 128 * h.val + j.val) :
    V m d main_v28 (ix2 R c) = vlane (m ((d : Thread nD τ).loc main_arg2)) R h j := by
  have hj := j.isLt
  have e : V m d main_v28 (ix2 R c) = vlane (m ((d : Thread nD τ).loc main_arg2)) R ⟨c.val / 128, by have := c.isLt; omega⟩ ⟨c.val % 128, Nat.mod_lt _ (by decide)⟩ := by
    entry_read
    pointwise
    unfold vlane
    simp only [Nat.mul_comm 64]
  rw [e]
  have e1 : (⟨c.val / 128, by have := c.isLt; omega⟩ : Fin 8) = h := Fin.ext (by show c.val / 128 = h.val; omega)
  have e2 : (⟨c.val % 128, Nat.mod_lt _ (by decide)⟩ : Fin 128) = j := Fin.ext (by show c.val % 128 = j.val; omega)
  rw [e1, e2]

/-- The buffers before the gates' three parts are put beside each other. -/
def parted (σ : Valuation τ sig (Elt Ideal)) : Valuation τ sig (Elt Ideal) := StableHlo.after (hostOps0.take 15) σ

/-- The buffers after that. -/
def joined (σ : Valuation τ sig (Elt Ideal)) : Valuation τ sig (Elt Ideal) := StableHlo.after ((hostOps0.drop 15).take 1) σ

theorem V_split (d : Dev nD) (b : Ref sig .tc) : V m d b = StableHlo.after (hostOps0.drop 16) (joined (parted (fun b => m (d, b)))) b := by
  unfold joined parted
  rw [← StableHlo.after_append, ← StableHlo.after_append]
  rfl

theorem rest_keys (σ : Valuation τ sig (Elt Ideal)) (R : Fin 16384) (c : Fin 1024) :
    StableHlo.after (hostOps0.drop 16) σ main_v24 (ix2 R c) = if h : c.val % 128 < 64 then σ main_arg1 (ix2 R ⟨c.val / 128 * 64 + c.val % 128, by have := c.isLt; omega⟩)
      else if h : c.val % 128 - 64 < 3 then σ main_v14 (ix3 R ⟨c.val / 128, by have := c.isLt; omega⟩ ⟨c.val % 128 - 64, h⟩) else (0 : EReal) := by
  simp only [hostOps0, List.drop_succ_cons, List.drop_zero]
  entry_read
  pointwise

theorem joined_parts (σ : Valuation τ sig (Elt Ideal)) : joined σ main_v14 = concatenate S16384x8x3 2 [⟨S16384x8x1, σ main_v11⟩, ⟨S16384x8x1, σ main_v12⟩, ⟨S16384x8x1, σ main_v13⟩] concatenates_S16384x8x1_S16384x8x1_S16384x8x1_S16384x8x3_d2 := by
  unfold joined
  simp only [hostOps0, List.drop_succ_cons, List.drop_zero, List.take_succ_cons, List.take_zero, StableHlo.after_cons, StableHlo.after_nil]
  rw [StableHlo.nary_result]
  rfl

theorem joined_arg (σ : Valuation τ sig (Elt Ideal)) : joined σ main_arg1 = σ main_arg1 := by
  unfold joined
  simp only [hostOps0, List.drop_succ_cons, List.drop_zero, List.take_succ_cons, List.take_zero, StableHlo.after_cons, StableHlo.after_nil]
  rw [StableHlo.nary_result_ne]
  decide

theorem joined_part0 (σ : Valuation τ sig (Elt Ideal)) (R : Fin 16384) (h : Fin 8) : joined σ main_v14 (ix3 R h 0) = σ main_v11 (ix3 R h 0) := by
  rw [joined_parts]; pointwise

theorem joined_part1 (σ : Valuation τ sig (Elt Ideal)) (R : Fin 16384) (h : Fin 8) : joined σ main_v14 (ix3 R h 1) = σ main_v12 (ix3 R h 0) := by
  rw [joined_parts]; pointwise

theorem joined_part2 (σ : Valuation τ sig (Elt Ideal)) (R : Fin 16384) (h : Fin 8) : joined σ main_v14 (ix3 R h 2) = σ main_v13 (ix3 R h 0) := by
  rw [joined_parts]; pointwise

theorem part0 (σ : Valuation τ sig (Elt Ideal)) (R : Fin 16384) (h : Fin 8) :
    parted σ main_v11 (ix3 R h 0) = (Ideal.ofBits .f32 0xBFB8AA3B#32 * σ main_arg3 (ix2 R h) : EReal) := by
  unfold parted
  simp only [hostOps0, List.take_succ_cons, List.take_zero]
  entry_read
  pointwise

theorem part1 (σ : Valuation τ sig (Elt Ideal)) (R : Fin 16384) (h : Fin 8) :
    parted σ main_v12 (ix3 R h 0) = (Ideal.ofBits .f32 0xBFB8AA3B#32 * σ main_arg3 (ix2 R h) - Ideal.ofBits .f32 0xBFB8AA3B#32 * σ main_arg3 (ix2 R h) : EReal) := by
  unfold parted
  simp only [hostOps0, List.take_succ_cons, List.take_zero]
  entry_read
  pointwise

theorem part2 (σ : Valuation τ sig (Elt Ideal)) (R : Fin 16384) (h : Fin 8) :
    parted σ main_v13 (ix3 R h 0) = ((Ideal.ofBits .f32 0xBFB8AA3B#32 * σ main_arg3 (ix2 R h) - Ideal.ofBits .f32 0xBFB8AA3B#32 * σ main_arg3 (ix2 R h))
      - (Ideal.ofBits .f32 0xBFB8AA3B#32 * σ main_arg3 (ix2 R h) - Ideal.ofBits .f32 0xBFB8AA3B#32 * σ main_arg3 (ix2 R h)) : EReal) := by
  unfold parted
  simp only [hostOps0, List.take_succ_cons, List.take_zero]
  entry_read
  pointwise

theorem parted_arg (σ : Valuation τ sig (Elt Ideal)) : parted σ main_arg1 = σ main_arg1 := by
  unfold parted
  simp only [hostOps0, List.take_succ_cons, List.take_zero]
  entry_read
  rfl

/-- The keys' array: at finite gates the first part is the whole gate, the other two are zero. -/
theorem keys_lane (d : Dev nD) (hC : IsFinite (m ((d : Thread nD τ).loc main_arg3))) (R : Fin 16384) (c : Fin 1024) (h : Fin 8) (j : Fin 128) (hc : c.val = 128 * h.val + j.val) :
    V m d main_v24 (ix2 R c) = klane (m ((d : Thread nD τ).loc main_arg1)) (m ((d : Thread nD τ).loc main_arg3)) R h j := by
  have hj := j.isLt
  have hd : c.val / 128 = h.val := by omega
  have hm : c.val % 128 = j.val := by omega
  rw [V_split, rest_keys]
  unfold klane
  by_cases h64 : j.val < 64
  · rw [dif_pos (by omega), dif_pos h64, joined_arg, parted_arg]
    simp only [hd, hm, Nat.mul_comm 64]
  have e1 : (⟨c.val / 128, by have := c.isLt; omega⟩ : Fin 8) = h := Fin.ext hd
  obtain ⟨x, hx⟩ := hC (ix2 R h)
  have hx' : m (d, Proc.tc.devRef main_arg3) (ix2 R h) = ((x : ℝ) : EReal) := hx
  rw [dif_neg (by omega), dif_neg h64, e1]
  by_cases h0 : j.val = 64
  · have e2 : (⟨c.val % 128 - 64, by omega⟩ : Fin 3) = 0 := Fin.ext (by show c.val % 128 - 64 = 0; omega)
    rw [dif_pos (by omega), if_pos h0, e2, joined_part0, part0, lam_neg]
  rw [if_neg h0]
  by_cases h1 : j.val = 65
  · have e2 : (⟨c.val % 128 - 64, by omega⟩ : Fin 3) = 1 := Fin.ext (by show c.val % 128 - 64 = 1; omega)
    rw [dif_pos (by omega), e2, joined_part1, part1, lam_neg]
    rw [hx', ← EReal.coe_mul, ← EReal.coe_sub, sub_self]
    rfl
  by_cases h2 : j.val = 66
  · have e2 : (⟨c.val % 128 - 64, by omega⟩ : Fin 3) = 2 := Fin.ext (by show c.val % 128 - 64 = 2; omega)
    rw [dif_pos (by omega), e2, joined_part2, part2, lam_neg]
    rw [hx', ← EReal.coe_mul, ← EReal.coe_sub, ← EReal.coe_sub, sub_self]
    rfl
  rw [dif_neg (by omega)]

end Cert.Kernel3Ideal.Fox

end
-- ==== Proof.Fox.Array.lean ====
/-
  The whole result array of the forgetting-attention kernel at the ideal instance.
-/
module

public import proofs.«01_k».proof.Proof.Fox.Lanes

@[expose] public section

set_option maxRecDepth 16384

noncomputable section

namespace Cert.Kernel3Ideal.Fox

open Cert.Kernel3Ideal Cert.Kernel3Ideal.Gen Cert.FoxSpec
open Idealize.ShloMosaic Idealize.ShloMosaic.TcCoe Idealize.SL.Sem

/-- Each window's block index at point `t = 64 b + 16 p + i`, and the point's last coordinate. -/
theorem idx : ∀ t : Fin grid0.N, win0_0.index t = ![t.val / 64 * 16 + t.val % 16, t.val / 16 % 4] ∧ win0_1.index t = ![t.val / 64, t.val / 16 % 4]
    ∧ win0_2.index t = ![t.val / 64, t.val / 16 % 4] ∧ win0_3.index t = ![t.val / 64 * 16 + t.val % 16, t.val / 16 % 4]
    ∧ ((grid0.coords t) 2).val = t.val % 16 := by
  decide +kernel

section Block

variable (Q K U : (⟨2, ![16384, 512]⟩ : Shape).Idx → EReal) (C : (⟨2, ![16384, 8]⟩ : Shape).Idx → EReal)
  (hQ : IsFinite Q) (hK : IsFinite K) (hC : IsFinite C)
  (x0 : Vec Ideal S512x256 .bf16) (x1 x2 : Vec Ideal S8192x256 .bf16) (i : grid0.Coords) (b : Fin 2) (p : Fin 4)
  (e0 : ∀ (r : Fin 512) (h : Fin 2) (j : Fin 128), x0 (ix2 r ⟨128 * h.val + j.val, by have := h.isLt; have := j.isLt; omega⟩)
    = qlane Q ⟨8192 * b.val + (512 * (i 2).val + r.val), by have h : (i 2).val < 16 := (i 2).isLt; have := r.isLt; have := b.isLt; omega⟩
      ⟨2 * p.val + h.val, by have := h.isLt; have := p.isLt; omega⟩ j)
  (e1 : ∀ (s : Fin 8192) (h : Fin 2) (j : Fin 128), x1 (ix2 s ⟨128 * h.val + j.val, by have := h.isLt; have := j.isLt; omega⟩)
    = klane K C ⟨8192 * b.val + s.val, by have := s.isLt; have := b.isLt; omega⟩ ⟨2 * p.val + h.val, by have := h.isLt; have := p.isLt; omega⟩ j)
  (e2 : ∀ (s : Fin 8192) (h : Fin 2) (j : Fin 128), x2 (ix2 s ⟨128 * h.val + j.val, by have := h.isLt; have := j.isLt; omega⟩)
    = vlane U ⟨8192 * b.val + s.val, by have := s.isLt; have := b.isLt; omega⟩ ⟨2 * p.val + h.val, by have := h.isLt; have := p.isLt; omega⟩ j)

/-- The scores of head `h` of the block's two. -/
def bscore (h : Fin 2) (r : Fin 512) (s : ℕ) : ℝ :=
  score Q K C b ⟨2 * p.val + h.val, by have := h.isLt; have := p.isLt; omega⟩ (512 * (i 2).val + r.val) s

/-- The values of head `h` of the block's two, ones in the upper lanes. -/
def bval (h : Fin 2) (j : Fin 128) (s : ℕ) : EReal :=
  vlane U ⟨8192 * b.val + s % 8192, by have := b.isLt; omega⟩ ⟨2 * p.val + h.val, by have := h.isLt; have := p.isLt; omega⟩ j

include hQ hK hC e0 e1 in
theorem scores (h : Fin 2) (col : Fin 129) (hcol : col.val = 128 * h.val) (q : FVec Ideal S512x128 .bf16)
    (hq : ∀ (r : Fin 512) (d : Fin 128), q (ix2 r d) = x0 (ix2 r ⟨128 * h.val + d.val, by have := h.isLt; have := d.isLt; omega⟩)) :
    Scores q x1 col (bscore Q K C i b p h) := by
  intro r s
  have hi : (i 2).val < 16 := (i 2).isLt
  have hr := r.isLt
  have hs := s.isLt
  have hb := b.isLt
  unfold bscore
  rw [← score_lanes Q K C hQ hK hC b ⟨2 * p.val + h.val, by have := h.isLt; have := p.isLt; omega⟩ (512 * (i 2).val + r.val) s.val
    ⟨8192 * b.val + (512 * (i 2).val + r.val), by omega⟩ ⟨8192 * b.val + s.val, by omega⟩ (by show _ + _ = _ + _; omega) (by show _ + _ = _ + _; omega)]
  refine Finset.sum_congr rfl fun j _ => ?_
  simp only [hcol]
  rw [hq, e0, e1]

include e2 in
theorem vals (h : Fin 2) (col : Fin 129) (hcol : col.val = 128 * h.val) : Vals x2 col (bval U b p h) := by
  intro s j
  have hs := s.isLt
  unfold bval
  simp only [hcol]
  rw [e2]
  simp only [Nat.mod_eq_of_lt hs]

theorem bval_ones (h : Fin 2) (d : Fin 64) : bval U b p h ⟨64 + d.val, by have := d.isLt; omega⟩ = fun _ => 1 := by
  funext s
  unfold bval vlane
  rw [dif_neg (by show ¬ 64 + d.val < 64; omega)]

include hQ hK hC e0 e1 e2 in
/-- A block whose operands are the right pieces of the arrays holds its piece of the result, whatever the first scratch buffer held. -/
theorem block_result (b0 b1 : Vec Ideal S1x1 .f32) (r : Fin 512) (c : Fin 128) :
    out i b0 b1 x0 x1 x2 (ix2 r c) = result Q K U C (ix2 ⟨8192 * b.val + (512 * (i 2).val + r.val), by have h : (i 2).val < 16 := (i 2).isLt; have := r.isLt; have := b.isLt; omega⟩
      ⟨128 * p.val + c.val, by have := c.isLt; have := p.isLt; omega⟩) := by
  have hi : (i 2).val < 16 := (i 2).isLt
  have hr := r.isLt
  have hc := c.isLt
  have hb := b.isLt
  have hp := p.isLt
  have o := out_apply x0 x1 x2 i b0 b1 (bscore Q K C i b p) (bval U b p)
    (scores Q K C hQ hK hC x0 x1 i b p e0 e1 0 0 rfl _ fun r d => (q0_apply x0 r d).trans (by congr 2; exact Fin.ext (by show d.val = 128 * 0 + d.val; omega)))
    (scores Q K C hQ hK hC x0 x1 i b p e0 e1 1 128 rfl _ fun r d => q1_apply x0 r d)
    (vals U x2 b p e2 0 0 rfl) (vals U x2 b p e2 1 128 rfl) (bval_ones U b p) r ⟨c.val / 64, by omega⟩ ⟨c.val % 64, by omega⟩
  have ec : (⟨64 * (c.val / 64) + c.val % 64, by omega⟩ : Fin 128) = c := Fin.ext (by show 64 * (c.val / 64) + c.val % 64 = c.val; omega)
  rw [ec] at o
  rw [o]
  rw [result_at Q K U C _ _ b ⟨512 * (i 2).val + r.val, by omega⟩ ⟨2 * p.val + c.val / 64, by omega⟩ ⟨c.val % 64, by omega⟩ rfl
    (by show 128 * p.val + c.val = 64 * (2 * p.val + c.val / 64) + c.val % 64; omega)]
  unfold lane
  have ev : bval U b p ⟨c.val / 64, by omega⟩ ⟨c.val % 64, by omega⟩
      = fun s => U (ix2 ⟨8192 * b.val + s % 8192, by omega⟩ ⟨64 * (2 * p.val + c.val / 64) + c.val % 64, by omega⟩) := by
    funext s
    unfold bval vlane
    rw [dif_pos (by show c.val % 64 < 64; omega)]
  rw [ev]
  rfl

end Block

variable (m : (ℓ : Loc nD τ sig) → Buf (Elt Ideal) ℓ)

/-- The blocks tile the result array, and each holds its piece of `result`. -/
theorem final (d : Dev nD) (hQ : IsFinite (m ((d : Thread nD τ).loc main_arg0))) (hK : IsFinite (m ((d : Thread nD τ).loc main_arg1)))
    (hC : IsFinite (m ((d : Thread nD τ).loc main_arg3)))
    (after : (w : Fin (cfg0 (F := Ideal)).W) → Fin (cfg0 (F := Ideal)).N → ((cfg0 (F := Ideal)).win w).block.Idx → Elt Ideal ((cfg0 (F := Ideal)).win w).elt)
    (ho : ∀ u, Out (grid0.coords u) (iblk m d 0 u) (iblk m d 1 u) (iblk m d 2 u) (after 3 u)) :
    ((rdat m d).withAfter after).arrAt 3 (cfg0 (F := Ideal)).N
      = result (m ((d : Thread nD τ).loc main_arg0)) (m ((d : Thread nD τ).loc main_arg1)) (m ((d : Thread nD τ).loc main_arg2)) (m ((d : Thread nD τ).loc main_arg3)) := by
  refine ((rdat m d).withAfter after).arrAt_eq_of_covers 3 _ (by decide +kernel) fun t hf y => ?_
  blk_simp
  obtain ⟨b0, b1, h⟩ := ho t
  rw [Pipeline.RDat.withAfter_after, h]
  idx_vars y
  have ht : t.val < 128 := t.isLt
  have hi := (idx t).2.2.2.2
  rw [block_result (m ((d : Thread nD τ).loc main_arg0)) (m ((d : Thread nD τ).loc main_arg1)) (m ((d : Thread nD τ).loc main_arg2)) (m ((d : Thread nD τ).loc main_arg3)) hQ hK hC
    (iblk m d 0 t) (iblk m d 1 t) (iblk m d 2 t) (grid0.coords t) ⟨t.val / 64, by omega⟩ ⟨t.val / 16 % 4, by omega⟩
    (fun r h j => by
      refine Eq.trans ?_ (queries_lane m d _ ⟨256 * (t.val / 16 % 4) + (128 * h.val + j.val), by have := h.isLt; have := j.isLt; omega⟩ _ j (by show _ + _ = _ * _ + _; dsimp only; omega))
      blk_ext [iblk, idx t])
    (fun s h j => by
      refine Eq.trans ?_ (keys_lane m d hC _ ⟨256 * (t.val / 16 % 4) + (128 * h.val + j.val), by have := h.isLt; have := j.isLt; omega⟩ _ j (by show _ + _ = _ * _ + _; dsimp only; omega))
      blk_ext [iblk, idx t])
    (fun s h j => by
      refine Eq.trans ?_ (values_lane m d _ ⟨256 * (t.val / 16 % 4) + (128 * h.val + j.val), by have := h.isLt; have := j.isLt; omega⟩ _ j (by show _ + _ = _ * _ + _; dsimp only; omega))
      blk_ext [iblk, idx t]) b0 b1 y0 y1]
  congr 1
  blk_ext [idx t]

end Cert.Kernel3Ideal.Fox

end
-- ==== Proof.Fox.Reference.lean ====
/-
  The reference's forgetting attention at the ideal instance, read index by index.
-/
module

public import proofs.«01_k».proof.Proof.Fox.Spec
public import proofs.«01_k».proof.Proof.Gen.Reference3Ideal.Run
public import Idealize.ShloMosaic.Lib.Pointwise
public import Idealize.ShloMosaic.PureOps.Ideal

@[expose] public section

set_option maxRecDepth 16384

noncomputable section

namespace Cert.Reference3Ideal.Fox

open Cert.Reference3Ideal Cert.Reference3Ideal.Gen Cert.FoxSpec
open Idealize.ShloMosaic Idealize.ShloMosaic.TcCoe Idealize.SL.Sem

/-! ## The operations by name -/

variable (q k v : FVec Ideal S16384x512 .bf16) (g : FVec Ideal S16384x8 .f32)

/-- The products of queries and keys. -/
def products : FVec Ideal S2x8x8192x8192 .f32 :=
  Host.dotGeneral dot_S2x8192x8x64_S2x8192x8x64_S2x8x8192x8192_3_3_1_1_02_02 none (shapeCast _ q shapeCasts_S16384x512_S2x8192x8x64) (shapeCast _ k shapeCasts_S16384x512_S2x8192x8x64)

/-- The gates, a head's beside each other. -/
def gates : FVec Ideal S2x8x8192 .f32 := transpose S2x8x8192 [0, 2, 1] (shapeCast _ g shapeCasts_S16384x8_S2x8192x8) transposes_S2x8192x8_S2x8x8192_0_2_1

/-- The query's gate less the key's, in base 2. -/
def forget (c : FVec Ideal S2x8x8192 .f32) : FVec Ideal S2x8x8192x8192 .f32 :=
  mulf (broadcastInDim S2x8x8192x8192 ![] bcast_S_S2x8x8192x8192 (constant S_ .f32 0x3FB8AA3B#32))
    (subf (broadcastInDim S2x8x8192x8192 ![0, 1, 2, 3] bcast_S2x8x8192x1_S2x8x8192x8192_0_1_2_3 (broadcastInDim S2x8x8192x1 ![0, 1, 2] bcast_S2x8x8192_S2x8x8192x1_0_1_2 c))
      (broadcastInDim S2x8x8192x8192 ![0, 1, 2, 3] bcast_S2x8x1x8192_S2x8x8192x8192_0_1_2_3 (broadcastInDim S2x8x1x8192 ![0, 1, 3] bcast_S2x8x8192_S2x8x1x8192_0_1_3 c)))

/-- Whether the key is not after the query. -/
def causal : IVec S2x8x8192x8192 1 :=
  broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Minus infinity everywhere. -/
def lowest : FVec Ideal S2x8x8192x8192 .f32 := broadcastInDim S2x8x8192x8192 ![] bcast_S_S2x8x8192x8192 (id (constant S_ .f32 0xFF800000#32))

/-- The masked scores. -/
def logits (p f : FVec Ideal S2x8x8192x8192 .f32) : FVec Ideal S2x8x8192x8192 .f32 := select causal (addf p f) lowest

/-- Each row's maximum. -/
def rowMax (x : FVec Ideal S2x8x8192x8192 .f32) : FVec Ideal S2x8x8192 .f32 :=
  Host.reduce FloatOps.maximumf x (constant S_ .f32 0xFF800000#32) reducesTo_S2x8x8192x8192_S2x8x8192_d3 h_S_

/-- A row's number along the row. -/
def along (x : FVec Ideal S2x8x8192 .f32) : FVec Ideal S2x8x8192x8192 .f32 :=
  broadcastInDim S2x8x8192x8192 ![0, 1, 2, 3] bcast_S2x8x8192x1_S2x8x8192x8192_0_1_2_3 (broadcastInDim S2x8x8192x1 ![0, 1, 2] bcast_S2x8x8192_S2x8x8192x1_0_1_2 x)

/-- Two to the power of each score less its row's maximum. -/
def powers (x : FVec Ideal S2x8x8192x8192 .f32) : FVec Ideal S2x8x8192x8192 .f32 :=
  Host.powf (broadcastInDim S2x8x8192x8192 ![] bcast_S_S2x8x8192x8192 (constant S_ .f32 0x40000000#32)) (subf x (along (rowMax x)))

/-- Each row's sum. -/
def rowSum (x : FVec Ideal S2x8x8192x8192 .f32) : FVec Ideal S2x8x8192 .f32 :=
  Host.reduceAdd x (constant S_ .f32 0x00000000#32) reducesTo_S2x8x8192x8192_S2x8x8192_d3 h_S_

/-- The attention weights. -/
def weights (e : FVec Ideal S2x8x8192x8192 .f32) : FVec Ideal S2x8x8192x8192 .bf16 := truncf .bf16 (Host.divf e (along (rowSum e))) bitsLt_bf16_f32

/-- The weighted values, as the product leaves them. -/
def mixed (a : FVec Ideal S2x8x8192x8192 .bf16) : FVec Ideal S2x8x64x8192 .f32 :=
  Host.dotGeneral dot_S2x8192x8x64_S2x8x8192x8192_S2x8x64x8192_1_3_3_2_02_01 none (shapeCast _ v shapeCasts_S16384x512_S2x8192x8x64) a

/-- The result. -/
def whole (x : FVec Ideal S2x8x64x8192 .f32) : FVec Ideal S16384x512 .f32 :=
  shapeCast _ (transpose S2x8192x8x64 [0, 3, 1, 2] x transposes_S2x8x64x8192_S2x8192x8x64_0_3_1_2) shapeCasts_S2x8192x8x64_S16384x512

theorem res_eq (m : (ℓ : Loc nD τ sig) → Buf (Elt Ideal) ℓ) (c : Dev nD) :
    Cert.Reference3Ideal.Value.res_out0 m c = whole (mixed (m ((c.tc : Thread nD τ).loc main_arg2)) (weights (powers
      (logits (products (m ((c.tc : Thread nD τ).loc main_arg0)) (m ((c.tc : Thread nD τ).loc main_arg1))) (forget (gates (m ((c.tc : Thread nD τ).loc main_arg3)))))))) := by
  unfold Cert.Reference3Ideal.Value.res_out0 Cert.Reference3Ideal.Value.res_main_v34 whole mixed weights rowSum powers along rowMax logits lowest causal forget gates products
  rfl

theorem whole_apply (x : FVec Ideal S2x8x64x8192 .f32) (R : Fin 16384) (C : Fin 512) : whole x (ix2 R C) = x (ix4 ⟨R.val / 8192, by have := R.isLt; omega⟩ ⟨C.val / 64, by have := C.isLt; omega⟩ ⟨C.val % 64, Nat.mod_lt _ (by decide)⟩ ⟨R.val % 8192, Nat.mod_lt _ (by decide)⟩) := by
  pointwise [whole]

theorem mixed_apply (a : FVec Ideal S2x8x8192x8192 .bf16) (b : Fin 2) (h : Fin 8) (d : Fin 64) (t : Fin 8192) :
    mixed v a (ix4 b h d t) = ∑ s : Fin 8192, v (ix2 ⟨8192 * b.val + s.val, by have := b.isLt; have := s.isLt; omega⟩ ⟨64 * h.val + d.val, by have := h.isLt; have := d.isLt; omega⟩) * a (ix4 b h t s) := by
  pointwise [mixed]
  simp only [Nat.mul_comm]

theorem products_apply (b : Fin 2) (h : Fin 8) (t s : Fin 8192) : products q k (ix4 b h t s) = dot q k b h t.val s.val := by
  pointwise [products]
  unfold dot
  simp only [Nat.mul_comm, Nat.mod_eq_of_lt t.isLt, Nat.mod_eq_of_lt s.isLt]

theorem gates_apply (b : Fin 2) (h : Fin 8) (s : Fin 8192) : gates g (ix3 b h s) = gate g b h s.val := by
  pointwise [gates]
  unfold gate
  simp only [Nat.mul_comm, Nat.mod_eq_of_lt s.isLt]

theorem forget_apply (c : FVec Ideal S2x8x8192 .f32) (b : Fin 2) (h : Fin 8) (t s : Fin 8192) :
    forget c (ix4 b h t s) = (lam : EReal) * (c (ix3 b h t) - c (ix3 b h s)) := by
  rw [← lam_pos]
  pointwise [forget]

theorem causal_apply (b : Fin 2) (h : Fin 8) (t s : Fin 8192) : causal (ix4 b h t s) = IntOp.cmpi .sle (BitVec.ofNat 32 s.val) (BitVec.ofNat 32 t.val) := by
  pointwise [causal]

theorem lowest_apply (b : Fin 2) (h : Fin 8) (t s : Fin 8192) : lowest (ix4 b h t s) = (⊥ : EReal) := by
  have e : Ideal.ofBits .f32 0xFF800000#32 = (⊥ : EReal) := by simp [Ideal.ofBits, Ideal.ieee]
  rw [← e]
  pointwise [lowest]
  rfl

theorem logits_apply (p f : FVec Ideal S2x8x8192x8192 .f32) (b : Fin 2) (h : Fin 8) (t s : Fin 8192) :
    logits p f (ix4 b h t s) = if s.val ≤ t.val then p (ix4 b h t s) + f (ix4 b h t s) else ⊥ := by
  rw [← select_sle s.val t.val (by have := s.isLt; omega) (by have := t.isLt; omega), ← causal_apply b h t s, ← lowest_apply b h t s]
  rfl

theorem along_apply (x : FVec Ideal S2x8x8192 .f32) (b : Fin 2) (h : Fin 8) (t s : Fin 8192) : along x (ix4 b h t s) = x (ix3 b h t) := by
  pointwise [along]

theorem rowMax_apply (x : FVec Ideal S2x8x8192x8192 .f32) (b : Fin 2) (h : Fin 8) (t : Fin 8192) :
    rowMax x (ix3 b h t) = Finset.fold max (Ideal.ofBits .f32 0xFF800000#32) (fun s => x (ix4 b h t s)) Finset.univ := by
  pointwise [rowMax]

theorem rowSum_apply (x : FVec Ideal S2x8x8192x8192 .f32) (b : Fin 2) (h : Fin 8) (t : Fin 8192) : rowSum x (ix3 b h t) = ∑ s, x (ix4 b h t s) := by
  pointwise [rowSum]

theorem powers_apply (x : FVec Ideal S2x8x8192x8192 .f32) (b : Fin 2) (h : Fin 8) (t s : Fin 8192) :
    powers x (ix4 b h t s) = Ideal.pow ((2 : ℝ) : EReal) (x (ix4 b h t s) - rowMax x (ix3 b h t)) := by
  have e : Ideal.ofBits .f32 0x40000000#32 = ((2 : ℝ) : EReal) := by
    simp [Ideal.ofBits, Ideal.ieee]
    rw [← EReal.coe_mul]
    norm_num
  rw [← e, ← along_apply (rowMax x) b h t s]
  generalize hy : along (rowMax x) = y
  have hp : powers x = Host.powf (broadcastInDim S2x8x8192x8192 ![] bcast_S_S2x8x8192x8192 (constant S_ .f32 0x40000000#32)) (subf x y) := by rw [← hy]; rfl
  rw [hp]
  pointwise

theorem weights_apply (e : FVec Ideal S2x8x8192x8192 .f32) (b : Fin 2) (h : Fin 8) (t s : Fin 8192) :
    weights e (ix4 b h t s) = Ideal.div (e (ix4 b h t s)) (∑ j, e (ix4 b h t j)) := by
  rw [← rowSum_apply e b h t, ← along_apply (rowSum e) b h t s]
  rfl

/-! ## At real scores -/

theorem pow_real (r : ℝ) : Ideal.pow ((2 : ℝ) : EReal) (r : EReal) = (((2 : ℝ) ^ r : ℝ) : EReal) := rfl

theorem pow_bot : Ideal.pow ((2 : ℝ) : EReal) ⊥ = 0 := by
  rw [Ideal.pow_coe_bot, if_neg (by norm_num), if_pos (by norm_num)]

/-- A row of powers: the weights relative to some real number, zero past the query. -/
theorem powers_row (x : FVec Ideal S2x8x8192x8192 .f32) (b : Fin 2) (h : Fin 8) (t : Fin 8192) (z : ℕ → ℝ) (c : ℝ)
    (hx : ∀ s : Fin 8192, x (ix4 b h t s) = if s.val ≤ t.val then ((z s.val + c : ℝ) : EReal) else ⊥) :
    ∃ M : ℝ, ∀ s : Fin 8192, powers x (ix4 b h t s) = if s.val ≤ t.val then (wt z M s.val : EReal) else 0 := by
  obtain ⟨N, hN⟩ := max_real ⊥ (fun s => x (ix4 b h t s)) bot_ne_top
    (fun s => by show x _ ≠ _; rw [hx]; split_ifs; exacts [EReal.coe_ne_top _, bot_ne_top])
    (.inr ⟨t, by show x _ ≠ _; rw [hx, if_pos le_rfl]; exact EReal.coe_ne_bot _⟩)
  rw [max_eq_right bot_le, ← rowMax_apply] at hN
  refine ⟨N - c, fun s => ?_⟩
  rw [powers_apply, hN, hx]
  split_ifs
  · rw [← EReal.coe_sub, pow_real]
    unfold wt
    rw [show z s.val + c - N = z s.val - (N - c) by ring]
  · rw [EReal.bot_sub, pow_bot]

/-- The reference's result at finite queries, keys and gates. -/
theorem res_value (hq : IsFinite q) (hk : IsFinite k) (hg : IsFinite g) : whole (mixed v (weights (powers (logits (products q k) (forget (gates g)))))) = result q k v g := by
  funext x
  obtain ⟨R, C, rfl⟩ : ∃ (R : Fin 16384) (C : Fin 512), x = ix2 R C := ⟨x 0, x 1, eq_ix2 x⟩
  have hR := R.isLt
  have hC := C.isLt
  obtain ⟨b, hb⟩ : ∃ b : Fin 2, b = ⟨R.val / 8192, by omega⟩ := ⟨_, rfl⟩
  obtain ⟨h, hh⟩ : ∃ h : Fin 8, h = ⟨C.val / 64, by omega⟩ := ⟨_, rfl⟩
  obtain ⟨d, hd⟩ : ∃ d : Fin 64, d = ⟨C.val % 64, Nat.mod_lt _ (by decide)⟩ := ⟨_, rfl⟩
  obtain ⟨t, ht⟩ : ∃ t : Fin 8192, t = ⟨R.val % 8192, Nat.mod_lt _ (by decide)⟩ := ⟨_, rfl⟩
  rw [whole_apply]
  show _ = lane q k v g ⟨R.val / 8192, _⟩ ⟨R.val % 8192, _⟩ ⟨C.val / 64, _⟩ ⟨C.val % 64, _⟩
  rw [← hb, ← hh, ← hd, ← ht, mixed_apply]
  obtain ⟨M, hM⟩ := powers_row (logits (products q k) (forget (gates g))) b h t (score q k g b h t.val) (lam * (gate g b h t.val).toReal) (fun s => by
    rw [logits_apply]
    split_ifs
    · rw [products_apply, forget_apply, gates_apply, gates_apply, ← dot_real q k hq hk, ← gate_real g hg, ← gate_real g hg b h s.val]
      rw [← EReal.coe_sub, ← EReal.coe_mul, ← EReal.coe_add]
      unfold score
      simp only [EReal.toReal_coe]
      congr 1; ring
    · rfl)
  unfold lane
  rw [← row_sum _ _ t.val 8192 t.isLt M (fun s => powers (logits (products q k) (forget (gates g))) (ix4 b h t s)) hM]
  refine Finset.sum_congr rfl fun s _ => ?_
  rw [weights_apply]
  simp only [Nat.mod_eq_of_lt s.isLt]

end Cert.Reference3Ideal.Fox

end
-- ==== Proof.Fox.Finite.lean ====
/-
  What the forgetting attention's precondition says at the ideal instance: every query, key and gate element is a real number.
-/
module

public import proofs.«01_k».proof.Proof.Fox.Spec
public import proofs.«01_k».proof.Proof.Gen.Pre_finite3
public import Idealize.ShloMosaic.Lib.ReduceAll
public import Idealize.ShloMosaic.Lib.Pointwise

@[expose] public section

noncomputable section

namespace Cert.Pre_finite3.Fox

open Cert.Pre_finite3 Cert.Pre_finite3.Gen Cert.FoxSpec
open Idealize.ShloMosaic

/-- A number whose absolute value is less than infinity is real. -/
theorem real_of_abs_lt (φ : FTy) (x : EReal) (h : FloatOps.cmpf (F := Ideal) (φ := φ) .olt (FloatOps.hostAbsf (F := Ideal) (φ := φ) x) ⊤ = 1#1) : ∃ r : ℝ, x = (r : EReal) := by
  have h1 : max x (-x) < ⊤ := by
    have h2 : BitVec.ofBool (decide (max x (-x) < ⊤)) = 1#1 := h
    by_contra hn
    rw [decide_eq_false hn] at h2
    exact absurd h2 (by decide)
  refine ⟨x.toReal, (EReal.coe_toReal ?_ ?_).symm⟩
  · rintro rfl; simp at h1
  · rintro rfl; simp at h1

theorem finite_of_all (x : FVec Ideal S16384x512 .bf16)
    (h : ∀ i, cmpf .olt (Host.absf x) (broadcastInDim S16384x512 ![] bcast_S_S16384x512 (constant (F := Ideal) S_ .bf16 0x7F80#16)) i = 1#1) : IsFinite x := by
  intro i
  refine real_of_abs_lt .bf16 _ ?_
  have e : (⊤ : EReal) = Ideal.ofBits .bf16 0x7F80#16 := by simp [Ideal.ofBits, Ideal.ieee]
  rw [e]
  exact h i

theorem finite_gates (x : FVec Ideal S16384x8 .f32)
    (h : ∀ i, cmpf .olt (Host.absf x) (broadcastInDim S16384x8 ![] bcast_S_S16384x8 (constant (F := Ideal) S_ .f32 0x7F800000#32)) i = 1#1) : IsFinite x := by
  intro i
  refine real_of_abs_lt .f32 _ ?_
  have e : (⊤ : EReal) = Ideal.ofBits .f32 0x7F800000#32 := by simp [Ideal.ofBits, Ideal.ieee]
  rw [e]
  exact h i

theorem finite_of_fn (q k v : FVec Ideal S16384x512 .bf16) (c : FVec Ideal S16384x8 .f32) (h : fn (F := Ideal) q k v c = fun _ => 1#1) : IsFinite q ∧ IsFinite k ∧ IsFinite c := by
  have h0 := congrFun h (ix0)
  unfold fn at h0
  simp only [] at h0
  obtain ⟨ab, g⟩ := IntOp.andi_eq_one.1 h0
  obtain ⟨a, b⟩ := IntOp.andi_eq_one.1 ab
  exact ⟨finite_of_all q (Host.reduce_andi_all _ _ _ _ _ a), finite_of_all k (Host.reduce_andi_all _ _ _ _ _ b), finite_gates c (Host.reduce_andi_all _ _ _ _ _ g)⟩

end Cert.Pre_finite3.Fox

end
-- ==== Proof.Out.Region.lean ====
/-
  A kernel's region among a run's segments, as its entry and its exit: there is a record of the region that is entered from all the
  buffers of a set and left with the region's arrays at their last contents, beside what the core owes and what else rides along.
-/
module

public import Idealize.ShloMosaic.Lib.Pipeline.RegionArraysS

@[expose] public noncomputable section

namespace Cert.Out

open Idealize.ShloMosaic Idealize.ShloMosaic.TcCoe Idealize.ShloMosaic.Pipeline
open Idealize.SL Idealize.SL.RA Idealize.SL.BI
open Idealize.SL.BI (sProp)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Ix : Type} [DecidableEq Ix] {Name : Type} [DecidableEq Name]
  {U : Type} [URA U] {Lvl : Type} [Preorder Lvl] {Λ₀ : Labels} {P : Type}

local notation "𝕄" => MT nD τ sig Ix Val Name U Lvl

variable {pcs : P → PCfg sig Λ₀ Val} {a : (p : P) → (pcs p).Adm} {pdats : (p : P) → (c : Dev nD) → Dat τ Val Ix Name U Lvl (pin pcs a p) c}
  {ι : Ix} {defs₀ : Defs nD τ sig Val Λ₀} {𝒱₀ : Variants} {L : GSem nD τ sig → Finset Ix} {lv : GSem nD τ sig → Ix → Lvl}

/-- A record of region `p` with its entry and its exit over the buffers `S`. -/
theorem exists_region (p : P) (D : Dev nD → CellTallies nD τ sig Ix) {S : Finset (DevRef τ sig)} (hS : arrRefs (pcs p).spec ⊆ S)
    (X Y Q : Dev nD → sProp 𝕄) (kit : PLaunchFacts (nD := nD) (τ := τ) pcs p) (hK : (pcs p).pre.K = 0)
    (hbody : ∀ c, BodyObligationLoose (pdats p c) defs₀ 𝒱₀ ι Set.univ) (howed : ∀ c t, (pdats p c).owed t = D c)
    (hrec : ∀ c, (pdats p c).recorded 0 = Set.univ) (hshare : ∀ c w, (pdats p c).share w = fullShare)
    (hin : ∀ c, iprop(scopedRest (pin pcs a p).spec c ∗ X c) ⊢ (pdats p c).Φ 0)
    (hout : ∀ c, (pdats p c).Φ (Fin.last (pin pcs a p).N) ⊢ iprop(scopedRest (pin pcs a p).spec c ∗ Y c))
    (b : Dev nD → Lvl) (hcut : LevelCut pcs a ι L lv p D b) (W : Dev nD → Valuation τ sig Val)
    (hW : ∀ c w, (pdats p c).arrAt w 0 = W c (Proc.devRef .tc (arrRef (pin pcs a p).spec w))) :
    ∃ R : RegionSeg pcs a pdats ι defs₀ 𝒱₀ L lv p,
      (∀ c : Dev nD, iprop(StableHlo.held (c.tc : Thread nD τ) S (W c) ∗ ((∃ Wd, owes (c : Thread nD τ) (D c) Wd) ∗ X c ∗ Q c)) ⊢ R.pre c)
      ∧ ∀ c : Dev nD, R.post c
        ⊢ iprop(StableHlo.held (c.tc : Thread nD τ) S (afterRegion (pdats p c) (W c)) ∗ ((∃ Wd, owes (c : Thread nD τ) (D c) Wd) ∗ Y c ∗ Q c)) := by
  refine ⟨RegionSeg.ofHeldIn pcs a pdats ι defs₀ 𝒱₀ L lv p D S X Y kit hK hbody howed hrec hshare hin hout b hcut Q W hW, fun c => ?_, fun c => ?_⟩
  · exact RegionSeg.ofHeldIn_pre hS c
  · exact RegionSeg.ofHeldIn_post hS c

end Cert.Out

end
-- ==== Proof.Out.Body.lean ====
/-
  The output projection's kernel run once, and the kernel that reads its packed words back: what each leaves in its result blocks as
  functions of its operand blocks, the first one's also of the counts it carries from point to point in its scratch buffer
  (zero-filled at the first point, `start`).
-/
module

public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Regions
public import Idealize.ShloMosaic.Lib.Pipeline.FrameBody
public import Idealize.ShloMosaic.Lib.Pipeline.FrameTail
public import Idealize.ShloMosaic.Lib.Pipeline.RegionArraysS
public import Idealize.ShloMosaic.Lib.Claim
public import Idealize.ShloMosaic.Lib.Tactic
public import Idealize.ShloMosaic.Lib.WordCmp

@[expose] public section

set_option maxRecDepth 16384

noncomputable section

namespace Cert.Kernel4.Out

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The blocks' parts -/

abbrev r512x512 : Rect S512x512 := Rect.unit (s := S512x512) ![0, 0] S512x512.size inb_S512x512_S512x512_0_0
abbrev r1x512 : Rect S1x512 := Rect.unit (s := S1x512) ![0, 0] S1x512.size inb_S1x512_S1x512_0_0
abbrev r512x1024 : Rect S512x1024 := Rect.unit (s := S512x1024) ![0, 0] S512x1024.size inb_S512x1024_S512x1024_0_0
abbrev r1024x1024_0_0_512x1024 : Rect S1024x1024 := Rect.unit (s := S1024x1024) ![0, 0] S512x1024.size inb_S1024x1024_S512x1024_0_0
abbrev r1024x1024_512_0_512x1024 : Rect S1024x1024 := Rect.unit (s := S1024x1024) ![512, 0] S512x1024.size inb_S1024x1024_S512x1024_512_0
abbrev r1x1024 : Rect S1x1024 := Rect.unit (s := S1x1024) ![0, 0] S1x1024.size inb_S1x1024_S1x1024_0_0
abbrev r1024x128 : Rect S1024x128 := Rect.unit (s := S1024x128) ![0, 0] S1024x128.size inb_S1024x128_S1024x128_0_0
abbrev r1x128 : Rect S1x128 := Rect.unit (s := S1x128) ![0, 0] S1x128.size inb_S1x128_S1x128_0_0
abbrev r8x128_0_0_1x128 : Rect S8x128 := Rect.unit (s := S8x128) ![0, 0] S1x128.size inb_S8x128_S1x128_0_0
abbrev r8x128 : Rect S8x128 := Rect.unit (s := S8x128) ![0, 0] S8x128.size inb_S8x128_S8x128_0_0
abbrev r512x128 : Rect S512x128 := Rect.unit (s := S512x128) ![0, 0] S512x128.size inb_S512x128_S512x128_0_0

/-! ## What the output projection leaves -/

/-- Is this the first point? -/
abbrev isFirst (i : grid0.Coords) : BitVec 1 :=
  Scalar.cmpi .ne (Scalar.extui (Scalar.cmpi .eq (BitVec.ofNat 32 (i 0).val) 0#32) : BitVec 32) 0#32

/-- The counts a point starts from: zeros at the first point, else those found. -/
def start (i : grid0.Coords) (s : Vec F S8x128 .f32) : Vec F S8x128 .f32 :=
  if isFirst i = 1#1 then View.canon [⟨r8x128, k0_pay3 (F := F)⟩] else s

/-- The block of updated activations. -/
def outX (x1 : Vec F S512x1024 .f32) (x2 : Vec F S512x512 .f32) (x3 : Vec F S512x512 .f32) (x4 : Vec F S1x512 .f32) (x5 : Vec F S1x512 .f32) (x6 : Vec F S1024x1024 .bf16) : Vec F S512x1024 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  View.canon [⟨r512x1024, k0_pay7 v18 v34 v35 v37 v40⟩]

/-- The block of packed normalised activations. -/
def outH (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) : Vec F S512x512 .i32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  View.canon [⟨r512x512, k0_pay9 v18 v34 v35 v37 v40 v45⟩]

/-- The block of routing data, from the counts `s` carried in. -/
def outM (s : Vec F S8x128 .f32) (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) (x11 : Vec F S512x512 .bf16) : Vec F S512x128 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  let v67 : Vec F S1024x128 .bf16 := View.ld x8 r1024x128
  let v70 : Vec F S1024x128 .bf16 := View.ld x8 r1024x128
  let v74 : Vec F S1024x128 .bf16 := View.ld x9 r1024x128
  let v63 := k0_pay10 v18 v34 v35 v37 v40 v45
  let v73 := k0_pay11 v18 v34 v35 v37 v40 v45 v67 v70
  let v78 : Vec F S1x128 .f32 := View.ld x10 r1x128
  let v82 : IVec S512x128 32 := iota .tc S512x128 32 [1] iota_S512x128_d1_w32
  let v83 := k0_pay13 (F := F)
  let v85 := k0_pay14 v63 v73 v74 v78
  let v91 := k0_pay15 v63 v73 v74 v78
  let v93 := k0_pay16 v63 v73 v74 v78
  let v97 := k0_pay18 v63 v73 v74 v78
  let v103 := k0_pay19 v63 v73 v74 v78
  let v105 := k0_pay20 v63 v73 v74 v78
  let v109 := k0_pay22 v63 v73 v74 v78
  let v115 := k0_pay23 v63 v73 v74 v78
  let v117 := k0_pay24 v63 v73 v74 v78
  let v119 := k0_pay25 v63 v73 v74 v78
  let v162 : Vec F S512x512 .bf16 := View.ld x11 r512x512
  let cst_66 : FVec F S512x128 .f32 := constant S512x128 .f32 0x00000000#32
  let v127 := k0_pay27 v83 v119
  let v129 := k0_pay28 v83 v119
  let v141 := k0_pay34 v85 v97 v109 v119
  let v142 := k0_pay35 v85 v97 v109 v119
  let v143 := k0_pay36 v85 v97 v109 v119
  let v144 := k0_pay37 v85 v97 v109 v119
  let v163 := k0_pay39 v162
  let v164 := k0_pay40 v83 v93 v105 v117 v119
  let v166 : Vec F S1x128 .f32 := View.ld s r8x128_0_0_1x128
  let v168 := k0_pay41 v163 v164 cst_66 v166
  let v207 := k0_pay42 v82 v91 v93 v103 v105 v141 v142 v163 v164 cst_66 v166
  let v209 := k0_pay43 v117 v163 v164 cst_66 v166
  View.canon [⟨r512x128, k0_pay44 v82 v115 v127 v129 v143 v144 v168 v207 v209⟩]

/-- The counts after the point, as the result block has them. -/
def outC (s : Vec F S8x128 .f32) (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) : Vec F S8x128 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  let v67 : Vec F S1024x128 .bf16 := View.ld x8 r1024x128
  let v70 : Vec F S1024x128 .bf16 := View.ld x8 r1024x128
  let v74 : Vec F S1024x128 .bf16 := View.ld x9 r1024x128
  let v63 := k0_pay10 v18 v34 v35 v37 v40 v45
  let v73 := k0_pay11 v18 v34 v35 v37 v40 v45 v67 v70
  let v78 : Vec F S1x128 .f32 := View.ld x10 r1x128
  let v83 := k0_pay13 (F := F)
  let v93 := k0_pay16 v63 v73 v74 v78
  let v105 := k0_pay20 v63 v73 v74 v78
  let v117 := k0_pay24 v63 v73 v74 v78
  let v119 := k0_pay25 v63 v73 v74 v78
  let v161 := k0_pay38 v83 v93 v105 v117 v119
  let v247 : Vec F S1x128 .f32 := View.ld s r8x128_0_0_1x128
  let v250 := k0_pay45 v161 v247
  View.canon [⟨r8x128, k0_pay2 v250⟩]

/-- The counts carried to the next point. -/
def outS (s : Vec F S8x128 .f32) (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) : Vec F S8x128 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  let v67 : Vec F S1024x128 .bf16 := View.ld x8 r1024x128
  let v70 : Vec F S1024x128 .bf16 := View.ld x8 r1024x128
  let v74 : Vec F S1024x128 .bf16 := View.ld x9 r1024x128
  let v63 := k0_pay10 v18 v34 v35 v37 v40 v45
  let v73 := k0_pay11 v18 v34 v35 v37 v40 v45 v67 v70
  let v78 : Vec F S1x128 .f32 := View.ld x10 r1x128
  let v83 := k0_pay13 (F := F)
  let v93 := k0_pay16 v63 v73 v74 v78
  let v105 := k0_pay20 v63 v73 v74 v78
  let v117 := k0_pay24 v63 v73 v74 v78
  let v119 := k0_pay25 v63 v73 v74 v78
  let v161 := k0_pay38 v83 v93 v105 v117 v119
  let v247 : Vec F S1x128 .f32 := View.ld s r8x128_0_0_1x128
  let v252 := k0_pay46 v161 v247
  View.canon [⟨r8x128, k0_pay1 v252⟩]

theorem cover12 (p : Vec F S512x1024 .f32) (y : S512x1024.Idx) : ∃ pc ∈ ([⟨r512x1024, p⟩] : List (View.Piece (Elt F) S512x1024 .f32)), y ∈ pc.1.set :=
  View.cover_of_tiled [⟨r512x1024, p⟩] S512x1024.size (by rfl) y
theorem cover13 (p : Vec F S512x512 .i32) (y : S512x512.Idx) : ∃ pc ∈ ([⟨r512x512, p⟩] : List (View.Piece (Elt F) S512x512 .i32)), y ∈ pc.1.set :=
  View.cover_of_tiled [⟨r512x512, p⟩] S512x512.size (by rfl) y
theorem cover14 (p : Vec F S512x128 .f32) (y : S512x128.Idx) : ∃ pc ∈ ([⟨r512x128, p⟩] : List (View.Piece (Elt F) S512x128 .f32)), y ∈ pc.1.set :=
  View.cover_of_tiled [⟨r512x128, p⟩] S512x128.size (by rfl) y
theorem cover15 (p : Vec F S8x128 .f32) (y : S8x128.Idx) : ∃ pc ∈ ([⟨r8x128, p⟩] : List (View.Piece (Elt F) S8x128 .f32)), y ∈ pc.1.set :=
  View.cover_of_tiled [⟨r8x128, p⟩] S8x128.size (by rfl) y

theorem slab_sub {s : Shape} {e : EltTy} (arg : Memref sig .tc .vmem s e) (r : Rect s) : (arg.access r).set ⊆ arg.view.set := by
  show (arg.view.slice r).set ⊆ arg.view.set
  rw [View.set_slice]; exact View.setOn_subset_set _ _

set_option maxHeartbeats 4000000 in
theorem sound_kernel (c : Dev nD) (E : Set ℕ) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x512 .i32) (harg13 : arg13.IsWhole) (arg14 : Memref sig .tc .vmem S512x128 .f32) (harg14 : arg14.IsWhole) (arg15 : Memref sig .tc .vmem S8x128 .f32) (harg15 : arg15.IsWhole) (arg16 : Memref sig .tc .vmem S8x128 .f32) (harg16 : arg16.IsWhole)
    (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) (x11 : Vec F S512x512 .bf16) (s : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (∃ d, owns (c : Thread nD τ) arg12 fullShare d) ∗ (∃ d, owns (c : Thread nD τ) arg13 fullShare d) ∗ (∃ d, owns (c : Thread nD τ) arg14 fullShare d)
        ∗ (∃ d, owns (c : Thread nD τ) arg15 fullShare d) ∗ owns (c : Thread nD τ) arg16 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ owns (c : Thread nD τ) arg12 fullShare (outX x1 x2 x3 x4 x5 x6) ∗ owns (c : Thread nD τ) arg13 fullShare (outH x1 x2 x3 x4 x5 x6 x7)
            ∗ owns (c : Thread nD τ) arg14 fullShare (outM (start i s) x1 x2 x3 x4 x5 x6 x7 x8 x9 x10 x11) ∗ owns (c : Thread nD τ) arg15 fullShare (outC (start i s) x1 x2 x3 x4 x5 x6 x7 x8 x9 x10)
            ∗ owns (c : Thread nD τ) arg16 fullShare (outS (start i s) x1 x2 x3 x4 x5 x6 x7 x8 x9 x10)) -∗ K ⟨⟩))
      ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_outproj_eq_skeleton]; unfold cc0_outproj_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, Hk⟩
  subst hf1 hf2 hf3 hf4 hf5 hf6 hf7 hf8 hf9 hf10 hf11 hf16
  unfold k0_part1_skel k0_part2_skel k0_part3_skel k0_part4_skel k0_part5_skel k0_part6_skel
  by_cases h : isFirst i = 1#1
  case' pos =>
    simp only [dif_pos h, Prog.lift, Prog.bind_op, Prog.bind_ret, Prog.pure_eq_ret]
    iapply (wp_load Variants.none (c : Thread nD τ) none E (m := arg16) (View.setOn_subset_set _ _)) $$ H16; iintro H16
    iapply (wp_store_writes₀ Variants.none (c : Thread nD τ) none E (m := arg16) (slab_sub arg16 _)) $$ H16; iintro H16
    obtain ⟨g, hg⟩ : ∃ g, g = arg16.view.writes (Elt F) f16 [⟨r8x128, k0_pay3 (F := F)⟩] := ⟨_, rfl⟩
    rw [← hg]
    replace hg : arg16.view.read (Elt F) g = start i (arg16.view.read (Elt F) f16) := by
      rw [hg, View.read_writes_eq_canon _ _ _ (cover15 _), start, if_pos h]
  case' neg =>
    simp only [dif_neg h, Prog.lift, Prog.bind_op, Prog.bind_ret, Prog.pure_eq_ret]
    obtain ⟨g, hg⟩ : ∃ g, g = f16 := ⟨_, rfl⟩
    rw [← hg]
    replace hg : arg16.view.read (Elt F) g = start i (arg16.view.read (Elt F) g) := by
      rw [start, if_neg h]
  all_goals
    iapply (wp_load Variants.none (c : Thread nD τ) none E (m := arg2) (View.setOn_subset_set _ _)) $$ H2; iintro H2
    iapply (wp_load Variants.none (c : Thread nD τ) none E (m := arg4) (View.setOn_subset_set _ _)) $$ H4; iintro H4
    iapply (wp_load Variants.none (c : Thread nD τ) none E (m := arg3) (View.setOn_subset_set _ _)) $$ H3; iintro H3
    iapply (wp_load Variants.none (c : Thread nD τ) none E (m := arg5) (View.setOn_subset_set _ _)) $$ H5; iintro H5
    iapply (wp_load Variants.none (c : Thread nD τ) none E (m := arg1) (View.setOn_subset_set _ _)) $$ H1; iintro H1
    iapply (wp_load Variants.none (c : Thread nD τ) none E (m := arg6) (View.setOn_subset_set _ _)) $$ H6; iintro H6
    iapply (wp_load Variants.none (c : Thread nD τ) none E (m := arg6) (View.setOn_subset_set _ _)) $$ H6; iintro H6
    iapply (wp_load Variants.none (c : Thread nD τ) none E (m := arg12) (View.setOn_subset_set _ _)) $$ H12; iintro H12
    iapply (wp_store_writes₀ Variants.none (c : Thread nD τ) none E (m := arg12) (slab_sub arg12 _)) $$ H12; iintro H12
    iapply (wp_load Variants.none (c : Thread nD τ) none E (m := arg7) (View.setOn_subset_set _ _)) $$ H7; iintro H7
    iapply (wp_load Variants.none (c : Thread nD τ) none E (m := arg13) (View.setOn_subset_set _ _)) $$ H13; iintro H13
    iapply (wp_store_writes₀ Variants.none (c : Thread nD τ) none E (m := arg13) (slab_sub arg13 _)) $$ H13; iintro H13
    iapply (wp_load Variants.none (c : Thread nD τ) none E (m := arg8) (View.setOn_subset_set _ _)) $$ H8; iintro H8
    iapply (wp_load Variants.none (c : Thread nD τ) none E (m := arg8) (View.setOn_subset_set _ _)) $$ H8; iintro H8
    iapply (wp_load Variants.none (c : Thread nD τ) none E (m := arg9) (View.setOn_subset_set _ _)) $$ H9; iintro H9
    iapply (wp_load Variants.none (c : Thread nD τ) none E (m := arg10) (View.setOn_subset_set _ _)) $$ H10; iintro H10
    iapply (wp_load Variants.none (c : Thread nD τ) none E (m := arg11) (View.setOn_subset_set _ _)) $$ H11; iintro H11
    iapply (wp_load Variants.none (c : Thread nD τ) none E (m := arg16) (View.setOn_subset_set _ _)) $$ H16; iintro H16
    iapply (wp_load Variants.none (c : Thread nD τ) none E (m := arg14) (View.setOn_subset_set _ _)) $$ H14; iintro H14
    iapply (wp_store_writes₀ Variants.none (c : Thread nD τ) none E (m := arg14) (slab_sub arg14 _)) $$ H14; iintro H14
    iapply (wp_load Variants.none (c : Thread nD τ) none E (m := arg16) (View.setOn_subset_set _ _)) $$ H16; iintro H16
    iapply (wp_load Variants.none (c : Thread nD τ) none E (m := arg16) (View.setOn_subset_set _ _)) $$ H16; iintro H16
    iapply (wp_store_writes₀ Variants.none (c : Thread nD τ) none E (m := arg16) (slab_sub arg16 _)) $$ H16; iintro H16
    iapply (wp_load Variants.none (c : Thread nD τ) none E (m := arg15) (View.setOn_subset_set _ _)) $$ H15; iintro H15
    iapply (wp_store_writes₀ Variants.none (c : Thread nD τ) none E (m := arg15) (slab_sub arg15 _)) $$ H15; iintro H15
    rw [wp_ret]; imodintro
    simp only [View.readAt_eq_ld]
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists _; isplitr
      swap; · iexact H12
      ipureintro
      rw [View.read_writes_eq_canon _ _ _ (cover12 _)]
      rfl
    isplitl [H13]
    · iexists _; isplitr
      swap; · iexact H13
      ipureintro
      rw [View.read_writes_eq_canon _ _ _ (cover13 _)]
      rfl
    isplitl [H14]
    · iexists _; isplitr
      swap; · iexact H14
      ipureintro
      rw [View.read_writes_eq_canon _ _ _ (cover14 _)]
      rw [← hg]; rfl
    isplitl [H15]
    · iexists _; isplitr
      swap; · iexact H15
      ipureintro
      rw [View.read_writes_eq_canon _ _ _ (cover15 _)]
      rw [← hg]; rfl
    iexists _; isplitr
    swap; · iexact H16
    ipureintro
    rw [View.read_writes_eq_canon _ _ _ (cover15 _)]
    rw [← hg]; rfl

/-! ## What the reading back leaves -/

abbrev rLo : Rect S512x1024 := Rect.unit (s := S512x1024) ![0, 0] S512x512.size inb_S512x1024_S512x512_0_0
abbrev rHi : Rect S512x1024 := Rect.unit (s := S512x1024) ![0, 512] S512x512.size inb_S512x1024_S512x512_0_512

/-- The block of activations read back from a block of packed words. -/
def outU (p : Vec F S512x512 .i32) : Vec F S512x1024 .f32 :=
  View.canon [⟨rHi, k1_pay3 (View.ld p r512x512 : Vec F S512x512 .i32)⟩, ⟨rLo, k1_pay2 (View.ld p r512x512 : Vec F S512x512 .i32)⟩]

theorem coverU (p q : Vec F S512x512 .f32) (y : S512x1024.Idx) : ∃ pc ∈ ([⟨rHi, q⟩, ⟨rLo, p⟩] : List (View.Piece (Elt F) S512x1024 .f32)), y ∈ pc.1.set :=
  View.cover_of_tiled [⟨rHi, q⟩, ⟨rLo, p⟩] S512x512.size (by rfl) y

set_option maxHeartbeats 1000000 in
theorem sound_unpack (c : Dev nD) (E : Set ℕ) (i : grid1.Coords) (arg1 : Memref sig .tc .vmem S512x512 .i32) (harg1 : arg1.IsWhole)
    (arg2 : Memref sig .tc .vmem S512x1024 .f32) (harg2 : arg2.IsWhole) (p : Vec F S512x512 .i32) (K : PUnit → sProp 𝕄) :
    iprop(owns (c : Thread nD τ) arg1 fullShare p ∗ (∃ d, owns (c : Thread nD τ) arg2 fullShare d)
        ∗ (iprop(owns (c : Thread nD τ) arg1 fullShare p ∗ owns (c : Thread nD τ) arg2 fullShare (outU p)) -∗ K ⟨⟩))
      ⊢ wp frame (wpE (defs₀ (F := F)) Variants.none c none) E (cc1_unpack i arg1 harg1 arg2 harg2) K := by
  simp only [cc1_unpack_eq_skeleton]; unfold cc1_unpack_skel
  unfold owns
  iintro ⟨⟨%f1, %hf1, H1⟩, ⟨%d2, %f2, -, H2⟩, Hk⟩
  subst hf1
  simp only [Prog.lift, Prog.bind_op, Prog.bind_ret, Prog.pure_eq_ret]
  iapply (wp_load Variants.none (c : Thread nD τ) none E (m := arg1) (View.setOn_subset_set _ _)) $$ H1; iintro H1
  iapply (wp_load Variants.none (c : Thread nD τ) none E (m := arg2) (View.setOn_subset_set _ _)) $$ H2; iintro H2
  iapply (wp_store_writes₀ Variants.none (c : Thread nD τ) none E (m := arg2) (slab_sub arg2 _)) $$ H2; iintro H2
  iapply (wp_load Variants.none (c : Thread nD τ) none E (m := arg2) (View.setOn_subset_set _ _)) $$ H2; iintro H2
  iapply (wp_store_writes Variants.none (c : Thread nD τ) none E (m := arg2) (slab_sub arg2 _)) $$ H2; iintro H2
  rw [wp_ret]; imodintro
  simp only [View.readAt_eq_ld]
  iapply Hk
  isplitl [H1]
  · iexists f1; isplitr; · ipureintro; rfl
    iexact H1
  iexists _; isplitr
  swap; · iexact H2
  ipureintro
  rw [View.read_writes_eq_canon _ _ _ (coverU _ _)]
  rfl

end Cert.Kernel4.Out

end
-- ==== Proof.Out.BodyIdeal.lean ====
/-
  The output projection's kernel run once, and the kernel that reads its packed words, read as pairs of halves, back: what each leaves in its result blocks as
  functions of its operand blocks, the first one's also of the counts it carries from point to point in its scratch buffer
  (zero-filled at the first point, `start`).
-/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Regions
public import Idealize.ShloMosaic.Lib.Pipeline.FrameBody
public import Idealize.ShloMosaic.Lib.Pipeline.FrameTail
public import Idealize.ShloMosaic.Lib.Pipeline.RegionArraysS
public import Idealize.ShloMosaic.Lib.Claim
public import Idealize.ShloMosaic.Lib.Tactic
public import Idealize.ShloMosaic.Lib.WordCmp

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks' parts -/

abbrev r512x512 : Rect S512x512 := Rect.unit (s := S512x512) ![0, 0] S512x512.size inb_S512x512_S512x512_0_0
abbrev r1x512 : Rect S1x512 := Rect.unit (s := S1x512) ![0, 0] S1x512.size inb_S1x512_S1x512_0_0
abbrev r512x1024 : Rect S512x1024 := Rect.unit (s := S512x1024) ![0, 0] S512x1024.size inb_S512x1024_S512x1024_0_0
abbrev r1024x1024_0_0_512x1024 : Rect S1024x1024 := Rect.unit (s := S1024x1024) ![0, 0] S512x1024.size inb_S1024x1024_S512x1024_0_0
abbrev r1024x1024_512_0_512x1024 : Rect S1024x1024 := Rect.unit (s := S1024x1024) ![512, 0] S512x1024.size inb_S1024x1024_S512x1024_512_0
abbrev r1x1024 : Rect S1x1024 := Rect.unit (s := S1x1024) ![0, 0] S1x1024.size inb_S1x1024_S1x1024_0_0
abbrev r1024x128 : Rect S1024x128 := Rect.unit (s := S1024x128) ![0, 0] S1024x128.size inb_S1024x128_S1024x128_0_0
abbrev r1x128 : Rect S1x128 := Rect.unit (s := S1x128) ![0, 0] S1x128.size inb_S1x128_S1x128_0_0
abbrev r8x128_0_0_1x128 : Rect S8x128 := Rect.unit (s := S8x128) ![0, 0] S1x128.size inb_S8x128_S1x128_0_0
abbrev r8x128 : Rect S8x128 := Rect.unit (s := S8x128) ![0, 0] S8x128.size inb_S8x128_S8x128_0_0
abbrev r512x2x512 : Rect S512x2x512 := Rect.unit (s := S512x2x512) ![0, 0, 0] S512x2x512.size inb_S512x2x512_S512x2x512_0_0_0
abbrev r512x128 : Rect S512x128 := Rect.unit (s := S512x128) ![0, 0] S512x128.size inb_S512x128_S512x128_0_0

/-! ## What the output projection leaves -/

/-- Is this the first point? -/
abbrev isFirst (i : grid0.Coords) : BitVec 1 :=
  Scalar.cmpi .ne (Scalar.extui (Scalar.cmpi .eq (BitVec.ofNat 32 (i 0).val) 0#32) : BitVec 32) 0#32

/-- The counts a point starts from: zeros at the first point, else those found. -/
def start (i : grid0.Coords) (s : Vec F S8x128 .f32) : Vec F S8x128 .f32 :=
  if isFirst i = 1#1 then View.canon [⟨r8x128, k0_pay3 (F := F)⟩] else s

/-- The block of updated activations. -/
def outX (x1 : Vec F S512x1024 .f32) (x2 : Vec F S512x512 .f32) (x3 : Vec F S512x512 .f32) (x4 : Vec F S1x512 .f32) (x5 : Vec F S1x512 .f32) (x6 : Vec F S1024x1024 .bf16) : Vec F S512x1024 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  View.canon [⟨r512x1024, k0_pay7 v18 v34 v35 v37 v40⟩]

/-- The block of packed normalised activations. -/
def outH (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) : Vec F S512x2x512 .bf16 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  View.canon [⟨r512x2x512, k0_pay9 v18 v34 v35 v37 v40 v45⟩]

/-- The block of routing data, from the counts `s` carried in. -/
def outM (s : Vec F S8x128 .f32) (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) (x11 : Vec F S512x512 .bf16) : Vec F S512x128 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  let v67 : Vec F S1024x128 .bf16 := View.ld x8 r1024x128
  let v70 : Vec F S1024x128 .bf16 := View.ld x8 r1024x128
  let v63 := k0_pay10 v18 v34 v35 v37 v40 v45
  let v73 := k0_pay11 v18 v34 v35 v37 v40 v45 v67 v70
  let v74 : Vec F S1024x128 .bf16 := View.ld x9 r1024x128
  let v78 : Vec F S1x128 .f32 := View.ld x10 r1x128
  let v82 : IVec S512x128 32 := iota .tc S512x128 32 [1] iota_S512x128_d1_w32
  let cst_51 : F .f32 := Scalar.ofBits .f32 0xFF800000#32
  let v83 := k0_pay13 (F := F)
  let v85 := k0_pay14 v63 v73 v74 v78
  let v91 := k0_pay15 v63 v73 v74 v78
  let v93 := k0_pay16 v63 v73 v74 v78
  let v97 := k0_pay18 v63 v73 v74 v78
  let v103 := k0_pay19 v63 v73 v74 v78
  let v105 := k0_pay20 v63 v73 v74 v78
  let v107 := k0_pay21 v63 v73 v74 v78
  let v109 := k0_pay22 v63 v73 v74 v78
  let v115 := k0_pay23 v63 v73 v74 v78
  let v117 := k0_pay24 v63 v73 v74 v78
  let v162 : Vec F S512x512 .bf16 := View.ld x11 r512x512
  let v127 := k0_pay27 v83 v107 v117 cst_51
  let v129 := k0_pay28 v83 v107 v117 cst_51
  let v141 := k0_pay34 v85 v97 v107 v109 v117 cst_51
  let v142 := k0_pay35 v85 v97 v107 v109 v117 cst_51
  let v143 := k0_pay36 v85 v97 v107 v109 v117 cst_51
  let v144 := k0_pay37 v85 v97 v107 v109 v117 cst_51
  let v161 := k0_pay38 v83 v93 v105 v107 v117 cst_51
  let v163 := k0_pay39 v162
  let v166 : Vec F S1x128 .f32 := View.ld s r8x128_0_0_1x128
  let v168 := k0_pay40 v161 v163 v166
  let v207 := k0_pay41 v82 v91 v93 v103 v105 v141 v142 v161 v163 v166
  let v208 := k0_pay42 (F := F)
  View.canon [⟨r512x128, k0_pay43 v82 v115 v117 v127 v129 v143 v144 v168 v207 v208⟩]

/-- The counts after the point, as the result block has them. -/
def outC (s : Vec F S8x128 .f32) (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) : Vec F S8x128 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  let v67 : Vec F S1024x128 .bf16 := View.ld x8 r1024x128
  let v70 : Vec F S1024x128 .bf16 := View.ld x8 r1024x128
  let v63 := k0_pay10 v18 v34 v35 v37 v40 v45
  let v73 := k0_pay11 v18 v34 v35 v37 v40 v45 v67 v70
  let v74 : Vec F S1024x128 .bf16 := View.ld x9 r1024x128
  let v78 : Vec F S1x128 .f32 := View.ld x10 r1x128
  let cst_51 : F .f32 := Scalar.ofBits .f32 0xFF800000#32
  let v83 := k0_pay13 (F := F)
  let v93 := k0_pay16 v63 v73 v74 v78
  let v105 := k0_pay20 v63 v73 v74 v78
  let v107 := k0_pay21 v63 v73 v74 v78
  let v117 := k0_pay24 v63 v73 v74 v78
  let v161 := k0_pay38 v83 v93 v105 v107 v117 cst_51
  let v247 : Vec F S1x128 .f32 := View.ld s r8x128_0_0_1x128
  let v250 := k0_pay44 v161 v247
  View.canon [⟨r8x128, k0_pay2 v250⟩]

/-- The counts carried to the next point. -/
def outS (s : Vec F S8x128 .f32) (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) : Vec F S8x128 .f32 :=
  let v3 : Vec F S512x512 .f32 := View.ld x2 r512x512
  let v4 : Vec F S1x512 .f32 := View.ld x4 r1x512
  let v19 : Vec F S512x512 .f32 := View.ld x3 r512x512
  let v20 : Vec F S1x512 .f32 := View.ld x5 r1x512
  let v35 : Vec F S512x1024 .f32 := View.ld x1 r512x1024
  let v36 : Vec F S512x1024 .bf16 := View.ld x6 r1024x1024_0_0_512x1024
  let v18 := k0_pay4 v3 v4
  let v34 := k0_pay5 v19 v20
  let v37 := k0_pay6 v36
  let v40 : Vec F S512x1024 .bf16 := View.ld x6 r1024x1024_512_0_512x1024
  let v45 : Vec F S1x1024 .f32 := View.ld x7 r1x1024
  let v67 : Vec F S1024x128 .bf16 := View.ld x8 r1024x128
  let v70 : Vec F S1024x128 .bf16 := View.ld x8 r1024x128
  let v63 := k0_pay10 v18 v34 v35 v37 v40 v45
  let v73 := k0_pay11 v18 v34 v35 v37 v40 v45 v67 v70
  let v74 : Vec F S1024x128 .bf16 := View.ld x9 r1024x128
  let v78 : Vec F S1x128 .f32 := View.ld x10 r1x128
  let cst_51 : F .f32 := Scalar.ofBits .f32 0xFF800000#32
  let v83 := k0_pay13 (F := F)
  let v93 := k0_pay16 v63 v73 v74 v78
  let v105 := k0_pay20 v63 v73 v74 v78
  let v107 := k0_pay21 v63 v73 v74 v78
  let v117 := k0_pay24 v63 v73 v74 v78
  let v161 := k0_pay38 v83 v93 v105 v107 v117 cst_51
  let v247 : Vec F S1x128 .f32 := View.ld s r8x128_0_0_1x128
  let v252 := k0_pay45 v161 v247
  View.canon [⟨r8x128, k0_pay1 v252⟩]

theorem cover12 (p : Vec F S512x1024 .f32) (y : S512x1024.Idx) : ∃ pc ∈ ([⟨r512x1024, p⟩] : List (View.Piece (Elt F) S512x1024 .f32)), y ∈ pc.1.set :=
  View.cover_of_tiled [⟨r512x1024, p⟩] S512x1024.size (by rfl) y
theorem cover13 (p : Vec F S512x2x512 .bf16) (y : S512x2x512.Idx) : ∃ pc ∈ ([⟨r512x2x512, p⟩] : List (View.Piece (Elt F) S512x2x512 .bf16)), y ∈ pc.1.set :=
  View.cover_of_tiled [⟨r512x2x512, p⟩] S512x2x512.size (by rfl) y
theorem cover14 (p : Vec F S512x128 .f32) (y : S512x128.Idx) : ∃ pc ∈ ([⟨r512x128, p⟩] : List (View.Piece (Elt F) S512x128 .f32)), y ∈ pc.1.set :=
  View.cover_of_tiled [⟨r512x128, p⟩] S512x128.size (by rfl) y
theorem cover15 (p : Vec F S8x128 .f32) (y : S8x128.Idx) : ∃ pc ∈ ([⟨r8x128, p⟩] : List (View.Piece (Elt F) S8x128 .f32)), y ∈ pc.1.set :=
  View.cover_of_tiled [⟨r8x128, p⟩] S8x128.size (by rfl) y

theorem slab_sub {s : Shape} {e : EltTy} (arg : Memref sig .tc .vmem s e) (r : Rect s) : (arg.access r).set ⊆ arg.view.set := by
  show (arg.view.slice r).set ⊆ arg.view.set
  rw [View.set_slice]; exact View.setOn_subset_set _ _

set_option maxHeartbeats 4000000 in
theorem sound_kernel (c : Dev nD) (E : Set ℕ) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x128 .bf16) (harg8 : arg8.IsWhole) (arg9 : Memref sig .tc .vmem S1024x128 .bf16) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x1024 .f32) (harg12 : arg12.IsWhole) (arg13 : Memref sig .tc .vmem S512x2x512 .bf16) (harg13 : arg13.IsWhole) (arg14 : Memref sig .tc .vmem S512x128 .f32) (harg14 : arg14.IsWhole) (arg15 : Memref sig .tc .vmem S8x128 .f32) (harg15 : arg15.IsWhole) (arg16 : Memref sig .tc .vmem S8x128 .f32) (harg16 : arg16.IsWhole)
    (x1 : Vec F S512x1024 .f32) (x2 : Vec F S512x512 .f32) (x3 : Vec F S512x512 .f32) (x4 : Vec F S1x512 .f32) (x5 : Vec F S1x512 .f32) (x6 : Vec F S1024x1024 .bf16) (x7 : Vec F S1x1024 .f32) (x8 : Vec F S1024x128 .bf16) (x9 : Vec F S1024x128 .bf16) (x10 : Vec F S1x128 .f32) (x11 : Vec F S512x512 .bf16) (s : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
        ∗ (∃ d, owns (c : Thread nD τ) arg12 fullShare d) ∗ (∃ d, owns (c : Thread nD τ) arg13 fullShare d) ∗ (∃ d, owns (c : Thread nD τ) arg14 fullShare d)
        ∗ (∃ d, owns (c : Thread nD τ) arg15 fullShare d) ∗ owns (c : Thread nD τ) arg16 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
            ∗ owns (c : Thread nD τ) arg12 fullShare (outX x1 x2 x3 x4 x5 x6) ∗ owns (c : Thread nD τ) arg13 fullShare (outH x1 x2 x3 x4 x5 x6 x7)
            ∗ owns (c : Thread nD τ) arg14 fullShare (outM (start i s) x1 x2 x3 x4 x5 x6 x7 x8 x9 x10 x11) ∗ owns (c : Thread nD τ) arg15 fullShare (outC (start i s) x1 x2 x3 x4 x5 x6 x7 x8 x9 x10)
            ∗ owns (c : Thread nD τ) arg16 fullShare (outS (start i s) x1 x2 x3 x4 x5 x6 x7 x8 x9 x10)) -∗ K ⟨⟩))
      ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_outproj_eq_skeleton]; unfold cc0_outproj_skel
  simp only [k0_part1_eq_skeleton, k0_part2_eq_skeleton, k0_part3_eq_skeleton, k0_part4_eq_skeleton, k0_part5_eq_skeleton, k0_part6_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, Hk⟩
  subst hf1 hf2 hf3 hf4 hf5 hf6 hf7 hf8 hf9 hf10 hf11 hf16
  unfold k0_part1_skel k0_part2_skel k0_part3_skel k0_part4_skel k0_part5_skel k0_part6_skel
  by_cases h : isFirst i = 1#1
  case' pos =>
    simp only [dif_pos h, Prog.lift, Prog.bind_op, Prog.bind_ret, Prog.pure_eq_ret]
    iapply (wp_load Variants.none (c : Thread nD τ) none E (m := arg16) (View.setOn_subset_set _ _)) $$ H16; iintro H16
    iapply (wp_store_writes₀ Variants.none (c : Thread nD τ) none E (m := arg16) (slab_sub arg16 _)) $$ H16; iintro H16
    obtain ⟨g, hg⟩ : ∃ g, g = arg16.view.writes (Elt F) f16 [⟨r8x128, k0_pay3 (F := F)⟩] := ⟨_, rfl⟩
    rw [← hg]
    replace hg : arg16.view.read (Elt F) g = start i (arg16.view.read (Elt F) f16) := by
      rw [hg, View.read_writes_eq_canon _ _ _ (cover15 _), start, if_pos h]
  case' neg =>
    simp only [dif_neg h, Prog.lift, Prog.bind_op, Prog.bind_ret, Prog.pure_eq_ret]
    obtain ⟨g, hg⟩ : ∃ g, g = f16 := ⟨_, rfl⟩
    rw [← hg]
    replace hg : arg16.view.read (Elt F) g = start i (arg16.view.read (Elt F) g) := by
      rw [start, if_neg h]
  all_goals
    iapply (wp_load Variants.none (c : Thread nD τ) none E (m := arg2) (View.setOn_subset_set _ _)) $$ H2; iintro H2
    iapply (wp_load Variants.none (c : Thread nD τ) none E (m := arg4) (View.setOn_subset_set _ _)) $$ H4; iintro H4
    iapply (wp_load Variants.none (c : Thread nD τ) none E (m := arg3) (View.setOn_subset_set _ _)) $$ H3; iintro H3
    iapply (wp_load Variants.none (c : Thread nD τ) none E (m := arg5) (View.setOn_subset_set _ _)) $$ H5; iintro H5
    iapply (wp_load Variants.none (c : Thread nD τ) none E (m := arg1) (View.setOn_subset_set _ _)) $$ H1; iintro H1
    iapply (wp_load Variants.none (c : Thread nD τ) none E (m := arg6) (View.setOn_subset_set _ _)) $$ H6; iintro H6
    iapply (wp_load Variants.none (c : Thread nD τ) none E (m := arg6) (View.setOn_subset_set _ _)) $$ H6; iintro H6
    iapply (wp_load Variants.none (c : Thread nD τ) none E (m := arg12) (View.setOn_subset_set _ _)) $$ H12; iintro H12
    iapply (wp_store_writes₀ Variants.none (c : Thread nD τ) none E (m := arg12) (slab_sub arg12 _)) $$ H12; iintro H12
    iapply (wp_load Variants.none (c : Thread nD τ) none E (m := arg7) (View.setOn_subset_set _ _)) $$ H7; iintro H7
    iapply (wp_load Variants.none (c : Thread nD τ) none E (m := arg13) (View.setOn_subset_set _ _)) $$ H13; iintro H13
    iapply (wp_store_writes₀ Variants.none (c : Thread nD τ) none E (m := arg13) (slab_sub arg13 _)) $$ H13; iintro H13
    iapply (wp_load Variants.none (c : Thread nD τ) none E (m := arg8) (View.setOn_subset_set _ _)) $$ H8; iintro H8
    iapply (wp_load Variants.none (c : Thread nD τ) none E (m := arg8) (View.setOn_subset_set _ _)) $$ H8; iintro H8
    iapply (wp_load Variants.none (c : Thread nD τ) none E (m := arg9) (View.setOn_subset_set _ _)) $$ H9; iintro H9
    iapply (wp_load Variants.none (c : Thread nD τ) none E (m := arg10) (View.setOn_subset_set _ _)) $$ H10; iintro H10
    iapply (wp_load Variants.none (c : Thread nD τ) none E (m := arg11) (View.setOn_subset_set _ _)) $$ H11; iintro H11
    iapply (wp_load Variants.none (c : Thread nD τ) none E (m := arg16) (View.setOn_subset_set _ _)) $$ H16; iintro H16
    iapply (wp_load Variants.none (c : Thread nD τ) none E (m := arg14) (View.setOn_subset_set _ _)) $$ H14; iintro H14
    iapply (wp_store_writes₀ Variants.none (c : Thread nD τ) none E (m := arg14) (slab_sub arg14 _)) $$ H14; iintro H14
    iapply (wp_load Variants.none (c : Thread nD τ) none E (m := arg16) (View.setOn_subset_set _ _)) $$ H16; iintro H16
    iapply (wp_load Variants.none (c : Thread nD τ) none E (m := arg16) (View.setOn_subset_set _ _)) $$ H16; iintro H16
    iapply (wp_store_writes₀ Variants.none (c : Thread nD τ) none E (m := arg16) (slab_sub arg16 _)) $$ H16; iintro H16
    iapply (wp_load Variants.none (c : Thread nD τ) none E (m := arg15) (View.setOn_subset_set _ _)) $$ H15; iintro H15
    iapply (wp_store_writes₀ Variants.none (c : Thread nD τ) none E (m := arg15) (slab_sub arg15 _)) $$ H15; iintro H15
    rw [wp_ret]; imodintro
    simp only [View.readAt_eq_ld]
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists _; isplitr
      swap; · iexact H12
      ipureintro
      rw [View.read_writes_eq_canon _ _ _ (cover12 _)]
      rfl
    isplitl [H13]
    · iexists _; isplitr
      swap; · iexact H13
      ipureintro
      rw [View.read_writes_eq_canon _ _ _ (cover13 _)]
      rfl
    isplitl [H14]
    · iexists _; isplitr
      swap; · iexact H14
      ipureintro
      rw [View.read_writes_eq_canon _ _ _ (cover14 _)]
      rw [← hg]; rfl
    isplitl [H15]
    · iexists _; isplitr
      swap; · iexact H15
      ipureintro
      rw [View.read_writes_eq_canon _ _ _ (cover15 _)]
      rw [← hg]; rfl
    iexists _; isplitr
    swap; · iexact H16
    ipureintro
    rw [View.read_writes_eq_canon _ _ _ (cover15 _)]
    rw [← hg]; rfl

/-! ## What the reading back leaves -/

abbrev rLo : Rect S512x1024 := Rect.unit (s := S512x1024) ![0, 0] S512x512.size inb_S512x1024_S512x512_0_0
abbrev rHi : Rect S512x1024 := Rect.unit (s := S512x1024) ![0, 512] S512x512.size inb_S512x1024_S512x512_0_512

/-- The block of activations read back from a block of packed words. -/
def outU (p : Vec F S512x2x512 .bf16) : Vec F S512x1024 .f32 :=
  View.canon [⟨rHi, k1_pay2 (View.ld p r512x2x512 : Vec F S512x2x512 .bf16)⟩, ⟨rLo, k1_pay1 (View.ld p r512x2x512 : Vec F S512x2x512 .bf16)⟩]

theorem coverU (p q : Vec F S512x512 .f32) (y : S512x1024.Idx) : ∃ pc ∈ ([⟨rHi, q⟩, ⟨rLo, p⟩] : List (View.Piece (Elt F) S512x1024 .f32)), y ∈ pc.1.set :=
  View.cover_of_tiled [⟨rHi, q⟩, ⟨rLo, p⟩] S512x512.size (by rfl) y

set_option maxHeartbeats 1000000 in
theorem sound_unpack (c : Dev nD) (E : Set ℕ) (i : grid1.Coords) (arg1 : Memref sig .tc .vmem S512x2x512 .bf16) (harg1 : arg1.IsWhole)
    (arg2 : Memref sig .tc .vmem S512x1024 .f32) (harg2 : arg2.IsWhole) (p : Vec F S512x2x512 .bf16) (K : PUnit → sProp 𝕄) :
    iprop(owns (c : Thread nD τ) arg1 fullShare p ∗ (∃ d, owns (c : Thread nD τ) arg2 fullShare d)
        ∗ (iprop(owns (c : Thread nD τ) arg1 fullShare p ∗ owns (c : Thread nD τ) arg2 fullShare (outU p)) -∗ K ⟨⟩))
      ⊢ wp frame (wpE (defs₀ (F := F)) Variants.none c none) E (cc1_unpack i arg1 harg1 arg2 harg2) K := by
  simp only [cc1_unpack_eq_skeleton]; unfold cc1_unpack_skel
  unfold owns
  iintro ⟨⟨%f1, %hf1, H1⟩, ⟨%d2, %f2, -, H2⟩, Hk⟩
  subst hf1
  simp only [Prog.lift, Prog.bind_op, Prog.bind_ret, Prog.pure_eq_ret]
  iapply (wp_load Variants.none (c : Thread nD τ) none E (m := arg1) (View.setOn_subset_set _ _)) $$ H1; iintro H1
  iapply (wp_load Variants.none (c : Thread nD τ) none E (m := arg2) (View.setOn_subset_set _ _)) $$ H2; iintro H2
  iapply (wp_store_writes₀ Variants.none (c : Thread nD τ) none E (m := arg2) (slab_sub arg2 _)) $$ H2; iintro H2
  iapply (wp_load Variants.none (c : Thread nD τ) none E (m := arg2) (View.setOn_subset_set _ _)) $$ H2; iintro H2
  iapply (wp_store_writes Variants.none (c : Thread nD τ) none E (m := arg2) (slab_sub arg2 _)) $$ H2; iintro H2
  rw [wp_ret]; imodintro
  simp only [View.readAt_eq_ld]
  iapply Hk
  isplitl [H1]
  · iexists f1; isplitr; · ipureintro; rfl
    iexact H1
  iexists _; isplitr
  swap; · iexact H2
  ipureintro
  rw [View.read_writes_eq_canon _ _ _ (coverU _ _)]
  rfl

end Cert.Kernel4Ideal.Out

end
-- ==== Proof.Out.FrameIdeal.lean ====
/-
  The run of the output projection and of the reading back after it: the proof data of the two kernels (the first one's invariant
  holds the scratch buffer at the counts of the points before), the two regions over the buffers, and what every terminating run
  leaves in each of them.
-/
module

public import proofs.«01_k».proof.Proof.Out.Region
public import proofs.«01_k».proof.Proof.Out.BodyIdeal

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg cellOf afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output projection's proof data -/

/-- Window `w`'s block at a point, of its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The counts the scratch buffer holds before point `n`; of no account before the first. -/
def cy (c : Dev nD) : ℕ → Vec F S8x128 .f32
  | 0 => k0_pay3 (F := F)
  | n + 1 => if h : n < cfg0.N then
      (fun t : Fin cfg0.N => outS (start (grid0.coords t) (cy c n)) (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t)) ⟨n, h⟩
    else k0_pay3 (F := F)

theorem cy_succ (c : Dev nD) (t : Fin cfg0.N) :
    cy m c (t.val + 1) = outS (start (grid0.coords t) (cy m c t.val)) (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t) := by
  rw [cy, dif_pos t.isLt]

/-- The first point starts from zeros, whatever the scratch buffer holds. -/
theorem start_eq (c : Dev nD) (t : Fin cfg0.N) (s : Vec F S8x128 .f32) (h : t.val = 0 ∨ s = cy m c t.val) :
    start (grid0.coords t) s = start (grid0.coords t) (cy m c t.val) := by
  rcases h with h | h
  · have h0 : t = (⟨0, by decide⟩ : Fin grid0.N) := Fin.ext h
    subst h0
    have hf : isFirst (grid0.coords (⟨0, by decide⟩ : Fin grid0.N)) = 1#1 := by decide
    rw [start, start, if_pos hf, if_pos hf]
  · rw [h]

/-- Before point `n`: the scratch buffer at the counts, the other kernel's staging buffers, the generator's register. -/
def Phi (c : Dev nD) (n : ℕ) : sProp 𝕄 :=
  iprop(((∃ s : Buf (Elt F) ((c : Thread nD τ).loc cc0_scratch0), ⌜n = 0 ∨ s = cy m c n⌝ ∗ ((c : Thread nD τ).loc cc0_scratch0) ↦{fullShare} s)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f))
    ∗ ∃ r, prngReg c r)

/-- The arrays as the kernel finds them; after the body each operand's buffer at its block, each result's at what the body leaves. -/
def dat0 (c : Dev nD) : Dat τ (Elt F) Unit ℕ (UR sig nD τ) ℕ cfg0 c where
  A w := V1 m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => iblk0 m c 5 t
    | ⟨6, _⟩ => iblk0 m c 6 t
    | ⟨7, _⟩ => iblk0 m c 7 t
    | ⟨8, _⟩ => iblk0 m c 8 t
    | ⟨9, _⟩ => iblk0 m c 9 t
    | ⟨10, _⟩ => iblk0 m c 10 t
    | ⟨11, _⟩ => outX (iblk0 m c 0 t) (iblk0 m c 1 t) (iblk0 m c 2 t) (iblk0 m c 3 t) (iblk0 m c 4 t) (iblk0 m c 5 t)
    | ⟨12, _⟩ => outH (iblk0 m c 0 t) (iblk0 m c 1 t) (iblk0 m c 2 t) (iblk0 m c 3 t) (iblk0 m c 4 t) (iblk0 m c 5 t) (iblk0 m c 6 t)
    | ⟨13, _⟩ => outM (start (grid0.coords t) (cy m c t.val)) (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t) (iblk0 m c 10 t)
    | ⟨14, _⟩ => outC (start (grid0.coords t) (cy m c t.val)) (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t)
  Φ t := (fun n (_ : n ≤ cfg0.N) => Phi m c n) t.val (Nat.le_of_lt_succ t.isLt)
  q _ := fullShare
  owed _ := 0

theorem A0_eq (c : Dev nD) (w : Fin cfg0.W) : (dat0 m c).A w = V1 m c (Pipeline.arrRef spec0 w) := by
  dsimp only [dat0]

theorem Phi_castSucc (c : Dev nD) (t : Fin cfg0.N) : (dat0 m c).Φ t.castSucc = Phi m c t.val := by
  dsimp only [dat0]
  exact Pipeline.Dat.Φ_castSucc (fun n (_ : n ≤ cfg0.N) => Phi m c n) t
theorem Phi_succ (c : Dev nD) (t : Fin cfg0.N) : (dat0 m c).Φ t.succ = Phi m c (t.val + 1) := by
  dsimp only [dat0]; rfl

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = iblk0 m c 4 t := by dsimp only [dat0]
theorem after0_5 (c : Dev nD) (t : Fin cfg0.N) : (dat0 m c).after 5 t = iblk0 m c 5 t := by dsimp only [dat0]
theorem after0_6 (c : Dev nD) (t : Fin cfg0.N) : (dat0 m c).after 6 t = iblk0 m c 6 t := by dsimp only [dat0]
theorem after0_7 (c : Dev nD) (t : Fin cfg0.N) : (dat0 m c).after 7 t = iblk0 m c 7 t := by dsimp only [dat0]
theorem after0_8 (c : Dev nD) (t : Fin cfg0.N) : (dat0 m c).after 8 t = iblk0 m c 8 t := by dsimp only [dat0]
theorem after0_9 (c : Dev nD) (t : Fin cfg0.N) : (dat0 m c).after 9 t = iblk0 m c 9 t := by dsimp only [dat0]
theorem after0_10 (c : Dev nD) (t : Fin cfg0.N) : (dat0 m c).after 10 t = iblk0 m c 10 t := by dsimp only [dat0]
theorem after0_11 (c : Dev nD) (t : Fin cfg0.N) : (dat0 m c).after 11 t = outX (iblk0 m c 0 t) (iblk0 m c 1 t) (iblk0 m c 2 t) (iblk0 m c 3 t) (iblk0 m c 4 t) (iblk0 m c 5 t) := by dsimp only [dat0]
theorem after0_12 (c : Dev nD) (t : Fin cfg0.N) : (dat0 m c).after 12 t = outH (iblk0 m c 0 t) (iblk0 m c 1 t) (iblk0 m c 2 t) (iblk0 m c 3 t) (iblk0 m c 4 t) (iblk0 m c 5 t) (iblk0 m c 6 t) := by dsimp only [dat0]
theorem after0_13 (c : Dev nD) (t : Fin cfg0.N) : (dat0 m c).after 13 t = outM (start (grid0.coords t) (cy m c t.val)) (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t) (iblk0 m c 10 t) := by dsimp only [dat0]
theorem after0_14 (c : Dev nD) (t : Fin cfg0.N) : (dat0 m c).after 14 t = outC (start (grid0.coords t) (cy m c t.val)) (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t) := by dsimp only [dat0]

/-! An operand's buffer holds its block before the body at every point, fetched there or not. -/

theorem before0_0 (c : Dev nD) (t : Fin cfg0.N) (d) : (dat0 m c).before 0 t d = iblk0 m c 0 t :=
  ((dat0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 m c).before 1 t d = iblk0 m c 1 t :=
  ((dat0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 m c).before 2 t d = iblk0 m c 2 t :=
  ((dat0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 m c).before 3 t d = iblk0 m c 3 t :=
  ((dat0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 m c).before 4 t d = iblk0 m c 4 t :=
  ((dat0 m c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 m c).before 5 t d = iblk0 m c 5 t :=
  ((dat0 m c).before_in_eq_fetched 5 rfl (fun _ => rfl) (fun _ _ _ => rfl) (fun t => by rw [after0_5]; unfold Dat.blockOf iblk0; rw [A0_eq]; try rfl) t d).trans
    (by unfold Dat.fetched Dat.blockOf iblk0; rw [A0_eq]; try rfl)
theorem before0_6 (c : Dev nD) (t : Fin cfg0.N) (d) : (dat0 m c).before 6 t d = iblk0 m c 6 t :=
  ((dat0 m c).before_in_eq_fetched 6 rfl (fun _ => rfl) (fun _ _ _ => rfl) (fun t => by rw [after0_6]; unfold Dat.blockOf iblk0; rw [A0_eq]; try rfl) t d).trans
    (by unfold Dat.fetched Dat.blockOf iblk0; rw [A0_eq]; try rfl)
theorem before0_7 (c : Dev nD) (t : Fin cfg0.N) (d) : (dat0 m c).before 7 t d = iblk0 m c 7 t :=
  ((dat0 m c).before_in_eq_fetched 7 rfl (fun _ => rfl) (fun _ _ _ => rfl) (fun t => by rw [after0_7]; unfold Dat.blockOf iblk0; rw [A0_eq]; try rfl) t d).trans
    (by unfold Dat.fetched Dat.blockOf iblk0; rw [A0_eq]; try rfl)
theorem before0_8 (c : Dev nD) (t : Fin cfg0.N) (d) : (dat0 m c).before 8 t d = iblk0 m c 8 t :=
  ((dat0 m c).before_in_eq_fetched 8 rfl (fun _ => rfl) (fun _ _ _ => rfl) (fun t => by rw [after0_8]; unfold Dat.blockOf iblk0; rw [A0_eq]; try rfl) t d).trans
    (by unfold Dat.fetched Dat.blockOf iblk0; rw [A0_eq]; try rfl)
theorem before0_9 (c : Dev nD) (t : Fin cfg0.N) (d) : (dat0 m c).before 9 t d = iblk0 m c 9 t :=
  ((dat0 m c).before_in_eq_fetched 9 rfl (fun _ => rfl) (fun _ _ _ => rfl) (fun t => by rw [after0_9]; unfold Dat.blockOf iblk0; rw [A0_eq]; try rfl) t d).trans
    (by unfold Dat.fetched Dat.blockOf iblk0; rw [A0_eq]; try rfl)
theorem before0_10 (c : Dev nD) (t : Fin cfg0.N) (d) : (dat0 m c).before 10 t d = iblk0 m c 10 t :=
  ((dat0 m c).before_in_eq_fetched 10 rfl (fun _ => rfl) (fun _ _ _ => rfl) (fun t => by rw [after0_10]; unfold Dat.blockOf iblk0; rw [A0_eq]; try rfl) t d).trans
    (by unfold Dat.fetched Dat.blockOf iblk0; rw [A0_eq]; try rfl)

def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d))
    ∗ (∃ d, owns (c : Thread nD τ) (st0_5 t) fullShare ((dat0 m c).before 5 t d))
    ∗ (∃ d, owns (c : Thread nD τ) (st0_6 t) fullShare ((dat0 m c).before 6 t d))
    ∗ (∃ d, owns (c : Thread nD τ) (st0_7 t) fullShare ((dat0 m c).before 7 t d))
    ∗ (∃ d, owns (c : Thread nD τ) (st0_8 t) fullShare ((dat0 m c).before 8 t d))
    ∗ (∃ d, owns (c : Thread nD τ) (st0_9 t) fullShare ((dat0 m c).before 9 t d))
    ∗ (∃ d, owns (c : Thread nD τ) (st0_10 t) fullShare ((dat0 m c).before 10 t d))
    ∗ (∃ d, owns (c : Thread nD τ) (st0_11 t) fullShare ((dat0 m c).before 11 t d))
    ∗ (∃ d, owns (c : Thread nD τ) (st0_12 t) fullShare ((dat0 m c).before 12 t d))
    ∗ (∃ d, owns (c : Thread nD τ) (st0_13 t) fullShare ((dat0 m c).before 13 t d))
    ∗ (∃ d, owns (c : Thread nD τ) (st0_14 t) fullShare ((dat0 m c).before 14 t d)))
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t)
    ∗ owns (c : Thread nD τ) (st0_4 t) fullShare ((dat0 m c).after 4 t)
    ∗ owns (c : Thread nD τ) (st0_5 t) fullShare ((dat0 m c).after 5 t)
    ∗ owns (c : Thread nD τ) (st0_6 t) fullShare ((dat0 m c).after 6 t)
    ∗ owns (c : Thread nD τ) (st0_7 t) fullShare ((dat0 m c).after 7 t)
    ∗ owns (c : Thread nD τ) (st0_8 t) fullShare ((dat0 m c).after 8 t)
    ∗ owns (c : Thread nD τ) (st0_9 t) fullShare ((dat0 m c).after 9 t)
    ∗ owns (c : Thread nD τ) (st0_10 t) fullShare ((dat0 m c).after 10 t)
    ∗ owns (c : Thread nD τ) (st0_11 t) fullShare ((dat0 m c).after 11 t)
    ∗ owns (c : Thread nD τ) (st0_12 t) fullShare ((dat0 m c).after 12 t)
    ∗ owns (c : Thread nD τ) (st0_13 t) fullShare ((dat0 m c).after 13 t)
    ∗ owns (c : Thread nD τ) (st0_14 t) fullShare ((dat0 m c).after 14 t))

set_option maxHeartbeats 2000000 in
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3, before0_4, before0_5, before0_6, before0_7, before0_8, before0_9, before0_10]
  rw [show (dat0 m c).owesAt () t.succ = (dat0 m c).owesAt () t.castSucc from rfl, Phi_castSucc, Phi_succ,
    after0_0, after0_1, after0_2, after0_3, after0_4, after0_5, after0_6, after0_7, after0_8, after0_9, after0_10, after0_11, after0_12, after0_13, after0_14]
  unfold Phi
  iintro ⟨⟨⟨⟨%s, %hs, S0⟩, Hr⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [← start_eq m c t s hs]
  iapply (sound_kernel c Set.univ (grid0.coords t) _ _ _ _ _ _ _ _ _ _ _ _ _ _ _ _ _ _ _ _ _ _ _ _ _ _ _ _ _ _ _ _ (iblk0 m c 0 t) (iblk0 m c 1 t) (iblk0 m c 2 t) (iblk0 m c 3 t) (iblk0 m c 4 t) (iblk0 m c 5 t) (iblk0 m c 6 t) (iblk0 m c 7 t) (iblk0 m c 8 t) (iblk0 m c 9 t) (iblk0 m c 10 t) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [S0]
  · rw [owns_whole]; iexact S0
  simp only [owns_whole]
  iintro ⟨H0, H1, H2, H3, H4, H5, H6, H7, H8, H9, H10, H11, H12, H13, H14, S0⟩
  isplitl [S0 Hr Hp]
  · isplitl [S0 Hr]
    · isplitl [S0]
      · iexists _
        isplitr
        swap; · iexact S0
        ipureintro
        right
        rw [cy_succ, start_eq m c t s hs]
      iexact Hr
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) m c) (defs₀ (F := F)) Variants.none () Set.univ := fun t => by
  rw [bigSep_W0, bigSep_W0, body_row0]
  exact triple_restated (sound_body0 m c t) rfl .rfl fun _ => .rfl

/-! ## The reading back's proof data -/

/-- A core's buffers after the output projection. -/
def VB (c : Dev nD) : Valuation τ sig (Elt F) := afterRegion (dat0 m c) (V1 m c)

def iblk1 (c : Dev nD) (w : Fin cfg1.W) (t : Fin cfg1.N) : ((cfg1.win w).xblock (cfg1.grid.coords t)).Idx → Elt F (cfg1.win w).elt :=
  ((cfg1.win w).blk t).view.read (Elt F) (VB m c (Pipeline.arrRef spec1 w))

def dat1 (c : Dev nD) : Dat τ (Elt F) Unit ℕ (UR sig nD τ) ℕ cfg1 c where
  A w := VB m c (Pipeline.arrRef spec1 w)
  after w t := match w with
    | ⟨0, _⟩ => iblk1 m c 0 t
    | ⟨1, _⟩ => outU (iblk1 m c 0 t)
  Φ _ := Pipeline.ΦA spec1 c
  q _ := fullShare
  owed _ := 0

theorem A1_eq (c : Dev nD) (w : Fin cfg1.W) : (dat1 m c).A w = VB m c (Pipeline.arrRef spec1 w) := by
  dsimp only [dat1]
theorem after1_0 (c : Dev nD) (t : Fin cfg1.N) : (dat1 m c).after 0 t = iblk1 m c 0 t := by dsimp only [dat1]
theorem after1_1 (c : Dev nD) (t : Fin cfg1.N) : (dat1 m c).after 1 t = outU (iblk1 m c 0 t) := by dsimp only [dat1]
theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)

def bodyPre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d)))
def bodyPost1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t))

theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0]
  rw [show (dat1 m c).Φ t.succ = (dat1 m c).Φ t.castSucc from rfl, show (dat1 m c).owesAt () t.succ = (dat1 m c).owesAt () t.castSucc from rfl,
    after1_0, after1_1]
  iintro ⟨HΦ, Ho, ⟨%d0, H0⟩, ⟨%d1, H1⟩⟩
  iapply (sound_unpack c Set.univ (grid1.coords t) _ _ _ _ (iblk1 m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) m c) (defs₀ (F := F)) Variants.none () Set.univ := fun t => by
  rw [bigSep_W1, bigSep_W1, body_row1]
  exact triple_restated (sound_body1 m c t) rfl .rfl fun _ => .rfl

/-! ## The two regions -/

def pdats : (p : Fin 2) → (c : Dev nD) → Dat τ (Elt F) Unit ℕ (UR sig nD τ) ℕ (cfgs p) c
  | ⟨0, _⟩ => dat0 m
  | ⟨1, _⟩ => dat1 m

/-- The TensorCores' cells all at the one level. -/
abbrev L : GSem nD τ sig → Finset Unit := fun g => if g.1.2 = .tc then {()} else ∅
abbrev lv : GSem nD τ sig → Unit → ℕ := fun _ _ => 0

/-- What rides beside the buffers: nothing owed, the generator's register. -/
abbrev E (_ : Fin 3) (c : Dev nD) : sProp 𝕄 :=
  iprop((∃ W, owes (c : Thread nD τ) (0 : CellTallies nD τ sig Unit) W) ∗ (∃ r, prngReg c r) ∗ BI.emp)

theorem cut (p : Fin 2) : Pipeline.LevelCut (pcfgs (F := F)) adm () L lv p (fun _ => 0) (fun _ : Dev nD => 0) where
  hι _ _ _ := by simp [L]
  hιb _ _ _ := le_rfl
  hD _ _ _ h := absurd h (lt_irrefl _)

/-- A core's buffers at the end. -/
def VC (c : Dev nD) : Valuation τ sig (Elt F) := afterRegion (dat1 m c) (VB m c)

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)

/-- A region that finds the buffers at `W` and leaves them at its arrays' last contents. -/
def Region (p : Fin 2) (pd : (p : Fin 2) → (c : Dev nD) → Dat τ (Elt F) Unit ℕ (UR sig nD τ) ℕ (cfgs p) c) (W : Dev nD → Valuation τ sig (Elt F)) : Prop :=
  ∃ R : RegionSeg (pcfgs (F := F)) adm pd () defs₀ Variants.none L lv p,
    (∀ c : Dev nD, iprop(StableHlo.held (c : Thread nD τ) (Pipeline.ucRefs τ sig) (W c) ∗ E 0 c) ⊢ R.pre c)
    ∧ ∀ c : Dev nD, R.post c ⊢ iprop(StableHlo.held (c : Thread nD τ) (Pipeline.ucRefs τ sig) (afterRegion (pd p c) (W c)) ∗ E 0 c)

set_option maxHeartbeats 400000 in
set_option backward.isDefEq.respectTransparency.types false in
theorem region (p : Fin 2) (pd : (p : Fin 2) → (c : Dev nD) → Dat τ (Elt F) Unit ℕ (UR sig nD τ) ℕ (cfgs p) c) (W : Dev nD → Valuation τ sig (Elt F))
    (hs : Pipeline.arrRefs (τ := τ) (pcfgs (F := F) p).spec ⊆ Pipeline.ucRefs τ sig) (kit : Pipeline.PLaunchFacts (nD := nD) (τ := τ) (pcfgs (F := F)) p)
    (hK : (pcfgs (F := F) p).pre.K = 0) (hbody : ∀ c, Pipeline.BodyObligationLoose (pd p c) (defs₀ (F := F)) Variants.none () Set.univ)
    (howed : ∀ c t, (pd p c).owed t = 0) (hrec : ∀ c, (pd p c).recorded 0 = Set.univ) (hshare : ∀ c w, (pd p c).share w = fullShare)
    (hin : ∀ c, iprop(Pipeline.scopedRest (Pipeline.pin (pcfgs (F := F)) adm p).spec c ∗ ∃ r, prngReg c r) ⊢ (pd p c).Φ 0)
    (hout : ∀ c, (pd p c).Φ (Fin.last (Pipeline.pin (pcfgs (F := F)) adm p).N) ⊢ iprop(Pipeline.scopedRest (Pipeline.pin (pcfgs (F := F)) adm p).spec c ∗ ∃ r, prngReg c r))
    (hW : ∀ c w, (pd p c).arrAt w 0 = W c (Proc.devRef .tc (Pipeline.arrRef (Pipeline.pin (pcfgs (F := F)) adm p).spec w))) : Region p pd W := by
  unfold Region
  exact Cert.Out.exists_region (pcs := pcfgs (F := F)) (a := adm) (pdats := pd) (ι := ()) (defs₀ := defs₀) (𝒱₀ := Variants.none) (L := L) (lv := lv) p (fun _ => 0) hs (fun c => iprop(∃ r, prngReg c r)) (fun c => iprop(∃ r, prngReg c r)) (fun _ => BI.emp) kit hK
    hbody howed hrec hshare hin hout (fun _ => 0) (cut p) W hW

set_option backward.isDefEq.respectTransparency.types false in
/-- The output projection's region. -/
theorem reg0 : Region 0 (pdats m) (fun c => V1 m c) := region 0 (pdats m) (fun c => V1 m c) sub0 launch0.toP rfl
    (fun c => (body_obligation0 m c).loose) (fun _ _ => rfl) (fun _ => rfl) (fun c w => (dat0 m c).share_full (fun _ => rfl) w)
    (fun c => by
      show iprop(Pipeline.scopedRest spec0 c ∗ ∃ r, prngReg c r) ⊢ Phi m c 0
      rw [scopedRest0_eq]; unfold Phi
      iintro ⟨⟨⟨%f, Hs⟩, Hr⟩, Hp⟩
      isplitr [Hp]
      · isplitl [Hs]
        · iexists f; isplitr; · ipureintro; exact Or.inl rfl
          iexact Hs
        iexact Hr
      iexact Hp)
    (fun c => by
      show Phi m c cfg0.N ⊢ iprop(Pipeline.scopedRest spec0 c ∗ ∃ r, prngReg c r)
      rw [scopedRest0_eq]; unfold Phi
      iintro ⟨⟨⟨%f, -, Hs⟩, Hr⟩, Hp⟩
      isplitr [Hp]
      · isplitl [Hs]
        · iexists f; iexact Hs
        iexact Hr
      iexact Hp)
    (fun c w => A0_eq m c w)

set_option backward.isDefEq.respectTransparency.types false in
/-- The reading back's region. -/
theorem reg1 : Region 1 (pdats m) (fun c => VB m c) := region 1 (pdats m) (fun c => VB m c) sub1 launch1.toP rfl
    (fun c => (body_obligation1 m c).loose) (fun _ _ => rfl) (fun _ => rfl) (fun c w => (dat1 m c).share_full (fun _ => rfl) w)
    (fun _ => .rfl) (fun _ => .rfl)
    (fun c w => A1_eq m c w)

/-! ## The run -/

-- the launch theorem's implicit arguments are found by unifying its conclusion with this one, which takes unfolding plain definitions
set_option backward.isDefEq.respectTransparency.types false in
set_option maxHeartbeats 1000000 in
/-- Every run ends with each buffer as the last region's record says, for any records of the two regions that chain. -/
theorem run_of (pdats : (p : Fin 2) → (c : Dev nD) → Dat τ (Elt F) Unit ℕ (UR sig nD τ) ℕ (cfgs p) c)
    (V₂ V₃ : Dev nD → Valuation τ sig (Elt F))
    (R0 : RegionSeg (pcfgs (F := F)) adm pdats () defs₀ Variants.none L lv 0) (R1 : RegionSeg (pcfgs (F := F)) adm pdats () defs₀ Variants.none L lv 1)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V₂ c) ∗ E 1 c))
    (hpre1 : ∀ c : Dev nD, iprop(StableHlo.held (c : Thread nD τ) (Pipeline.ucRefs τ sig) (V₂ c) ∗ E 1 c) ⊢ R1.pre c)
    (hpost1 : ∀ c : Dev nD, R1.post c ⊢ iprop(StableHlo.held (c : Thread nD τ) (Pipeline.ucRefs τ sig) (V₃ c) ∗ E 2 c)) :
    θ_run defs (onTc (τ := τ) (main (F := F))) ⟨m, fun _ => 0, ρ⟩ (fun r =>
    (∀ c : Dev nD, ∀ b ∈ Pipeline.ucRefs τ sig, r.2.mem ((c : Thread nD τ).1, b) = V₃ c b) ∧ r.2.sem = fun _ => 0) := by
  refine Pipeline.θ_run_regions_kit_dev_sems (pcfgs (F := F)) adm pdats () cellOf_inj emb₁ defs₀ Variants.none L lv m ρ main
    (segs m Variants.none L lv E () pdats R0 R1)
    (fun c Q => by
      rewrite [main_chain c, Seg.run_eq_chain,
        show (segs m Variants.none L lv E () pdats R0 R1 c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun g h => if_neg h) (fun _ => iprop(BI.emp))
    (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V₃ c))
    (hch := fun c => ⟨.rfl, hpre0 c, (hpost0 c).trans (hpre1 c), (hpost1 c).trans (by iintro ⟨Hh, HO, -⟩; isplitl [Hh] <;> iassumption)⟩)
    (hinit := ?_) (QY := fun c s => ∀ b ∈ Pipeline.ucRefs τ sig, s.mem ((c : Thread nD τ).1, b) = V₃ c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    imodintro
    iapply (pointsTo_read_all (Pipeline.ucRefs τ sig) (fun b => ((c : Thread nD τ).1, b)) (V₃ c) s')
    isplitl [Hh] <;> iassumption

theorem VB_eq (c : Dev nD) : afterRegion (pdats m 0 c) (V1 m c) = VB m c := by unfold VB; rfl
theorem VC_eq (c : Dev nD) : afterRegion (pdats m 1 c) (VB m c) = VC m c := by unfold VC; rfl

/-- Every run ends, with each buffer as the two kernels leave it and no semaphore counting anything. -/
theorem run : θ_run defs (onTc (τ := τ) (main (F := F))) ⟨m, fun _ => 0, ρ⟩ (fun r =>
    (∀ c : Dev nD, ∀ b ∈ Pipeline.ucRefs τ sig, r.2.mem ((c : Thread nD τ).1, b) = VC m c b) ∧ r.2.sem = fun _ => 0) :=
  have ⟨R0, h0, h0'⟩ := reg0 m
  have ⟨R1, h1, h1'⟩ := reg1 m
  run_of m ρ (pdats m) (VB m) (VC m) R0 R1 h0 (fun c => VB_eq m c ▸ h0' c) h1 (fun c => VC_eq m c ▸ h1' c)

/-! ## The buffers at the end -/

theorem mem_uc (b : Ref sig .tc) (h : (Proc.devRef (τ := τ) .tc b).isScoped = false) : Proc.devRef (τ := τ) .tc b ∈ Pipeline.ucRefs τ sig :=
  Finset.mem_filter.mpr ⟨StableHlo.devRef_mem_tcRefs b, by simp [h]⟩

/-- A buffer no kernel and no host operation writes ends as it was launched. -/
theorem VC_keeps (c : Dev nD) (r : Ref sig .tc) (h1 : ∀ w, Pipeline.arrRef spec1 w = r → (cfg1.win w).isOut = false)
    (h0 : ∀ w, Pipeline.arrRef spec0 w = r → (cfg0.win w).isOut = false) (hh : r ∉ hostOps0_W) : VC m c r = m ((c : Thread nD τ).loc r) :=
  (Pipeline.afterRegion_keeps (dat1 m c) (VB m c) launch1.win.arr_inj (fun w => A1_eq m c w) r h1).trans
    ((Pipeline.afterRegion_keeps (dat0 m c) (V1 m c) launch0.win.arr_inj (fun w => A0_eq m c w) r h0).trans
      ((V1_of m c r hh).trans rfl))

/-- The updated activations at the end. -/
theorem VC_x2 (c : Dev nD) : VC m c main_v24_0 = (dat0 m c).arrAt 11 cfg0.N :=
  (Pipeline.afterRegion_of_not_arr (dat1 m c) (VB m c) (b := main_v24_0) (by decide)).trans
    (Pipeline.afterRegion_arr (dat0 m c) (V1 m c) launch0.win.arr_inj 11)

/-- The packed words between the two kernels. -/
theorem VB_h2 (c : Dev nD) : VB m c main_v24_1 = (dat0 m c).arrAt 12 cfg0.N :=
  Pipeline.afterRegion_arr (dat0 m c) (V1 m c) launch0.win.arr_inj 12

/-- The normalised activations read back, at the end. -/
theorem VC_h2 (c : Dev nD) : VC m c main_v25 = (dat1 m c).arrAt 1 cfg1.N :=
  Pipeline.afterRegion_arr (dat1 m c) (VB m c) launch1.win.arr_inj 1

/-- Every run ends, the argument arrays as launched and the two results as the kernels leave them. -/
theorem results : θ_run defs (onTc (τ := τ) (main (F := F))) ⟨m, fun _ => 0, ρ⟩ (fun r => (∀ c : Dev nD,
    (r.2.mem ((c.tc : Thread nD τ).loc main_v24_0) = (dat0 m c).arrAt 11 cfg0.N
      ∧ r.2.mem ((c.tc : Thread nD τ).loc main_v25) = (dat1 m c).arrAt 1 cfg1.N)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) := by
  refine (θ_run defs _ _).mono (fun r h => ?_) (run m ρ)
  refine ⟨fun c => ⟨⟨(h.1 c _ (mem_uc main_v24_0 (by decide))).trans (VC_x2 m c), (h.1 c _ (mem_uc main_v25 (by decide))).trans (VC_h2 m c)⟩, ?_⟩, h.2⟩
  exact ⟨(h.1 c _ (mem_uc main_arg0 (by decide))).trans (VC_keeps m c main_arg0 (by decide) (by decide) (by decide)), (h.1 c _ (mem_uc main_arg1 (by decide))).trans (VC_keeps m c main_arg1 (by decide) (by decide) (by decide)), (h.1 c _ (mem_uc main_arg2 (by decide))).trans (VC_keeps m c main_arg2 (by decide) (by decide) (by decide)), (h.1 c _ (mem_uc main_arg3 (by decide))).trans (VC_keeps m c main_arg3 (by decide) (by decide) (by decide)), (h.1 c _ (mem_uc main_arg4 (by decide))).trans (VC_keeps m c main_arg4 (by decide) (by decide) (by decide)), (h.1 c _ (mem_uc main_arg5 (by decide))).trans (VC_keeps m c main_arg5 (by decide) (by decide) (by decide)), (h.1 c _ (mem_uc main_arg6 (by decide))).trans (VC_keeps m c main_arg6 (by decide) (by decide) (by decide)), (h.1 c _ (mem_uc main_arg7 (by decide))).trans (VC_keeps m c main_arg7 (by decide) (by decide) (by decide)), (h.1 c _ (mem_uc main_arg8 (by decide))).trans (VC_keeps m c main_arg8 (by decide) (by decide) (by decide))⟩

end Cert.Kernel4Ideal.Out

end
-- ==== Proof.Out.Value.lean ====
/-
  The two kernels' blocks at the ideal instance, and the two result arrays after the run.
-/
module

public import proofs.«01_k».proof.Proof.Out.Spec
public import proofs.«01_k».proof.Proof.Out.FrameIdeal
public import Idealize.ShloMosaic.Lib.Pipeline.ValueKit
public import Idealize.ShloMosaic.Lib.Pointwise

@[expose] public section

set_option maxRecDepth 16384

noncomputable section

namespace Cert.Kernel4Ideal.Out

open Cert.Kernel4Ideal Cert.Kernel4Ideal.Gen Cert.OutSpec
open Idealize.ShloMosaic Idealize.ShloMosaic.TcCoe Idealize.SL.Sem

section Block

variable (x1 : Vec Ideal S512x1024 .f32) (x2 x3 : Vec Ideal S512x512 .f32) (x4 x5 : Vec Ideal S1x512 .f32)
  (x6 : Vec Ideal S1024x1024 .bf16) (x7 : Vec Ideal S1x1024 .f32)

theorem norma_apply (r k : Fin 512) : k0_pay4 x2 x4 (ix2 r k) = rms 0x44000000#32 (fun k => x2 (ix2 r k)) (fun k => x4 (ix2 0 k)) k := by
  pointwise [k0_pay4]
  rfl

theorem normb_apply (r k : Fin 512) : k0_pay5 x3 x5 (ix2 r k) = rms 0x44000000#32 (fun k => x3 (ix2 r k)) (fun k => x5 (ix2 0 k)) k := by
  pointwise [k0_pay5]
  rfl

/-- A block's row of updated activations. -/
def brow (r : Fin 512) (c : Fin 1024) : EReal :=
  updated (fun c => x1 (ix2 r c)) (rms 0x44000000#32 (fun k => x2 (ix2 r k)) (fun k => x4 (ix2 0 k)))
    (rms 0x44000000#32 (fun k => x3 (ix2 r k)) (fun k => x5 (ix2 0 k))) (fun k c => x6 (ix2 k c)) c

theorem top_apply (k : Fin 512) (c : Fin 1024) :
    k0_pay6 (View.ld x6 r1024x1024_0_0_512x1024) (ix2 k c) = x6 (ix2 ⟨k.val, by have := k.isLt; omega⟩ c) := by
  rw [View.ld_unit]
  pointwise [k0_pay6]

theorem bottom_apply (k : Fin 512) (c : Fin 1024) :
    (View.ld x6 r1024x1024_512_0_512x1024 : Vec Ideal S512x1024 .bf16) (ix2 k c) = x6 (ix2 ⟨512 + k.val, by have := k.isLt; omega⟩ c) := by
  rw [View.ld_unit]
  pointwise

theorem sum_apply (A B : FVec Ideal S512x512 .bf16) (x : Vec Ideal S512x1024 .f32) (T L : FVec Ideal S512x1024 .bf16) (r : Fin 512) (c : Fin 1024) :
    k0_pay7 A B x T L (ix2 r c) = x (ix2 r c) + ∑ k : Fin 512, A (ix2 r k) * T (ix2 k c) + ∑ k : Fin 512, B (ix2 r k) * L (ix2 k c) := by
  pointwise [k0_pay7]

theorem upd_apply (r : Fin 512) (c : Fin 1024) :
    k0_pay7 (k0_pay4 x2 x4) (k0_pay5 x3 x5) x1 (k0_pay6 (View.ld x6 r1024x1024_0_0_512x1024)) (View.ld x6 r1024x1024_512_0_512x1024) (ix2 r c)
      = brow x1 x2 x3 x4 x5 x6 r c := by
  rw [sum_apply, brow, updated_halves]
  refine congrArg₂ (· + ·) (congrArg (x1 (ix2 r c) + ·) (Finset.sum_congr rfl fun k _ => ?_)) (Finset.sum_congr rfl fun k _ => ?_)
  · rw [norma_apply, top_apply]
  · rw [normb_apply]; exact congrArg _ (bottom_apply x6 k c)

theorem hnorm_apply (A B : FVec Ideal S512x512 .bf16) (x : Vec Ideal S512x1024 .f32) (T L : FVec Ideal S512x1024 .bf16) (r : Fin 512) (c : Fin 1024) :
    k0_pay8 A B x T L x7 (ix2 r c) = rms 0x44800000#32 (fun c => k0_pay7 A B x T L (ix2 r c)) (fun c => x7 (ix2 0 c)) c := by
  pointwise [k0_pay8]
  rfl

/-- The block of updated activations. -/
theorem outX_apply (r : Fin 512) (c : Fin 1024) : outX x1 x2 x3 x4 x5 x6 (ix2 r c) = brow x1 x2 x3 x4 x5 x6 r c := by
  unfold outX
  rw [View.canon_cons_unit_lit _ _ _ (by decide)]
  rw [View.ld_unit_lit _ x1 (by decide), View.ld_unit_lit _ x2 (by decide), View.ld_unit_lit _ x3 (by decide), View.ld_unit_lit _ x4 (by decide),
    View.ld_unit_lit _ x5 (by decide)]
  exact upd_apply x1 x2 x3 x4 x5 x6 r c

theorem pack_apply (A B : FVec Ideal S512x512 .bf16) (x : Vec Ideal S512x1024 .f32) (T L : FVec Ideal S512x1024 .bf16) (r : Fin 512) (h : Fin 2) (c : Fin 512) :
    k0_pay9 A B x T L x7 (ix3 r h c) = k0_pay8 A B x T L x7 (ix2 r ⟨512 * h.val + c.val, by have := h.isLt; have := c.isLt; omega⟩) := by
  match h with
  | 0 => pointwise [k0_pay9]
  | 1 => pointwise [k0_pay9]

/-- The block of packed activations: the row's first half in the low halves, its second in the high ones. -/
theorem outH_apply (r : Fin 512) (h : Fin 2) (c : Fin 512) : outH x1 x2 x3 x4 x5 x6 x7 (ix3 r h c)
    = rms 0x44800000#32 (brow x1 x2 x3 x4 x5 x6 r) (fun c => x7 (ix2 0 c)) ⟨512 * h.val + c.val, by have := h.isLt; have := c.isLt; omega⟩ := by
  unfold outH
  rw [View.canon_cons_unit_lit _ _ _ (by decide)]
  rw [View.ld_unit_lit _ x1 (by decide), View.ld_unit_lit _ x2 (by decide), View.ld_unit_lit _ x3 (by decide), View.ld_unit_lit _ x4 (by decide),
    View.ld_unit_lit _ x5 (by decide), View.ld_unit_lit _ x7 (by decide)]
  rw [pack_apply, hnorm_apply]
  simp only [upd_apply]

end Block

section Unpack

theorem ix3_congr {n m k : ℕ} {a a' : Fin n} {b b' : Fin m} {c c' : Fin k} (ha : a = a') (hb : b = b') (hc : c = c') :
    ix3 a b c = ix3 a' b' c' := by
  rw [ha, hb, hc]

variable (p : Vec Ideal S512x2x512 .bf16)

theorem lo_apply (r c : Fin 512) : k1_pay1 p (ix2 r c) = p (ix3 r 0 c) := by
  pointwise [k1_pay1]

theorem hi_apply (r c : Fin 512) : k1_pay2 p (ix2 r c) = p (ix3 r 1 c) := by
  pointwise [k1_pay2]

/-- A block read back: its low halves, then its high halves. -/
theorem outU_apply (r : Fin 512) (c : Fin 1024) :
    outU p (ix2 r c) = p (ix3 r ⟨c.val / 512, by have := c.isLt; omega⟩ ⟨c.val % 512, Nat.mod_lt _ (by decide)⟩) := by
  unfold outU
  rw [View.ld_unit_lit _ p (by decide)]
  refine View.canon_apply_of_pieces (Val := Elt Ideal) (e := .f32)
    (fun y : S512x1024.Idx => p (ix3 (y 0) ⟨(y 1).val / 512, by have h : (y 1).val < 1024 := (y 1).isLt; omega⟩ ⟨(y 1).val % 512, Nat.mod_lt _ (by decide)⟩)) _ ?_ (ix2 r c) (coverU _ _ _)
  intro q hq x
  simp only [List.mem_cons, List.not_mem_nil, or_false] at hq
  rcases hq with rfl | rfl
  · obtain ⟨a, b, rfl⟩ : ∃ a b : Fin 512, x = ix2 a b := ⟨x 0, x 1, eq_ix2 x⟩
    have hb := b.isLt
    have e0 : ((rHi.emb (ix2 a b)) 0).val = a.val := by show 0 + 1 * a.val = _; omega
    have e1 : ((rHi.emb (ix2 a b)) 1).val = 512 + b.val := by show 512 + 1 * b.val = _; omega
    refine (hi_apply p a b).trans (congrArg p (ix3_congr (Fin.ext e0.symm) (Fin.ext ?_) (Fin.ext ?_)))
    · show 1 = ((rHi.emb (ix2 a b)) 1).val / 512; omega
    · show b.val = ((rHi.emb (ix2 a b)) 1).val % 512; omega
  · obtain ⟨a, b, rfl⟩ : ∃ a b : Fin 512, x = ix2 a b := ⟨x 0, x 1, eq_ix2 x⟩
    have hb := b.isLt
    have e0 : ((rLo.emb (ix2 a b)) 0).val = a.val := by show 0 + 1 * a.val = _; omega
    have e1 : ((rLo.emb (ix2 a b)) 1).val = b.val := by show 0 + 1 * b.val = _; omega
    refine (lo_apply p a b).trans (congrArg p (ix3_congr (Fin.ext e0.symm) (Fin.ext ?_) (Fin.ext ?_)))
    · show 0 = ((rLo.emb (ix2 a b)) 1).val / 512; omega
    · show b.val = ((rLo.emb (ix2 a b)) 1).val % 512; omega

end Unpack

section Final

variable (m : (ℓ : Loc nD τ sig) → Buf (Elt Ideal) ℓ) (d : Dev nD)

/-- The arrays the host code hands to the first kernel, at an index of the argument each comes from. -/
theorem gain_a (k : Fin 512) : V1 m d main_v8 (ix2 0 k) = m ((d : Thread nD τ).loc main_arg3) (ix1 k) := by
  show StableHlo.after hostOps0 (fun b => m (d, b)) main_v8 (ix2 0 k) = _
  entry_read; pointwise

theorem gain_b (k : Fin 512) : V1 m d main_v9 (ix2 0 k) = m ((d : Thread nD τ).loc main_arg4) (ix1 k) := by
  show StableHlo.after hostOps0 (fun b => m (d, b)) main_v9 (ix2 0 k) = _
  entry_read; pointwise

theorem weights (k c : Fin 1024) : V1 m d main_v10 (ix2 k c) = m ((d : Thread nD τ).loc main_arg5) (ix2 k c) := by
  show StableHlo.after hostOps0 (fun b => m (d, b)) main_v10 (ix2 k c) = _
  entry_read; pointwise

theorem gain_h (k : Fin 1024) : V1 m d main_v11 (ix2 0 k) = m ((d : Thread nD τ).loc main_arg6) (ix1 k) := by
  show StableHlo.after hostOps0 (fun b => m (d, b)) main_v11 (ix2 0 k) = _
  entry_read; pointwise

/-- Each window's block index at point `t`. -/
theorem idx0 : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_11.index t = ![t.val, 0] ∧ win0_12.index t = ![t.val, 0, 0] := by
  decide +kernel

theorem idx1 : ∀ t : Fin grid1.N, win1_0.index t = ![t.val, 0, 0] ∧ win1_1.index t = ![t.val, 0] := by
  decide +kernel

section Blocks

variable (t : Fin cfg0.N) (r : Fin 512)

/-- Row `r` of point `t`'s block, in the whole array. -/
abbrev at0 : Fin 16384 := ⟨t.val * 512 + r.val, by have ht : t.val < 32 := t.isLt; have := r.isLt; omega⟩

theorem blk0_0 (c : Fin 1024) : iblk0 m d 0 t (ix2 r c) = m ((d : Thread nD τ).loc main_arg0) (ix2 (at0 t r) c) := by
  refine Eq.trans ?_ (congrFun (V1_of m d main_arg0 (by decide)) _)
  have ht : t.val < 32 := t.isLt
  blk_ext [iblk0, idx0 t]

theorem blk0_1 (c : Fin 512) : iblk0 m d 1 t (ix2 r c) = m ((d : Thread nD τ).loc main_arg1) (ix2 (at0 t r) c) := by
  refine Eq.trans ?_ (congrFun (V1_of m d main_arg1 (by decide)) _)
  have ht : t.val < 32 := t.isLt
  blk_ext [iblk0, idx0 t]

theorem blk0_2 (c : Fin 512) : iblk0 m d 2 t (ix2 r c) = m ((d : Thread nD τ).loc main_arg2) (ix2 (at0 t r) c) := by
  refine Eq.trans ?_ (congrFun (V1_of m d main_arg2 (by decide)) _)
  have ht : t.val < 32 := t.isLt
  blk_ext [iblk0, idx0 t]

theorem blk0_3 (c : Fin 512) : iblk0 m d 3 t (ix2 0 c) = m ((d : Thread nD τ).loc main_arg3) (ix1 c) := by
  refine Eq.trans ?_ (gain_a m d c)
  blk_ext [iblk0, idx0 t]

theorem blk0_4 (c : Fin 512) : iblk0 m d 4 t (ix2 0 c) = m ((d : Thread nD τ).loc main_arg4) (ix1 c) := by
  refine Eq.trans ?_ (gain_b m d c)
  blk_ext [iblk0, idx0 t]

theorem blk0_5 (k c : Fin 1024) : iblk0 m d 5 t (ix2 k c) = m ((d : Thread nD τ).loc main_arg5) (ix2 k c) := by
  refine Eq.trans ?_ (weights m d k c)
  blk_ext [iblk0, idx0 t]

theorem blk0_6 (c : Fin 1024) : iblk0 m d 6 t (ix2 0 c) = m ((d : Thread nD τ).loc main_arg6) (ix1 c) := by
  refine Eq.trans ?_ (gain_h m d c)
  blk_ext [iblk0, idx0 t]

/-- The updated activations of a block's row are the whole array's. -/
theorem brow_eq (c : Fin 1024) : brow (iblk0 m d 0 t) (iblk0 m d 1 t) (iblk0 m d 2 t) (iblk0 m d 3 t) (iblk0 m d 4 t) (iblk0 m d 5 t) r c
    = row (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5)) (at0 t r) c := by
  unfold brow row
  simp only [blk0_0, blk0_1, blk0_2, blk0_3, blk0_4, blk0_5]

end Blocks

/-- The updated activations of device `d`. -/
def resultX : Buf (Elt Ideal) ((d : Thread nD τ).loc main_v24_0) :=
  x2 (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))

/-- The normalised activations of device `d`. -/
def resultH : Buf (Elt Ideal) ((d : Thread nD τ).loc main_v25) :=
  h2 (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6))

/-- The same as they are packed. -/
def packed : Buf (Elt Ideal) ((d : Thread nD τ).loc main_v24_1) := fun i =>
  resultH m d (ix2 (i 0) ⟨512 * (i 1).val + (i 2).val, by have h1 : (i 1).val < 2 := (i 1).isLt; have h2 : (i 2).val < 512 := (i 2).isLt; omega⟩)

theorem packed_apply (r : Fin 16384) (h : Fin 2) (c : Fin 512) : packed m d (ix3 r h c)
    = rms 0x44800000#32 (row (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5)) r)
        (fun c => m ((d : Thread nD τ).loc main_arg6) (ix1 c)) ⟨512 * h.val + c.val, by have := h.isLt; have := c.isLt; omega⟩ := rfl

theorem brow_funext (t : Fin cfg0.N) (r : Fin 512) : brow (iblk0 m d 0 t) (iblk0 m d 1 t) (iblk0 m d 2 t) (iblk0 m d 3 t) (iblk0 m d 4 t) (iblk0 m d 5 t) r
    = row (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5)) (at0 t r) :=
  funext fun c => brow_eq m d t r c

theorem final_x2 : (dat0 m d).arrAt 11 cfg0.N = resultX m d := by
  refine (dat0 m d).arrAt_eq_of_covers 11 _ (by decide +kernel) fun t hf y => ?_
  blk_simp
  rw [after0_11]
  idx_vars y
  have ht : t.val < 32 := t.isLt
  have e : ((View.whole main_v24_0).slice (win0_11.rect t)).emb (ix2 y0 y1) = (ix2 (at0 t y0) y1) := by blk_ext [idx0 t]
  rw [e]
  refine (outX_apply _ _ _ _ _ _ y0 y1).trans ((brow_eq m d t y0 y1).trans rfl)

set_option maxHeartbeats 1600000 in
theorem final_packed : (dat0 m d).arrAt 12 cfg0.N = packed m d := by
  refine (dat0 m d).arrAt_eq_of_covers 12 _ (by decide +kernel) fun t hf y => ?_
  blk_simp
  rw [after0_12]
  idx_vars y
  have ht : t.val < 32 := t.isLt
  have e : ((View.whole main_v24_1).slice (win0_12.rect t)).emb (ix3 y0 y1 y2) = (ix3 (at0 t y0) y1 y2) := by blk_ext [idx0 t]
  rw [e]
  refine (outH_apply _ _ _ _ _ _ _ y0 y1 y2).trans ?_
  rw [packed_apply, brow_funext]
  exact congrArg (fun g => rms _ _ g _) (funext fun c => blk0_6 m d t c)

theorem final_h2 : (dat1 m d).arrAt 1 cfg1.N = resultH m d := by
  refine (dat1 m d).arrAt_eq_of_covers 1 _ (by decide +kernel) fun t hf y => ?_
  blk_simp
  rw [after1_1]
  idx_vars y
  have ht : t.val < 32 := t.isLt
  have e : ((View.whole main_v25).slice (win1_1.rect t)).emb (ix2 y0 y1) = (ix2 (⟨t.val * 512 + y0.val, by have := y0.isLt; omega⟩ : Fin 16384) y1) := by
    blk_ext [idx1 t]
  have e0 : ∀ (h : Fin 2) (c : Fin 512), iblk1 m d 0 t (ix3 y0 h c)
      = packed m d (ix3 (⟨t.val * 512 + y0.val, by have := y0.isLt; omega⟩ : Fin 16384) h c) := by
    intro h c
    refine Eq.trans ?_ (congrFun ((VB_h2 m d).trans (final_packed m d)) _)
    blk_ext [iblk1, idx1 t]
  rw [e]
  refine (outU_apply _ y0 y1).trans ((e0 _ _).trans (congrArg (resultH m d) ?_))
  refine congrArg (ix2 _) (Fin.ext ?_)
  exact Nat.div_add_mod y1.val 512

/-- The run: the two results, the arguments unchanged. -/
theorem run_values (ρ : Dev nD → PrngReg) : θ_run defs (onTc (τ := τ) (main (F := Ideal))) ⟨m, fun _ => 0, ρ⟩ fun r => ∀ c : Dev nD,
      (r.2.mem ((c.tc : Thread nD τ).loc main_v24_0) = resultX m c ∧ r.2.mem ((c.tc : Thread nD τ).loc main_v25) = resultH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨⟨(h.1 c).1.1.trans (final_x2 m c), (h.1 c).1.2.trans (final_h2 m c)⟩, (h.1 c).2⟩) (results m ρ)

end Final

end Cert.Kernel4Ideal.Out

end
-- ==== Proof.Out.Reference.lean ====
/-
  The reference of the output projection at the ideal instance, read at an index.
-/
module

public import proofs.«01_k».proof.Proof.Gen.Reference4Ideal.Run
public import proofs.«01_k».proof.Proof.Out.Spec

@[expose] public section

set_option maxRecDepth 16384

noncomputable section

open Idealize.ShloMosaic Idealize.ShloMosaic.TcCoe Idealize.SL.Sem

namespace Cert.OutReference

open Cert.Reference4Ideal Cert.Reference4Ideal.Gen Cert.Reference4Ideal.Value Cert.OutSpec

/-- The RMS normalisation of every row of 512, in the reference's operations. -/
def norm512 (v : FVec Ideal S16384x512 .f32) (g : FVec Ideal S512 .f32) : FVec Ideal S16384x512 .f32 :=
  mulf (mulf v (broadcastInDim S16384x512 ![0, 1] bcast_S16384x1_S16384x512_0_1 (Host.rsqrt (addf (Host.divf (broadcastInDim S16384x1 ![0] bcast_S16384_S16384x1_0 (Host.reduceAdd (mulf v v) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x3727C5AC#32)))))) (broadcastInDim S16384x512 ![0, 1] bcast_S1x512_S16384x512_0_1 (broadcastInDim S1x512 ![1] bcast_S512_S1x512_1 g))

theorem norm512_apply (v : FVec Ideal S16384x512 .f32) (g : FVec Ideal S512 .f32) (r : Fin 16384) (c : Fin 512) :
    norm512 v g (ix2 r c) = rms 0x44000000#32 (fun c => v (ix2 r c)) (fun c => g (ix1 c)) c := by
  pointwise [norm512]
  rfl

/-- The same of every row of 1024. -/
def norm1024 (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

theorem norm1024_apply (v : FVec Ideal S16384x1024 .f32) (g : FVec Ideal S1024 .f32) (r : Fin 16384) (c : Fin 1024) :
    norm1024 v g (ix2 r c) = rms 0x44800000#32 (fun c => v (ix2 r c)) (fun c => g (ix1 c)) c := by
  pointwise [norm1024]
  rfl

/-- The two normalised arrays side by side. -/
def cat (a b : FVec Ideal S16384x512 .f32) : FVec Ideal S16384x1024 .f32 :=
  concatenate S16384x1024 1 [⟨S16384x512, a⟩, ⟨S16384x512, b⟩] concatenates_S16384x512_S16384x512_S16384x1024_d1

theorem cat_apply (a b : FVec Ideal S16384x512 .f32) (r : Fin 16384) (k : Fin 1024) :
    cat a b (ix2 r k) = joined (fun k => a (ix2 r k)) (fun k => b (ix2 r k)) k := by
  pointwise [cat]
  rfl

/-- The activations plus the product of the normalised arrays and the weights. -/
def upd (x : FVec Ideal S16384x1024 .f32) (y : FVec Ideal S16384x1024 .f32) (w : FVec Ideal S1024x1024 .f32) : FVec Ideal S16384x1024 .f32 :=
  addf x (Host.dotGeneral dot_S16384x1024_S1024x1024_S16384x1024_1_0_0_1_n_n none y w)

theorem upd_apply (x y : FVec Ideal S16384x1024 .f32) (w : FVec Ideal S1024x1024 .f32) (r : Fin 16384) (c : Fin 1024) :
    upd x y w (ix2 r c) = x (ix2 r c) + ∑ k : Fin 1024, y (ix2 r k) * w (ix2 k c) := by
  pointwise [upd]

section Results

variable (x : FVec Ideal S16384x1024 .f32) (ya yb : FVec Ideal S16384x512 .f32) (ga gb : FVec Ideal S512 .f32)
  (w : FVec Ideal S1024x1024 .f32) (g : FVec Ideal S1024 .f32)

theorem x2_apply (r : Fin 16384) (c : Fin 1024) : upd x (cat (norm512 ya ga) (norm512 yb gb)) w (ix2 r c) = row x ya yb ga gb w r c := by
  rw [upd_apply]
  simp only [cat_apply, norm512_apply]
  rfl

theorem x2_eq : upd x (cat (norm512 ya ga) (norm512 yb gb)) w = x2 x ya yb ga gb w := by
  funext i
  obtain ⟨r, c, rfl⟩ : ∃ (r : Fin 16384) (c : Fin 1024), i = ix2 r c := ⟨i 0, i 1, eq_ix2 i⟩
  exact x2_apply x ya yb ga gb w r c

theorem h2_eq : extf .f32 (truncf .bf16 (norm1024 (upd x (cat (norm512 ya ga) (norm512 yb gb)) w) g) bitsLt_bf16_f32) bitsLt_bf16_f32
    = h2 x ya yb ga gb w g := by
  funext i
  obtain ⟨r, c, rfl⟩ : ∃ (r : Fin 16384) (c : Fin 1024), i = ix2 r c := ⟨i 0, i 1, eq_ix2 i⟩
  refine (norm1024_apply _ _ r c).trans ?_
  simp only [x2_apply]
  rfl

end Results

/-- The second result as the formula gives it. -/
theorem result_h2 (m : (ℓ : Loc nD τ sig) → Buf (Elt Ideal) ℓ) (d : Dev nD) :
    res_main_v43 m d = h2 (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) := by
  refine Eq.trans ?_ (h2_eq _ _ _ _ _ _ _)
  unfold res_main_v43 norm1024 upd cat norm512
  rfl

/-- The first result as the formula gives it. -/
theorem result_x2 (m : (ℓ : Loc nD τ sig) → Buf (Elt Ideal) ℓ) (d : Dev nD) :
    upd (m ((d.tc : Thread nD τ).loc main_arg0)) (cat (norm512 (m ((d.tc : Thread nD τ).loc main_arg1)) (m ((d.tc : Thread nD τ).loc main_arg3)))
        (norm512 (m ((d.tc : Thread nD τ).loc main_arg2)) (m ((d.tc : Thread nD τ).loc main_arg4)))) (m ((d.tc : Thread nD τ).loc main_arg5))
      = x2 (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) :=
  x2_eq _ _ _ _ _ _

end Cert.OutReference

end
-- ==== Proof.Combine.Spec.lean ====
/-
  What `combine` computes, row by row, over the extended reals: a row of `x2` plus the four experts' rows scaled by
  their gates, then RMS-normalised. An expert's row arrives as 512 words of two bf16 values: the low halves are the
  row's columns 0–511, the high halves its columns 512–1023.
-/
module

public import Idealize.ShloMosaic.Lib.Pointwise

@[expose] public section

noncomputable section

open Idealize.ShloMosaic

namespace Cert.CombineSpec

/-- Column `c` of the row held by the 512 words `w`. -/
def unpacked (w : Fin 512 → BitVec 32) (c : Fin 1024) : EReal :=
  if h : c.val < 512 then Ideal.ofBits .bf16 ((w ⟨c.val, h⟩).extractLsb' 0 16)
  else Ideal.ofBits .bf16 ((w ⟨c.val - 512, by have := c.isLt; omega⟩).extractLsb' 16 16)

/-- The row `x` plus the four experts' rows, each times its gate. -/
def mixed (x : Fin 1024 → EReal) (gate : Fin 4 → EReal) (w : Fin 4 → Fin 512 → BitVec 32) (c : Fin 1024) : EReal :=
  x c + ∑ k, gate k * unpacked (w k) c

/-- The RMS normalisation of the row `v`: over the mean of its squares plus 1e-5 (both constants as binary32 words),
    times the scale `g`. -/
def normed (v g : Fin 1024 → EReal) (c : Fin 1024) : EReal :=
  v c * Ideal.rsqrt (Ideal.div (∑ k, v k * v k) (Ideal.ofBits .f32 0x44800000#32) + Ideal.ofBits .f32 0x3727C5AC#32) * g c

/-- The whole result array, from the four argument arrays. -/
def out (x : (⟨2, ![16384, 1024]⟩ : Shape).Idx → EReal) (gates : (⟨2, ![16384, 128]⟩ : Shape).Idx → EReal)
    (g : (⟨1, ![1024]⟩ : Shape).Idx → EReal) (y : (⟨2, ![65792, 512]⟩ : Shape).Idx → BitVec 32) (r : Fin 16384) (c : Fin 1024) : EReal :=
  normed (mixed (fun c => x (ix2 r c)) (fun k => gates (ix2 r ⟨8 + k.val, by have := k.isLt; omega⟩))
    (fun k j => y (ix2 ⟨k.val * 16384 + r.val, by have := k.isLt; have := r.isLt; omega⟩ j))) (fun c => g (ix1 c)) c

end Cert.CombineSpec

end
-- ==== Proof.Combine.Kernel.lean ====
/-
  `combine` at the ideal instance: what one grid point leaves in its block, and the whole result array after the run.
-/
module

public import proofs.«01_k».proof.Proof.Gen.KernelIdeal.Value
public import proofs.«01_k».proof.Proof.Combine.Spec
public import Idealize.ShloMosaic.Lib.Pipeline.ValueKit

@[expose] public section

set_option maxRecDepth 16384

noncomputable section

open Idealize.ShloMosaic Idealize.ShloMosaic.TcCoe Idealize.SL.Sem

namespace Cert.CombineKernel

open Cert.KernelIdeal Cert.KernelIdeal.Gen Cert.CombineSpec

/-- The block of `x2` plus the four scaled rows, at an index. -/
theorem mix_apply (P0 : Vec Ideal S256x1024 .f32) (P1 : Vec Ideal S256x128 .f32) (P2 P3 P4 P5 : Vec Ideal S256x512 .i32)
    (r : Fin 256) (c : Fin 1024) :
    k0_pay2 P1 P0 P2 P3 P4 P5 (ix2 r c)
      = mixed (fun c => P0 (ix2 r c)) (fun k => P1 (ix2 r ⟨8 + k.val, by have := k.isLt; omega⟩))
          (fun k j => (![P2, P3, P4, P5] k) (ix2 r j)) c := by
  pointwise [k0_pay2]
  simp only [mixed, Fin.sum_univ_four, ← add_assoc]
  rfl

/-- What one grid point stores, at an index of its block: the normalised row. -/
theorem store_apply (P0 : Vec Ideal S256x1024 .f32) (P1 : Vec Ideal S256x128 .f32) (P2 P3 P4 P5 : Vec Ideal S256x512 .i32)
    (P6 : Vec Ideal S1x1024 .f32) (r : Fin 256) (c : Fin 1024) :
    k0_pay1 (k0_pay2 P1 P0 P2 P3 P4 P5) (k0_pay3 P6) (k0_pay4 P1 P0 P2 P3 P4 P5) (k0_pay5 (F := Ideal)) (ix2 r c)
      = normed (mixed (fun c => P0 (ix2 r c)) (fun k => P1 (ix2 r ⟨8 + k.val, by have := k.isLt; omega⟩))
          (fun k j => (![P2, P3, P4, P5] k) (ix2 r j))) (fun c => P6 (ix2 0 c)) c := by
  pointwise [k0_pay1, k0_pay3, k0_pay4, k0_pay5]
  simp only [mix_apply]
  rfl

variable (m : (ℓ : Loc nD τ sig) → Buf (Elt Ideal) ℓ)

/-- The result array of device `d`. -/
def result (d : Dev nD) : Buf (Elt Ideal) ((d : Thread nD τ).loc main_v1) := fun i =>
  out (m ((d : Thread nD τ).loc main_arg0)) (m ((d : Thread nD τ).loc main_arg1)) (m ((d : Thread nD τ).loc main_arg2))
    (m ((d : Thread nD τ).loc main_arg3)) (i 0) (i 1)

/-- Each window's block index at point `t`: the point itself for `x2`, the gates and the result, `64 k + t` for the
    window on slot `k`'s rows, and 0 for the scale. -/
theorem idx : ∀ t : Fin grid0.N, win0_0.index t = ![t.val, 0] ∧ win0_1.index t = ![t.val, 0] ∧ win0_2.index t = ![0, 0]
    ∧ win0_3.index t = ![t.val, 0] ∧ win0_4.index t = ![64 + t.val, 0] ∧ win0_5.index t = ![128 + t.val, 0]
    ∧ win0_6.index t = ![192 + t.val, 0] ∧ win0_7.index t = ![t.val, 0] := by
  decide +kernel

/-- The blocks tile the result array, and each holds its rows of `result`. -/
theorem final (d : Dev nD) : (dats m 0 d).arrAt 7 cfg0.N = result m d := by
  refine (dats m 0 d).arrAt_eq_of_covers 7 _ (by decide +kernel) fun t hf y => ?_
  blk_simp
  rw [after0_7]
  frame_out
  idx_vars y
  rw [store_apply]
  have ht : t.val < 64 := t.isLt
  have e0 : ∀ c : Fin 1024, iblk m d 0 t (ix2 y0 c) = m ((d : Thread nD τ).loc main_arg0) (ix2 ⟨t.val * 256 + y0.val, by have := y0.isLt; omega⟩ c) :=
    fun c => by blk_ext [iblk, V, idx t]
  have e1 : ∀ c : Fin 128, iblk m d 1 t (ix2 y0 c) = m ((d : Thread nD τ).loc main_arg1) (ix2 ⟨t.val * 256 + y0.val, by have := y0.isLt; omega⟩ c) :=
    fun c => by blk_ext [iblk, V, idx t]
  have e2 : ∀ c : Fin 1024, iblk m d 2 t (ix2 0 c) = m ((d : Thread nD τ).loc main_arg2) (ix1 c) :=
    fun c => by blk_simp [iblk, idx t]; entry_read; pointwise; blk_ext [idx t]
  have e3 : ∀ (k : Fin 4) (c : Fin 512), (![iblk m d 3 t, iblk m d 4 t, iblk m d 5 t, iblk m d 6 t] k) (ix2 y0 c)
      = m ((d : Thread nD τ).loc main_arg3) (ix2 ⟨k.val * 16384 + (t.val * 256 + y0.val), by have := y0.isLt; have := k.isLt; omega⟩ c) := by
    intro k c
    match k with
    | 0 => show iblk m d 3 t (ix2 y0 c) = _; blk_ext [iblk, V, idx t]
    | 1 => show iblk m d 4 t (ix2 y0 c) = _; blk_ext [iblk, V, idx t]
    | 2 => show iblk m d 5 t (ix2 y0 c) = _; blk_ext [iblk, V, idx t]
    | 3 => show iblk m d 6 t (ix2 y0 c) = _; blk_ext [iblk, V, idx t]
  have e7 : ((View.whole main_v1).slice (win0_7.rect t)).emb (ix2 y0 y1) = (ix2 (⟨t.val * 256 + y0.val, by have := y0.isLt; omega⟩ : Fin 16384) y1) := by
    blk_ext [idx t]
  simp only [e0, e1, e2, e3]
  rw [e7]
  rfl

/-- The run: the result array at `result`, the arguments unchanged. -/
theorem run (ρ : Dev nD → PrngReg) : θ_run defs (onTc (τ := τ) (main (F := Ideal))) ⟨m, fun _ => 0, ρ⟩ fun r => ∀ d : Dev nD,
      r.2.mem ((d : Thread nD τ).loc main_v1) = result m d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3) :=
  (θ_run defs _ _).mono (fun _ h d => ⟨(h d).1.trans (final m d), (h d).2⟩) (Cert.KernelIdeal.Value.run_blocks m ρ)

end Cert.CombineKernel

end
-- ==== Proof.Combine.Reference.lean ====
/-
  The reference of `combine` at the ideal instance, read at an index.
-/
module

public import proofs.«01_k».proof.Proof.Gen.ReferenceIdeal.Run
public import proofs.«01_k».proof.Proof.Combine.Spec
public import Idealize.ShloMosaic.Lib.BitcastConvert

@[expose] public section

set_option maxRecDepth 16384

noncomputable section

open Idealize.ShloMosaic Idealize.ShloMosaic.TcCoe Idealize.SL.Sem

namespace Cert.CombineReference

open Cert.ReferenceIdeal Cert.ReferenceIdeal.Gen Cert.ReferenceIdeal.Value Cert.CombineSpec

/-- The words of slot `k`'s rows, split into halves: half `h` of word `c` of row `r`. -/
theorem halves_apply (y : IVec S65792x512 32) (r : Fin 65536) (c : Fin 512) (h : Fin 2) :
    Host.bitcastConvertNarrow S65536x512x2 16 (extractStridedSlice S65536x512 ![0, 0] y slices_S65792x512_S65536x512_0_0)
        splits_S65536x512_w32_S65536x512x2_w16 (ix3 r c h)
      = (y (ix2 ⟨r.val, by have := r.isLt; omega⟩ c)).extractLsb' (h.val * 16) 16 := by
  pointwise

/-- The expert's rows, low halves in columns 0–511 and high halves in columns 512–1023. -/
def rows (y : IVec S65792x512 32) : FVec Ideal S65536x1024 .f32 :=
  concatenate S65536x1024 1 [⟨S65536x512, (shapeCast _ (extractStridedSlice S65536x512x1 ![0, 0, 0] (extf .f32 (bitcastToFloat (F := Ideal) .bf16 (Host.bitcastConvertNarrow S65536x512x2 16 (extractStridedSlice S65536x512 ![0, 0] y slices_S65792x512_S65536x512_0_0) splits_S65536x512_w32_S65536x512x2_w16)) bitsLt_bf16_f32) slices_S65536x512x2_S65536x512x1_0_0_0) shapeCasts_S65536x512x1_S65536x512)⟩, ⟨S65536x512, (shapeCast _ (extractStridedSlice S65536x512x1 ![0, 0, 1] (extf .f32 (bitcastToFloat (F := Ideal) .bf16 (Host.bitcastConvertNarrow S65536x512x2 16 (extractStridedSlice S65536x512 ![0, 0] y slices_S65792x512_S65536x512_0_0) splits_S65536x512_w32_S65536x512x2_w16)) bitsLt_bf16_f32) slices_S65536x512x2_S65536x512x1_0_0_1) shapeCasts_S65536x512x1_S65536x512)⟩] concatenates_S65536x512_S65536x512_S65536x1024_d1

theorem rows_apply (y : IVec S65792x512 32) (r : Fin 65536) (c : Fin 1024) :
    rows y (ix2 r c) = unpacked (fun j => y (ix2 ⟨r.val, by have := r.isLt; omega⟩ j)) c := by
  unfold rows
  generalize hw : Host.bitcastConvertNarrow S65536x512x2 16 (extractStridedSlice S65536x512 ![0, 0] y slices_S65792x512_S65536x512_0_0)
    splits_S65536x512_w32_S65536x512x2_w16 = w
  have hh : ∀ (c : Fin 512) (h : Fin 2), w (ix3 r c h) = (y (ix2 ⟨r.val, by have := r.isLt; omega⟩ c)).extractLsb' (h.val * 16) 16 :=
    fun c h => by rw [← hw]; exact halves_apply y r c h
  pointwise
  simp only [hh, unpacked]
  rfl

/-- `x2` plus the four experts' rows times their gates, in the reference's operations. -/
def mix (x : FVec Ideal S16384x1024 .f32) (gates : FVec Ideal S16384x128 .f32) (y : IVec S65792x512 32) : FVec Ideal S16384x1024 .f32 :=
  addf x (Host.reduceAdd (mulf (broadcastInDim S4x16384x1024 ![0, 1, 2] bcast_S4x16384x1_S4x16384x1024_0_1_2 (broadcastInDim S4x16384x1 ![0, 1] bcast_S4x16384_S4x16384x1_0_1 (transpose S4x16384 [1, 0] (extractStridedSlice S16384x4 ![0, 8] gates slices_S16384x128_S16384x4_0_8) transposes_S16384x4_S4x16384_1_0))) (shapeCast S4x16384x1024 (rows y) shapeCasts_S65536x1024_S4x16384x1024)) (constant S_ .f32 0x00000000#32) reducesTo_S4x16384x1024_S16384x1024_d0 h_S_)

/-- The gate of slot `k` for row `r`, spread over the row's columns. -/
theorem gate_apply (gates : FVec Ideal S16384x128 .f32) (k : Fin 4) (r : Fin 16384) (c : Fin 1024) :
    broadcastInDim S4x16384x1024 ![0, 1, 2] bcast_S4x16384x1_S4x16384x1024_0_1_2 (broadcastInDim S4x16384x1 ![0, 1] bcast_S4x16384_S4x16384x1_0_1 (transpose S4x16384 [1, 0] (extractStridedSlice S16384x4 ![0, 8] gates slices_S16384x128_S16384x4_0_8) transposes_S16384x4_S4x16384_1_0)) (ix3 k r c)
      = gates (ix2 r ⟨8 + k.val, by have := k.isLt; omega⟩) := by
  pointwise

/-- Slot `k`'s row `r` among the experts' rows. -/
theorem slot_apply (y : FVec Ideal S65536x1024 .f32) (k : Fin 4) (r : Fin 16384) (c : Fin 1024) :
    shapeCast S4x16384x1024 y shapeCasts_S65536x1024_S4x16384x1024 (ix3 k r c)
      = y (ix2 ⟨k.val * 16384 + r.val, by have := k.isLt; have := r.isLt; omega⟩ c) := by
  pointwise

/-- A row plus the sum over the four slots of a product, at an index. -/
theorem sum_apply (x : FVec Ideal S16384x1024 .f32) (G Y : FVec Ideal S4x16384x1024 .f32) (r : Fin 16384) (c : Fin 1024) :
    addf x (Host.reduceAdd (mulf G Y) (constant S_ .f32 0x00000000#32) reducesTo_S4x16384x1024_S16384x1024_d0 h_S_) (ix2 r c)
      = x (ix2 r c) + ∑ k, G (ix3 k r c) * Y (ix3 k r c) := by
  pointwise

theorem mix_apply (x : FVec Ideal S16384x1024 .f32) (gates : FVec Ideal S16384x128 .f32) (y : IVec S65792x512 32)
    (r : Fin 16384) (c : Fin 1024) :
    mix x gates y (ix2 r c)
      = mixed (fun c => x (ix2 r c)) (fun k => gates (ix2 r ⟨8 + k.val, by have := k.isLt; omega⟩))
          (fun k j => y (ix2 ⟨k.val * 16384 + r.val, by have := k.isLt; have := r.isLt; omega⟩ j)) c := by
  unfold mix mixed
  rw [sum_apply]
  simp only [slot_apply, rows_apply]
  refine congrArg (fun z : EReal => x (ix2 r c) + z) (Finset.sum_congr rfl fun k _ => ?_)
  exact congrArg (fun z : EReal => z * _) (gate_apply gates k r c)

/-- The RMS normalisation of every row of `v`, in the reference's operations. -/
def norm (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

theorem norm_apply (v : FVec Ideal S16384x1024 .f32) (g : FVec Ideal S1024 .f32) (r : Fin 16384) (c : Fin 1024) :
    norm v g (ix2 r c) = normed (fun c => v (ix2 r c)) (fun c => g (ix1 c)) c := by
  pointwise [norm]
  rfl

/-- The reference's result at row `r`, column `c`. -/
theorem result_apply (m : (ℓ : Loc nD τ sig) → Buf (Elt Ideal) ℓ) (d : Dev nD) (r : Fin 16384) (c : Fin 1024) :
    res_out0 m d (ix2 r c) = out (m ((d.tc : Thread nD τ).loc main_arg0)) (m ((d.tc : Thread nD τ).loc main_arg1))
      (m ((d.tc : Thread nD τ).loc main_arg2)) (m ((d.tc : Thread nD τ).loc main_arg3)) r c := by
  have e : res_out0 m d = norm (mix (m ((d.tc : Thread nD τ).loc main_arg0)) (m ((d.tc : Thread nD τ).loc main_arg1))
      (m ((d.tc : Thread nD τ).loc main_arg3))) (m ((d.tc : Thread nD τ).loc main_arg2)) := by
    unfold res_out0 res_main_v28 norm mix rows; rfl
  rw [e, norm_apply]
  simp only [mix_apply]
  rfl

end Cert.CombineReference

end
-- ==== Proof.lean ====
/-
  The claims of the statement. First `combine`: its two frames, its reference's frame, and the equation of the two results
  at the ideal instance (Combine/). Then the stick-breaking attention: the same, its equation at finite queries and
  keys (Sb/). Then the forgetting attention: the same, its equation at finite queries, keys and gates (Fox/).
  Then the output projection: the same, the equation of both its results (Out/).
  Then the input projection: the same, the equation of five of its results (Inp/).
-/
module

public import proofs.«01_k».proof.Defs
public import proofs.«01_k».proof.Proof.Gen.Kernel.Frame
public import proofs.«01_k».proof.Proof.Gen.Pre_finite
public import proofs.«01_k».proof.Proof.Gen.Kernel5.Frame
public import proofs.«01_k».proof.Proof.Inp.Value
public import proofs.«01_k».proof.Proof.Inp.Reference
public import proofs.«01_k».proof.Proof.Sb.Frame
public import proofs.«01_k».proof.Proof.Sb.Array
public import proofs.«01_k».proof.Proof.Sb.Reference
public import proofs.«01_k».proof.Proof.Sb.Finite
public import proofs.«01_k».proof.Proof.Gen.Pre_finite3
public import proofs.«01_k».proof.Proof.Fox.Frame
public import proofs.«01_k».proof.Proof.Fox.Array
public import proofs.«01_k».proof.Proof.Fox.Reference
public import proofs.«01_k».proof.Proof.Fox.Finite
public import proofs.«01_k».proof.Proof.Out.Frame
public import proofs.«01_k».proof.Proof.Out.Value
public import proofs.«01_k».proof.Proof.Out.Reference
public import proofs.«01_k».proof.Proof.Combine.Kernel
public import proofs.«01_k».proof.Proof.Combine.Reference
public import Idealize.ShloMosaic.Lib.Quiescent
public import Idealize.ShloMosaic.Lib.Bf16Pair
public import Idealize.ShloMosaic.Lib.Bf16PairInverse
public import Idealize.ShloMosaic.Adequacy
public import Idealize.ShloMosaic.Init

@[expose] public section

noncomputable section

open Idealize.ShloMosaic Idealize.ShloMosaic.TcCoe Idealize.SL.Sem

namespace Cert.Proof

/-- The reference of `combine` leaves its arguments as they were; it has no semaphore. -/
theorem frame_combine_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- `combine` and its reference leave the same array. -/
theorem algebraic_combine : Cert.algebraic_KernelIdeal_ReferenceIdeal := by
  intro m ρ m' ρ' _ hagree
  refine ⟨fun c => Cert.CombineKernel.result m c, ?_, ?_⟩
  · exact Cert.CombineKernel.run m ρ
  refine (θ_run Cert.ReferenceIdeal.defs _ _).mono (fun _ h c => ⟨(h c).1.trans ?_, (h c).2⟩)
    (Cert.ReferenceIdeal.Value.run (F := Ideal) m' ρ')
  funext i
  obtain ⟨r, l, rfl⟩ : ∃ (r : Fin 16384) (l : Fin 1024), i = ix2 r l := ⟨i 0, i 1, eq_ix2 i⟩
  refine (Cert.CombineReference.result_apply m' c r l).trans ?_
  obtain ⟨h0, h1, h2, h3⟩ := hagree c
  rw [h0, h1, h2, h3]
  rfl

/-- The attention leaves its arguments as they were, and every semaphore at zero. -/
theorem frame_sb : Cert.quiescent_Kernel2 (hKernel2 := Cert.Kernel2.Gen.facts) := fun m ρ _ =>
  (θ_run Cert.Kernel2.defs _ _).mono (fun _ h => h.1) (Cert.Kernel2.Sb.run (F := Bits) m ρ)

/-- The same at the ideal instance. -/
theorem frame_sb_ideal : Cert.quiescent_Kernel2Ideal (hKernel2Ideal := Cert.Kernel2Ideal.Gen.facts) := fun m ρ _ =>
  (θ_run Cert.Kernel2Ideal.defs _ _).mono (fun _ h => h.1) (Cert.Kernel2Ideal.Sb.run (F := Ideal) m ρ)

/-- The attention's reference leaves its arguments as they were; it has no semaphore. -/
theorem frame_sb_ref : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The threshold of the early exit, named: its word is 110, its ideal reading infinity. -/
theorem preserves_sb : Cert.preserves_Kernel2_Kernel2Ideal := IdealRules.named_const.statement _ _ _ _ _ rfl

/-- At finite queries and keys the attention and its reference leave the same array. -/
theorem algebraic_sb : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m ρ m' ρ' hpre hagree
  have hfin := fun c => Cert.Pre_finite.Sb.finite_of_fn _ _ _ (hpre c)
  refine ⟨fun c => Cert.SbSpec.result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), ?_, ?_⟩
  · exact (θ_run Cert.Kernel2Ideal.defs _ _).mono
      (fun _ h c => ⟨(h.2 c).trans (Cert.Kernel2Ideal.Sb.final m c (hfin c).1 (hfin c).2), h.1.1 c⟩)
      (Cert.Kernel2Ideal.Sb.run (F := Ideal) m ρ)
  refine (θ_run Cert.Reference2Ideal.defs _ _).mono (fun _ h c => ⟨(h c).1.trans ?_, (h c).2⟩)
    (Cert.Reference2Ideal.Value.run (F := Ideal) m' ρ')
  obtain ⟨h0, h1, h2⟩ := hagree c
  rw [Cert.Reference2Ideal.Sb.res_eq, h0, h1, h2]
  exact Cert.Reference2Ideal.Sb.res_value _ _ _ (hfin c).1 (hfin c).2

/-- The forgetting attention leaves its arguments as they were, and every semaphore at zero. -/
theorem frame_fox : Cert.quiescent_Kernel3 (hKernel3 := Cert.Kernel3.Gen.facts) := fun m ρ _ =>
  (θ_run Cert.Kernel3.defs _ _).mono (fun _ h => h.1) (Cert.Kernel3.Fox.run (F := Bits) m ρ)

/-- The same at the ideal instance. -/
theorem frame_fox_ideal : Cert.quiescent_Kernel3Ideal (hKernel3Ideal := Cert.Kernel3Ideal.Gen.facts) := fun m ρ _ =>
  (θ_run Cert.Kernel3Ideal.defs _ _).mono (fun _ h => h.1) (Cert.Kernel3Ideal.Fox.run (F := Ideal) m ρ)

/-- The forgetting attention's reference leaves its arguments as they were; it has no semaphore. -/
theorem frame_fox_ref : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The mask's number and the early exit's threshold, named: their words are -1e30 and -152, their ideal readings minus infinity. -/
theorem preserves_fox : Cert.preserves_Kernel3_Kernel3Ideal :=
  ⟨IdealRules.named_const.statement _ _ _ _ _ rfl, IdealRules.named_const.statement _ _ _ _ _ rfl⟩

/-- At finite queries, keys and gates the forgetting attention and its reference leave the same array. -/
theorem algebraic_fox : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hpre hagree
  have hfin := fun c => Cert.Pre_finite3.Fox.finite_of_fn _ _ _ _ (hpre c)
  refine ⟨fun c => Cert.FoxSpec.result (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3)), ?_, ?_⟩
  · refine (θ_run Cert.Kernel3Ideal.defs _ _).mono (fun _ h c => ?_) (Cert.Kernel3Ideal.Fox.run (F := Ideal) m ρ)
    obtain ⟨after, ho, ha⟩ := h.2 c
    exact ⟨ha.trans (Cert.Kernel3Ideal.Fox.final m c (hfin c).1 (hfin c).2.1 (hfin c).2.2 after ho), h.1.1 c⟩
  refine (θ_run Cert.Reference3Ideal.defs _ _).mono (fun _ h c => ⟨(h c).1.trans ?_, (h c).2⟩)
    (Cert.Reference3Ideal.Value.run (F := Ideal) m' ρ')
  obtain ⟨h0, h1, h2, h3⟩ := hagree c
  refine (Cert.Reference3Ideal.Fox.res_eq m' c).trans ?_
  rw [h0, h1, h2, h3]
  exact Cert.Reference3Ideal.Fox.res_value _ _ _ _ (hfin c).1 (hfin c).2.1 (hfin c).2.2

/-- The output projection leaves its arguments as they were, and every semaphore at zero. -/
theorem frame_out : Cert.quiescent_Kernel4 (hKernel4 := Cert.Kernel4.Gen.facts) := fun m ρ _ =>
  (θ_run Cert.Kernel4.defs _ _).mono (fun _ h => ⟨fun c => (h.1 c).2, h.2⟩) (Cert.Kernel4.Out.results (F := Bits) m ρ)

/-- The same at the ideal instance. -/
theorem frame_out_ideal : Cert.quiescent_Kernel4Ideal (hKernel4Ideal := Cert.Kernel4Ideal.Gen.facts) := fun m ρ _ =>
  (θ_run Cert.Kernel4Ideal.defs _ _).mono (fun _ h => ⟨fun c => (h.1 c).2, h.2⟩) (Cert.Kernel4Ideal.Out.results (F := Ideal) m ρ)

/-- The output projection's reference leaves its arguments as they were; it has no semaphore. -/
theorem frame_out_ref : Cert.quiescent_Reference4Ideal (hReference4Ideal := Cert.Reference4Ideal.Gen.facts) := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The words of two bf16 values, at the ideal instance an array of their pairs. -/
theorem preserves_out : Cert.preserves_Kernel4_Kernel4Ideal :=
  ⟨IdealRules.bf16_pair.bufferStatement _ _, IdealRules.bf16_pair.bufferStatement _ _, IdealRules.bf16_pair.packStatement _,
    IdealRules.bf16_pair.statement _ _, IdealRules.bf16_pair.statement _ _⟩

/-- The output projection and its reference leave the same two arrays. -/
theorem algebraic_out : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Out.resultX m c, fun c => Cert.Kernel4Ideal.Out.resultH m c, ?_, ?_⟩
  · exact (θ_run Cert.Kernel4Ideal.defs _ _).mono (fun _ h c => ⟨(h c).1.1, (h c).1.2, (h c).2⟩) (Cert.Kernel4Ideal.Out.run_values m ρ)
  refine (θ_run Cert.Reference4Ideal.defs _ _).mono (fun _ h c => ⟨(h c).1.trans ?_, (h c).2.1.trans ?_, (h c).2.2⟩)
    (Cert.Reference4Ideal.Value.run (F := Ideal) m' ρ')
  · refine (Cert.OutReference.result_x2 m' c).trans ?_
    obtain ⟨h0, h1, h2, h3, h4, h5, h6, h7, h8⟩ := hagree c
    rw [h0, h1, h2, h3, h4, h5]
    rfl
  · refine (Cert.OutReference.result_h2 m' c).trans ?_
    obtain ⟨h0, h1, h2, h3, h4, h5, h6, h7, h8⟩ := hagree c
    rw [h0, h1, h2, h3, h4, h5, h6]
    rfl

/-- The input projection's reference leaves its arguments as they were; it has no semaphore. -/
theorem frame_inp_ref : Cert.quiescent_Reference5Ideal (hReference5Ideal := Cert.Reference5Ideal.Gen.facts) := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

/-- The input projection and its reference leave the same five arrays. -/
theorem algebraic_inp : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.Inp.resultQA m c, fun c => Cert.Kernel5Ideal.Inp.resultVA m c, fun c => Cert.Kernel5Ideal.Inp.resultQB m c,
    fun c => Cert.Kernel5Ideal.Inp.resultKB m c, fun c => Cert.Kernel5Ideal.Inp.resultVB m c, ?_, ?_⟩
  · exact (θ_run Cert.Kernel5Ideal.defs _ _).mono (fun _ h c => ⟨(h c).1.1, (h c).1.2.1, (h c).1.2.2.1, (h c).1.2.2.2.1, (h c).1.2.2.2.2, (h c).2⟩)
      (Cert.Kernel5Ideal.Inp.run_values m ρ)
  refine (θ_run Cert.Reference5Ideal.defs _ _).mono (fun _ h c => ?_) (Cert.Reference5Ideal.Value.run (F := Ideal) m' ρ')
  obtain ⟨r0, r1, r2, r3, r4, kept⟩ := h c
  obtain ⟨e0, e1, e2, e3, e4⟩ := Cert.InpReference.results_eq (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2))
  obtain ⟨h0, h1, h2, h3⟩ := hagree c
  rw [h0, h1, h2] at e0 e1 e2 e3 e4
  rw [h0, h1, h2] at r0 r1 r2 r3 r4
  exact ⟨r0.trans e0, r1.trans e1, r2.trans e2, r3.trans e3, r4.trans e4, kept⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite3.Gen.facts,
  fun m ρ _ => Cert.Kernel.Gen.frame m ρ, fun m ρ _ => Cert.KernelIdeal.Gen.frame m ρ, frame_combine_ref,
  frame_sb, frame_sb_ideal, fun m ρ _ => frame_sb_ideal m ρ trivial, frame_sb_ref, fun m ρ _ => frame_sb_ref m ρ trivial,
  frame_fox, frame_fox_ideal, fun m ρ _ => frame_fox_ideal m ρ trivial, frame_fox_ref, fun m ρ _ => frame_fox_ref m ρ trivial,
  frame_out, frame_out_ideal, frame_out_ref,
  fun m ρ _ => Cert.Kernel5.Gen.frame m ρ, fun m ρ _ => Cert.Kernel5Ideal.Gen.frame m ρ, frame_inp_ref,
  trivial, algebraic_combine, preserves_sb, algebraic_sb, preserves_fox, algebraic_fox, preserves_out, algebraic_out, trivial, algebraic_inp⟩

end Cert.Proof

end
